-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v110) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v36_0)) (v1 : (c : Dev Cert.Kernel3Ideal.nD) → Buf (Elt Ideal) ((c.tc : Thread Cert.Kernel3Ideal.nD Cert.Kernel3Ideal.τ).loc Cert.Kernel3Ideal.main_v36_3)) (v2 : (c : Dev Cert.Kernel3Ideal.nD) → Buf (Elt Ideal) ((c.tc : Thread Cert.Kernel3Ideal.nD Cert.Kernel3Ideal.τ).loc Cert.Kernel3Ideal.main_v36_4)) (v3 : (c : Dev Cert.Kernel3Ideal.nD) → Buf (Elt Ideal) ((c.tc : Thread Cert.Kernel3Ideal.nD Cert.Kernel3Ideal.τ).loc Cert.Kernel3Ideal.main_v36_5)) (v4 : (c : Dev Cert.Kernel3Ideal.nD) → Buf (Elt Ideal) ((c.tc : Thread Cert.Kernel3Ideal.nD Cert.Kernel3Ideal.τ).loc Cert.Kernel3Ideal.main_v36_8)) (v5 : (c : Dev Cert.Kernel3Ideal.nD) → Buf (Elt Ideal) ((c.tc : Thread Cert.Kernel3Ideal.nD Cert.Kernel3Ideal.τ).loc Cert.Kernel3Ideal.main_v36_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v36_0) = v0 c
          ∧ r.2.mem ((c.tc : Thread Cert.Kernel3Ideal.nD Cert.Kernel3Ideal.τ).loc Cert.Kernel3Ideal.main_v36_3) = v1 c
          ∧ r.2.mem ((c.tc : Thread Cert.Kernel3Ideal.nD Cert.Kernel3Ideal.τ).loc Cert.Kernel3Ideal.main_v36_4) = v2 c
          ∧ r.2.mem ((c.tc : Thread Cert.Kernel3Ideal.nD Cert.Kernel3Ideal.τ).loc Cert.Kernel3Ideal.main_v36_5) = v3 c
          ∧ r.2.mem ((c.tc : Thread Cert.Kernel3Ideal.nD Cert.Kernel3Ideal.τ).loc Cert.Kernel3Ideal.main_v36_8) = v4 c
          ∧ r.2.mem ((c.tc : Thread Cert.Kernel3Ideal.nD Cert.Kernel3Ideal.τ).loc Cert.Kernel3Ideal.main_v36_9) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v101) = v0 c
          ∧ r.2.mem ((c.tc : Thread Cert.Reference3Ideal.nD Cert.Reference3Ideal.τ).loc Cert.Reference3Ideal.main_v103) = v1 c
          ∧ r.2.mem ((c.tc : Thread Cert.Reference3Ideal.nD Cert.Reference3Ideal.τ).loc Cert.Reference3Ideal.main_v106) = v2 c
          ∧ r.2.mem ((c.tc : Thread Cert.Reference3Ideal.nD Cert.Reference3Ideal.τ).loc Cert.Reference3Ideal.main_v109) = v3 c
          ∧ r.2.mem ((c.tc : Thread Cert.Reference3Ideal.nD Cert.Reference3Ideal.τ).loc Cert.Reference3Ideal.main_v111) = v4 c
          ∧ r.2.mem ((c.tc : Thread Cert.Reference3Ideal.nD Cert.Reference3Ideal.τ).loc Cert.Reference3Ideal.main_v113) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x2048x256 : Shape := ⟨3, ![8, 2048, 256]⟩
abbrev S1x1x256 : Shape := ⟨3, ![1, 1, 256]⟩
abbrev S_ : Shape := ⟨0, ![]⟩
abbrev S1x1x1 : Shape := ⟨3, ![1, 1, 1]⟩
abbrev S1x2048x256 : Shape := ⟨3, ![1, 2048, 256]⟩
abbrev S256x256 : Shape := ⟨2, ![256, 256]⟩
abbrev S2048x1 : Shape := ⟨2, ![2048, 1]⟩
abbrev S2048x128 : Shape := ⟨2, ![2048, 128]⟩
abbrev S1x256x128 : Shape := ⟨3, ![1, 256, 128]⟩
abbrev S256x128 : Shape := ⟨2, ![256, 128]⟩
abbrev S256x1 : Shape := ⟨2, ![256, 1]⟩
abbrev S1792x1 : Shape := ⟨2, ![1792, 1]⟩
abbrev S1792x128 : Shape := ⟨2, ![1792, 128]⟩
abbrev S1x512x128 : Shape := ⟨3, ![1, 512, 128]⟩
abbrev S512x128 : Shape := ⟨2, ![512, 128]⟩
abbrev S512x256 : Shape := ⟨2, ![512, 256]⟩
abbrev S512x1 : Shape := ⟨2, ![512, 1]⟩
abbrev S1536x1 : Shape := ⟨2, ![1536, 1]⟩
abbrev S1536x128 : Shape := ⟨2, ![1536, 128]⟩
abbrev S1x768x128 : Shape := ⟨3, ![1, 768, 128]⟩
abbrev S768x128 : Shape := ⟨2, ![768, 128]⟩
abbrev S768x256 : Shape := ⟨2, ![768, 256]⟩
abbrev S768x1 : Shape := ⟨2, ![768, 1]⟩
abbrev S1280x1 : Shape := ⟨2, ![1280, 1]⟩
abbrev S1280x128 : Shape := ⟨2, ![1280, 128]⟩
abbrev S1x1024x128 : Shape := ⟨3, ![1, 1024, 128]⟩
abbrev S1024x128 : Shape := ⟨2, ![1024, 128]⟩
abbrev S1024x256 : Shape := ⟨2, ![1024, 256]⟩
abbrev S1024x1 : Shape := ⟨2, ![1024, 1]⟩
abbrev S1x1280x128 : Shape := ⟨3, ![1, 1280, 128]⟩
abbrev S1280x256 : Shape := ⟨2, ![1280, 256]⟩
abbrev S1x1536x128 : Shape := ⟨3, ![1, 1536, 128]⟩
abbrev S1536x256 : Shape := ⟨2, ![1536, 256]⟩
abbrev S1x1792x128 : Shape := ⟨3, ![1, 1792, 128]⟩
abbrev S1792x256 : Shape := ⟨2, ![1792, 256]⟩
abbrev S1x2048x128 : Shape := ⟨3, ![1, 2048, 128]⟩
abbrev S2048x256 : Shape := ⟨2, ![2048, 256]⟩

abbrev nBuf : Space → Nat
  | .hbm => 63
  | .vmem => 12
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x256, .f32⟩
  | .hbm, ⟨3, _⟩ => ⟨S1x1x256, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S1x1x256, .i32⟩
  | .hbm, ⟨11, _⟩ => ⟨S1x1x256, .i32⟩
  | .hbm, ⟨12, _⟩ => ⟨S_, .i32⟩
  | .hbm, ⟨13, _⟩ => ⟨S1x1x256, .i32⟩
  | .hbm, ⟨14, _⟩ => ⟨S1x1x256, .i1⟩
  | .hbm, ⟨15, _⟩ => ⟨S_, .i32⟩
  | .hbm, ⟨16, _⟩ => ⟨S1x1x256, .i32⟩
  | .hbm, ⟨17, _⟩ => ⟨S1x1x256, .i1⟩
  | .hbm, ⟨18, _⟩ => ⟨S_, .i32⟩
  | .hbm, ⟨19, _⟩ => ⟨S_, .i1⟩
  | .hbm, ⟨20, _⟩ => ⟨S1x1x256, .i1⟩
  | .hbm, ⟨21, _⟩ => ⟨S1x1x256, .i1⟩
  | .hbm, ⟨22, _⟩ => ⟨S1x1x256, .i1⟩
  | .hbm, ⟨23, _⟩ => ⟨S1x1x256, .i32⟩
  | .hbm, ⟨24, _⟩ => ⟨S1x1x256, .i32⟩
  | .hbm, ⟨25, _⟩ => ⟨S1x1x256, .i32⟩
  | .hbm, ⟨26, _⟩ => ⟨S_, .i32⟩
  | .hbm, ⟨27, _⟩ => ⟨S1x1x256, .i32⟩
  | .hbm, ⟨28, _⟩ => ⟨S1x1x256, .i1⟩
  | .hbm, ⟨29, _⟩ => ⟨S_, .f32⟩
  | .hbm, ⟨30, _⟩ => ⟨S1x1x1, .f32⟩
  | .hbm, ⟨31, _⟩ => ⟨S1x1x1, .f32⟩
  | .hbm, ⟨32, _⟩ => ⟨S_, .f32⟩
  | .hbm, ⟨33, _⟩ => ⟨S1x1x1, .f32⟩
  | .hbm, ⟨34, _⟩ => ⟨S1x1x1, .f32⟩
  | .hbm, ⟨35, _⟩ => ⟨S8x2048x256, .f32⟩
  | .hbm, ⟨36, _⟩ => ⟨S8x2048x256, .f32⟩
  | .hbm, ⟨37, _⟩ => ⟨S_, .f32⟩
  | .hbm, ⟨38, _⟩ => ⟨S_, .f32⟩
  | .hbm, ⟨39, _⟩ => ⟨S8x2048x256, .i1⟩
  | .hbm, ⟨40, _⟩ => ⟨S8x2048x256, .f32⟩
  | .hbm, ⟨41, _⟩ => ⟨S8x2048x256, .f32⟩
  | .hbm, ⟨42, _⟩ => ⟨S8x2048x256, .bf16⟩
  | .hbm, ⟨43, _⟩ => ⟨S_, .f32⟩
  | .hbm, ⟨44, _⟩ => ⟨S_, .f32⟩
  | .hbm, ⟨45, _⟩ => ⟨S8x2048x256, .i1⟩
  | .hbm, ⟨46, _⟩ => ⟨S8x2048x256, .f32⟩
  | .hbm, ⟨47, _⟩ => ⟨S8x2048x256, .f32⟩
  | .hbm, ⟨48, _⟩ => ⟨S8x2048x256, .bf16⟩
  | .hbm, ⟨49, _⟩ => ⟨S_, .f32⟩
  | .hbm, ⟨50, _⟩ => ⟨S_, .f32⟩
  | .hbm, ⟨51, _⟩ => ⟨S8x2048x256, .i1⟩
  | .hbm, ⟨52, _⟩ => ⟨S8x2048x256, .f32⟩
  | .hbm, ⟨53, _⟩ => ⟨S8x2048x256, .f32⟩
  | .hbm, ⟨54, _⟩ => ⟨S8x2048x256, .bf16⟩
  | .hbm, ⟨55, _⟩ => ⟨S_, .f32⟩
  | .hbm, ⟨56, _⟩ => ⟨S_, .f32⟩
  | .hbm, ⟨57, _⟩ => ⟨S8x2048x256, .i1⟩
  | .hbm, ⟨58, _⟩ => ⟨S8x2048x256, .f32⟩
  | .hbm, ⟨59, _⟩ => ⟨S8x2048x256, .f32⟩
  | .hbm, ⟨60, _⟩ => ⟨S8x2048x256, .bf16⟩
  | .hbm, ⟨61, _⟩ => ⟨S8x2048x256, .bf16⟩
  | .hbm, ⟨62, _⟩ => ⟨S8x2048x256, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x2048x256, .bf16⟩
  | .local _ .vmem, ⟨11, _⟩ => ⟨S1x2048x256, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_cst_1 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v10 : Ref sig .tc := ⟨.hbm, 41, rfl⟩
abbrev main_v11 : Ref sig .tc := ⟨.hbm, 42, rfl⟩
abbrev main_cst_3 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v12 : Ref sig .tc := ⟨.hbm, 47, rfl⟩
abbrev main_v13 : Ref sig .tc := ⟨.hbm, 48, rfl⟩
abbrev main_cst_4 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_v14 : Ref sig .tc := ⟨.hbm, 53, rfl⟩
abbrev main_v15 : Ref sig .tc := ⟨.hbm, 54, rfl⟩
abbrev main_cst_5 : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let arg1 : BitVec 32 := BitVec.ofNat 32 (i 1).val
  let c8_i32 : BitVec 32 := 8#32
  let v13 : BitVec 32 := Scalar.muli arg1 c8_i32
  let c7_i32 : BitVec 32 := 7#32
  let v14 : BitVec 32 := Scalar.addi v13 c7_i32
  let c256_i32 : BitVec 32 := 256#32
  let v15 : BitVec 32 := Scalar.muli v14 c256_i32
  v15
def k0_off1 (i : grid0.Coords) (c7_i32 : BitVec 32) : Fin 3 → Nat :=
  let c0_8 : Index := 0#32
  let arg1 : BitVec 32 := BitVec.ofNat 32 (i 1).val
  let c8_i32 : BitVec 32 := 8#32
  let v13 : BitVec 32 := Scalar.muli arg1 c8_i32
  let v14 : BitVec 32 := Scalar.addi v13 c7_i32
  let c256_i32 : BitVec 32 := 256#32
  let v15 : BitVec 32 := Scalar.muli v14 c256_i32
  let v16 : BitVec 32 := v15
  let v19 : Index := Scalar.indexCast v16
  let c0_9 : Index := 0#32
  ![0, v19.toNat, 0]
def k0_off2 (i : grid0.Coords) (c7_i32 : BitVec 32) : Fin 3 → Nat :=
  let c0_41 : Index := 0#32
  let arg1 : BitVec 32 := BitVec.ofNat 32 (i 1).val
  let c8_i32 : BitVec 32 := 8#32
  let v13 : BitVec 32 := Scalar.muli arg1 c8_i32
  let v14 : BitVec 32 := Scalar.addi v13 c7_i32
  let c256_i32 : BitVec 32 := 256#32
  let v15 : BitVec 32 := Scalar.muli v14 c256_i32
  let v16 : BitVec 32 := v15
  let v124 : Index := Scalar.indexCast v16
  let c128_42 : Index := 128#32
  ![0, v124.toNat, 128]
def k0_mult2 (i : grid0.Coords) : BitVec 32 :=
  let arg1 : BitVec 32 := BitVec.ofNat 32 (i 1).val
  let c8_i32_72 : BitVec 32 := 8#32
  let v227 : BitVec 32 := Scalar.muli arg1 c8_i32_72
  let c6_i32 : BitVec 32 := 6#32
  let v228 : BitVec 32 := Scalar.addi v227 c6_i32
  let c256_i32_73 : BitVec 32 := 256#32
  let v229 : BitVec 32 := Scalar.muli v228 c256_i32_73
  v229
def k0_mult3 (i : grid0.Coords) : BitVec 32 :=
  let arg1 : BitVec 32 := BitVec.ofNat 32 (i 1).val
  let c8_i32_141 : BitVec 32 := 8#32
  let v441 : BitVec 32 := Scalar.muli arg1 c8_i32_141
  let c5_i32 : BitVec 32 := 5#32
  let v442 : BitVec 32 := Scalar.addi v441 c5_i32
  let c256_i32_142 : BitVec 32 := 256#32
  let v443 : BitVec 32 := Scalar.muli v442 c256_i32_142
  v443
def k0_mult4 (i : grid0.Coords) : BitVec 32 :=
  let arg1 : BitVec 32 := BitVec.ofNat 32 (i 1).val
  let c8_i32_210 : BitVec 32 := 8#32
  let v655 : BitVec 32 := Scalar.muli arg1 c8_i32_210
  let c4_i32 : BitVec 32 := 4#32
  let v656 : BitVec 32 := Scalar.addi v655 c4_i32
  let c256_i32_211 : BitVec 32 := 256#32
  let v657 : BitVec 32 := Scalar.muli v656 c256_i32_211
  v657
def k0_mult5 (i : grid0.Coords) : BitVec 32 :=
  let arg1 : BitVec 32 := BitVec.ofNat 32 (i 1).val
  let c8_i32_279 : BitVec 32 := 8#32
  let v869 : BitVec 32 := Scalar.muli arg1 c8_i32_279
  let c3_i32 : BitVec 32 := 3#32
  let v870 : BitVec 32 := Scalar.addi v869 c3_i32
  let c256_i32_280 : BitVec 32 := 256#32
  let v871 : BitVec 32 := Scalar.muli v870 c256_i32_280
  v871
def k0_mult6 (i : grid0.Coords) : BitVec 32 :=
  let arg1 : BitVec 32 := BitVec.ofNat 32 (i 1).val
  let c8_i32_348 : BitVec 32 := 8#32
  let v1083 : BitVec 32 := Scalar.muli arg1 c8_i32_348
  let c2_i32 : BitVec 32 := 2#32
  let v1084 : BitVec 32 := Scalar.addi v1083 c2_i32
  let c256_i32_349 : BitVec 32 := 256#32
  let v1085 : BitVec 32 := Scalar.muli v1084 c256_i32_349
  v1085
def k0_mult7 (i : grid0.Coords) : BitVec 32 :=
  let arg1 : BitVec 32 := BitVec.ofNat 32 (i 1).val
  let c8_i32_417 : BitVec 32 := 8#32
  let v1297 : BitVec 32 := Scalar.muli arg1 c8_i32_417
  let c1_i32 : BitVec 32 := 1#32
  let v1298 : BitVec 32 := Scalar.addi v1297 c1_i32
  let c256_i32_418 : BitVec 32 := 256#32
  let v1299 : BitVec 32 := Scalar.muli v1298 c256_i32_418
  v1299
def k0_mult8 (i : grid0.Coords) : BitVec 32 :=
  let arg1 : BitVec 32 := BitVec.ofNat 32 (i 1).val
  let c8_i32_486 : BitVec 32 := 8#32
  let v1511 : BitVec 32 := Scalar.muli arg1 c8_i32_486
  let c0_i32 : BitVec 32 := 0#32
  let v1512 : BitVec 32 := Scalar.addi v1511 c0_i32
  let c256_i32_487 : BitVec 32 := 256#32
  let v1513 : BitVec 32 := Scalar.muli v1512 c256_i32_487
  v1513
@[reducible] def k0_t1_loop (i : grid0.Coords) : Scf.Loop 32 :=
  let c0_i32_557 : BitVec 32 := 0#32
  let arg1 : BitVec 32 := BitVec.ofNat 32 (i 1).val
  let c8_i32_556 : BitVec 32 := 8#32
  let v1703 : BitVec 32 := Scalar.muli arg1 c8_i32_556
  let v1704 : BitVec 32 := Scalar.subi v1703 c0_i32_557
  let c1_i32_558 : BitVec 32 := 1#32
  let v1706 : BitVec 32 := Scalar.divsi v1704 c1_i32_558
  let v1707 : BitVec 32 := Scalar.muli v1706 c1_i32_558
  let v1708 : BitVec 32 := Scalar.addi c0_i32_557 v1707
  let c1_i32_559 : BitVec 32 := 1#32
  ⟨c0_i32_557, v1708, c1_i32_559⟩
def k0_mult9 (i : grid0.Coords) (k0_t1 : Fin (k0_t1_loop i).trips) : BitVec 32 :=
  let arg1 : BitVec 32 := BitVec.ofNat 32 (i 1).val
  let c8_i32_567 : BitVec 32 := 8#32
  let v1719 : BitVec 32 := Scalar.muli arg1 c8_i32_567
  let c1_i32_568 : BitVec 32 := 1#32
  let v1720 : BitVec 32 := Scalar.subi v1719 c1_i32_568
  let c0_i32_557 : BitVec 32 := 0#32
  let c1_i32_559 : BitVec 32 := 1#32
  let arg8 : BitVec 32 := Scf.iv c0_i32_557 c1_i32_559 k0_t1
  let v1721 : BitVec 32 := Scalar.subi v1720 arg8
  let c256_i32_569 : BitVec 32 := 256#32
  let v1722 : BitVec 32 := Scalar.muli v1721 c256_i32_569
  v1722
def k0_off3 (i : grid0.Coords) (k0_t1 : Fin (k0_t1_loop i).trips) : Fin 3 → Nat :=
  let c0_573 : Index := 0#32
  let arg1 : BitVec 32 := BitVec.ofNat 32 (i 1).val
  let c8_i32_567 : BitVec 32 := 8#32
  let v1719 : BitVec 32 := Scalar.muli arg1 c8_i32_567
  let c1_i32_568 : BitVec 32 := 1#32
  let v1720 : BitVec 32 := Scalar.subi v1719 c1_i32_568
  let c0_i32_557 : BitVec 32 := 0#32
  let c1_i32_559 : BitVec 32 := 1#32
  let arg8 : BitVec 32 := Scf.iv c0_i32_557 c1_i32_559 k0_t1
  let v1721 : BitVec 32 := Scalar.subi v1720 arg8
  let c256_i32_569 : BitVec 32 := 256#32
  let v1722 : BitVec 32 := Scalar.muli v1721 c256_i32_569
  let v1723 : BitVec 32 := v1722
  let v1726 : Index := Scalar.indexCast v1723
  let c0_574 : Index := 0#32
  ![0, v1726.toNat, 0]
def k0_off4 (i : grid0.Coords) (k0_t1 : Fin (k0_t1_loop i).trips) : Fin 3 → Nat :=
  let c0_603 : Index := 0#32
  let arg1 : BitVec 32 := BitVec.ofNat 32 (i 1).val
  let c8_i32_567 : BitVec 32 := 8#32
  let v1719 : BitVec 32 := Scalar.muli arg1 c8_i32_567
  let c1_i32_568 : BitVec 32 := 1#32
  let v1720 : BitVec 32 := Scalar.subi v1719 c1_i32_568
  let c0_i32_557 : BitVec 32 := 0#32
  let c1_i32_559 : BitVec 32 := 1#32
  let arg8 : BitVec 32 := Scf.iv c0_i32_557 c1_i32_559 k0_t1
  let v1721 : BitVec 32 := Scalar.subi v1720 arg8
  let c256_i32_569 : BitVec 32 := 256#32
  let v1722 : BitVec 32 := Scalar.muli v1721 c256_i32_569
  let v1723 : BitVec 32 := v1722
  let v1806 : Index := Scalar.indexCast v1723
  let c128_604 : Index := 128#32
  ![0, v1806.toNat, 128]
@[reducible] def k0_t2_loop (i : grid0.Coords) : Scf.Loop 32 :=
  let c0_i32_557 : BitVec 32 := 0#32
  let arg1 : BitVec 32 := BitVec.ofNat 32 (i 1).val
  let c8_i32_556 : BitVec 32 := 8#32
  let v1703 : BitVec 32 := Scalar.muli arg1 c8_i32_556
  let v1704 : BitVec 32 := Scalar.subi v1703 c0_i32_557
  let c1_i32_558 : BitVec 32 := 1#32
  let v1706 : BitVec 32 := Scalar.divsi v1704 c1_i32_558
  let v1707 : BitVec 32 := Scalar.muli v1706 c1_i32_558
  let v1708 : BitVec 32 := Scalar.addi c0_i32_557 v1707
  let v1705 : BitVec 32 := Scalar.addi c0_i32_557 v1704
  let c1_i32_560 : BitVec 32 := 1#32
  ⟨v1708, v1705, c1_i32_560⟩
def k0_mult10 (i : grid0.Coords) (k0_t2 : Fin (k0_t2_loop i).trips) : BitVec 32 :=
  let arg1 : BitVec 32 := BitVec.ofNat 32 (i 1).val
  let c8_i32_567 : BitVec 32 := 8#32
  let v1719 : BitVec 32 := Scalar.muli arg1 c8_i32_567
  let c1_i32_568 : BitVec 32 := 1#32
  let v1720 : BitVec 32 := Scalar.subi v1719 c1_i32_568
  let c0_i32_557 : BitVec 32 := 0#32
  let c8_i32_556 : BitVec 32 := 8#32
  let v1703 : BitVec 32 := Scalar.muli arg1 c8_i32_556
  let v1704 : BitVec 32 := Scalar.subi v1703 c0_i32_557
  let c1_i32_558 : BitVec 32 := 1#32
  let v1706 : BitVec 32 := Scalar.divsi v1704 c1_i32_558
  let v1707 : BitVec 32 := Scalar.muli v1706 c1_i32_558
  let v1708 : BitVec 32 := Scalar.addi c0_i32_557 v1707
  let c1_i32_560 : BitVec 32 := 1#32
  let arg8 : BitVec 32 := Scf.iv v1708 c1_i32_560 k0_t2
  let v1721 : BitVec 32 := Scalar.subi v1720 arg8
  let c256_i32_569 : BitVec 32 := 256#32
  let v1722 : BitVec 32 := Scalar.muli v1721 c256_i32_569
  v1722
def k0_off5 (i : grid0.Coords) (k0_t2 : Fin (k0_t2_loop i).trips) : Fin 3 → Nat :=
  let c0_573 : Index := 0#32
  let arg1 : BitVec 32 := BitVec.ofNat 32 (i 1).val
  let c8_i32_567 : BitVec 32 := 8#32
  let v1719 : BitVec 32 := Scalar.muli arg1 c8_i32_567
  let c1_i32_568 : BitVec 32 := 1#32
  let v1720 : BitVec 32 := Scalar.subi v1719 c1_i32_568
  let c0_i32_557 : BitVec 32 := 0#32
  let c8_i32_556 : BitVec 32 := 8#32
  let v1703 : BitVec 32 := Scalar.muli arg1 c8_i32_556
  let v1704 : BitVec 32 := Scalar.subi v1703 c0_i32_557
  let c1_i32_558 : BitVec 32 := 1#32
  let v1706 : BitVec 32 := Scalar.divsi v1704 c1_i32_558
  let v1707 : BitVec 32 := Scalar.muli v1706 c1_i32_558
  let v1708 : BitVec 32 := Scalar.addi c0_i32_557 v1707
  let c1_i32_560 : BitVec 32 := 1#32
  let arg8 : BitVec 32 := Scf.iv v1708 c1_i32_560 k0_t2
  let v1721 : BitVec 32 := Scalar.subi v1720 arg8
  let c256_i32_569 : BitVec 32 := 256#32
  let v1722 : BitVec 32 := Scalar.muli v1721 c256_i32_569
  let v1723 : BitVec 32 := v1722
  let v1726 : Index := Scalar.indexCast v1723
  let c0_574 : Index := 0#32
  ![0, v1726.toNat, 0]
def k0_off6 (i : grid0.Coords) (k0_t2 : Fin (k0_t2_loop i).trips) : Fin 3 → Nat :=
  let c0_603 : Index := 0#32
  let arg1 : BitVec 32 := BitVec.ofNat 32 (i 1).val
  let c8_i32_567 : BitVec 32 := 8#32
  let v1719 : BitVec 32 := Scalar.muli arg1 c8_i32_567
  let c1_i32_568 : BitVec 32 := 1#32
  let v1720 : BitVec 32 := Scalar.subi v1719 c1_i32_568
  let c0_i32_557 : BitVec 32 := 0#32
  let c8_i32_556 : BitVec 32 := 8#32
  let v1703 : BitVec 32 := Scalar.muli arg1 c8_i32_556
  let v1704 : BitVec 32 := Scalar.subi v1703 c0_i32_557
  let c1_i32_558 : BitVec 32 := 1#32
  let v1706 : BitVec 32 := Scalar.divsi v1704 c1_i32_558
  let v1707 : BitVec 32 := Scalar.muli v1706 c1_i32_558
  let v1708 : BitVec 32 := Scalar.addi c0_i32_557 v1707
  let c1_i32_560 : BitVec 32 := 1#32
  let arg8 : BitVec 32 := Scf.iv v1708 c1_i32_560 k0_t2
  let v1721 : BitVec 32 := Scalar.subi v1720 arg8
  let c256_i32_569 : BitVec 32 := 256#32
  let v1722 : BitVec 32 := Scalar.muli v1721 c256_i32_569
  let v1723 : BitVec 32 := v1722
  let v1806 : Index := Scalar.indexCast v1723
  let c128_604 : Index := 128#32
  ![0, v1806.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S8x2048x256 : Shape := ⟨3, ![8, 2048, 256]⟩
abbrev S8x2048x4x64 : Shape := ⟨4, ![8, 2048, 4, 64]⟩
abbrev S8x4x2048x2048 : Shape := ⟨4, ![8, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x64x2048 : Shape := ⟨4, ![8, 4, 64, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x256, .f32⟩
  | .hbm, ⟨3, _⟩ => ⟨S8x2048x4x64, .f32⟩
  | .hbm, ⟨4, _⟩ => ⟨S8x2048x4x64, .f32⟩
  | .hbm, ⟨5, _⟩ => ⟨S8x2048x4x64, .f32⟩
  | .hbm, ⟨6, _⟩ => ⟨S8x4x2048x2048, .f32⟩
  | .hbm, ⟨7, _⟩ => ⟨S_, .f32⟩
  | .hbm, ⟨8, _⟩ => ⟨S8x4x2048x2048, .f32⟩
  | .hbm, ⟨9, _⟩ => ⟨S8x4x2048x2048, .f32⟩
  | .hbm, ⟨10, _⟩ => ⟨S2048, .i32⟩
  | .hbm, ⟨11, _⟩ => ⟨S1x2048, .i32⟩
  | .hbm, ⟨12, _⟩ => ⟨S2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S8x4x2048x2048, .f32⟩
  | .hbm, ⟨19, _⟩ => ⟨S8x4x2048x2048, .f32⟩
  | .hbm, ⟨20, _⟩ => ⟨S8x4x2048x2048, .f32⟩
  | .hbm, ⟨21, _⟩ => ⟨S8x4x2048x2048, .f32⟩
  | .hbm, ⟨22, _⟩ => ⟨S8x4x2048x2048, .i1⟩
  | .hbm, ⟨23, _⟩ => ⟨S8x4x2048x2048, .f32⟩
  | .hbm, ⟨24, _⟩ => ⟨S8x4x2048x2048, .f32⟩
  | .hbm, ⟨25, _⟩ => ⟨S8x4x2048x2048, .f32⟩
  | .hbm, ⟨26, _⟩ => ⟨S8x4x2048x2048, .f32⟩
  | .hbm, ⟨27, _⟩ => ⟨S8x4x2048x2048, .f32⟩
  | .hbm, ⟨28, _⟩ => ⟨S8x4x2048x2048, .f32⟩
  | .hbm, ⟨29, _⟩ => ⟨S8x4x2048x2048, .f32⟩
  | .hbm, ⟨30, _⟩ => ⟨S8x4x2048x2048, .f32⟩
  | .hbm, ⟨31, _⟩ => ⟨S8x4x2048x2048, .f32⟩
  | .hbm, ⟨32, _⟩ => ⟨S_, .f32⟩
  | .hbm, ⟨33, _⟩ => ⟨S_, .f32⟩
  | .hbm, ⟨34, _⟩ => ⟨S8x4x2048x2048, .i1⟩
  | .hbm, ⟨35, _⟩ => ⟨S8x4x2048x2048, .f32⟩
  | .hbm, ⟨36, _⟩ => ⟨S8x4x2048x2048, .f32⟩
  | .hbm, ⟨37, _⟩ => ⟨S_, .f32⟩
  | .hbm, ⟨38, _⟩ => ⟨S_, .f32⟩
  | .hbm, ⟨39, _⟩ => ⟨S8x4x2048x2048, .f32⟩
  | .hbm, ⟨40, _⟩ => ⟨S8x4x2048x2048, .f32⟩
  | .hbm, ⟨41, _⟩ => ⟨S8x4x2048x2048, .f32⟩
  | .hbm, ⟨42, _⟩ => ⟨S_, .f32⟩
  | .hbm, ⟨43, _⟩ => ⟨S8x4x2048x2048, .f32⟩
  | .hbm, ⟨44, _⟩ => ⟨S8x4x2048x2048, .f32⟩
  | .hbm, ⟨45, _⟩ => ⟨S8x4x2048x2048, .f32⟩
  | .hbm, ⟨46, _⟩ => ⟨S8x4x2048x2048, .f32⟩
  | .hbm, ⟨47, _⟩ => ⟨S8x4x2048x2048, .i1⟩
  | .hbm, ⟨48, _⟩ => ⟨S8x4x2048x2048, .f32⟩
  | .hbm, ⟨49, _⟩ => ⟨S8x4x2048x2048, .f32⟩
  | .hbm, ⟨50, _⟩ => ⟨S8x4x2048x2048, .f32⟩
  | .hbm, ⟨51, _⟩ => ⟨S8x4x2048x2048, .f32⟩
  | .hbm, ⟨52, _⟩ => ⟨S8x4x2048x2048, .f32⟩
  | .hbm, ⟨53, _⟩ => ⟨S8x4x2048x2048, .f32⟩
  | .hbm, ⟨54, _⟩ => ⟨S8x4x2048x2048, .f32⟩
  | .hbm, ⟨55, _⟩ => ⟨S8x4x2048x2048, .f32⟩
  | .hbm, ⟨56, _⟩ => ⟨S8x4x2048x2048, .f32⟩
  | .hbm, ⟨57, _⟩ => ⟨S8x4x2048x2048, .f32⟩
  | .hbm, ⟨58, _⟩ => ⟨S8x4x2048x2048, .f32⟩
  | .hbm, ⟨59, _⟩ => ⟨S_, .f32⟩
  | .hbm, ⟨60, _⟩ => ⟨S_, .f32⟩
  | .hbm, ⟨61, _⟩ => ⟨S8x4x2048x2048, .i1⟩
  | .hbm, ⟨62, _⟩ => ⟨S8x4x2048x2048, .f32⟩
  | .hbm, ⟨63, _⟩ => ⟨S8x4x2048x2048, .f32⟩
  | .hbm, ⟨64, _⟩ => ⟨S8x4x64x2048, .f32⟩
  | .hbm, ⟨65, _⟩ => ⟨S8x2048x4x64, .f32⟩
  | .hbm, ⟨66, _⟩ => ⟨S8x2048x256, .f32⟩
  | .hbm, ⟨67, _⟩ => ⟨S8x2048x256, .bf16⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_call2_cst : Ref sig .tc := ⟨.hbm, 37, rfl⟩
abbrev main_call2_v0 : Ref sig .tc := ⟨.hbm, 38, rfl⟩
abbrev main_v16 : Ref sig .tc := ⟨.hbm, 39, rfl⟩
abbrev main_v17 : Ref sig .tc := ⟨.hbm, 40, rfl⟩
abbrev main_call3_v0 : Ref sig .tc := ⟨.hbm, 41, rfl⟩
abbrev main_call3_call0_cst : Ref sig .tc := ⟨.hbm, 42, rfl⟩
abbrev main_call3_call0_v0 : Ref sig .tc := ⟨.hbm, 43, rfl⟩
abbrev main_call3_call0_v1 : Ref sig .tc := ⟨.hbm, 44, rfl⟩
abbrev main_call3_call0_v2 : Ref sig .tc := ⟨.hbm, 45, rfl⟩
abbrev main_call3_call0_v3 : Ref sig .tc := ⟨.hbm, 46, rfl⟩
abbrev main_call3_call0_v4 : Ref sig .tc := ⟨.hbm, 47, rfl⟩
abbrev main_call3_call0_v5 : Ref sig .tc := ⟨.hbm, 48, rfl⟩
abbrev main_call3_call0_v6 : Ref sig .tc := ⟨.hbm, 49, rfl⟩
abbrev main_call3_call0_v7 : Ref sig .tc := ⟨.hbm, 50, rfl⟩
abbrev main_call3_call0_v8 : Ref sig .tc := ⟨.hbm, 51, rfl⟩
abbrev main_call3_call0_v9 : Ref sig .tc := ⟨.hbm, 52, rfl⟩
abbrev main_call3_call0_v10 : Ref sig .tc := ⟨.hbm, 53, rfl⟩
abbrev main_call3_call0_v11 : Ref sig .tc := ⟨.hbm, 54, rfl⟩
abbrev main_call3_v1 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_1 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x256 : Shape := ⟨3, ![8, 2048, 256]⟩
abbrev S8x2048x512 : Shape := ⟨3, ![8, 2048, 512]⟩
abbrev S2x8x2048x256 : Shape := ⟨4, ![2, 8, 2048, 256]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S2x1x1024 : Shape := ⟨3, ![2, 1, 1024]⟩
abbrev S2x16384x256 : Shape := ⟨3, ![2, 16384, 256]⟩
abbrev S16384x1024 : Shape := ⟨2, ![16384, 1024]⟩
abbrev S16384x256 : Shape := ⟨2, ![16384, 256]⟩
abbrev S16384x512 : Shape := ⟨2, ![16384, 512]⟩
abbrev S512x1024 : Shape := ⟨2, ![512, 1024]⟩
abbrev S512x256 : Shape := ⟨2, ![512, 256]⟩
abbrev S512x512 : Shape := ⟨2, ![512, 512]⟩
abbrev S1x512x256 : Shape := ⟨3, ![1, 512, 256]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S256x1024 : Shape := ⟨2, ![256, 1024]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1024x1024 : Shape := ⟨2, ![1024, 1024]⟩

abbrev nBuf : Space → Nat
  | .hbm => 36
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S8x2048x512, .f32⟩
  | .hbm, ⟨3, _⟩ => ⟨S8x2048x256, .f32⟩
  | .hbm, ⟨4, _⟩ => ⟨S2x8x2048x256, .f32⟩
  | .hbm, ⟨5, _⟩ => ⟨S2x1024x1024, .f32⟩
  | .hbm, ⟨6, _⟩ => ⟨S2x1024, .f32⟩
  | .hbm, ⟨7, _⟩ => ⟨S2x1024, .f32⟩
  | .hbm, ⟨8, _⟩ => ⟨S2x1024x2816, .f32⟩
  | .hbm, ⟨9, _⟩ => ⟨S2x1024x2816, .f32⟩
  | .hbm, ⟨10, _⟩ => ⟨S2x2816x1024, .f32⟩
  | .hbm, ⟨11, _⟩ => ⟨S2x1024, .f32⟩
  | .hbm, ⟨12, _⟩ => ⟨S2x1024, .f32⟩
  | .hbm, ⟨13, _⟩ => ⟨S2x1024x1024, .f32⟩
  | .hbm, ⟨14, _⟩ => ⟨S2x256x1024, .f32⟩
  | .hbm, ⟨15, _⟩ => ⟨S2x1024, .f32⟩
  | .hbm, ⟨16, _⟩ => ⟨S2x1x1024, .f32⟩
  | .hbm, ⟨17, _⟩ => ⟨S2x1024x2816, .bf16⟩
  | .hbm, ⟨18, _⟩ => ⟨S2x1024x2816, .bf16⟩
  | .hbm, ⟨19, _⟩ => ⟨S2x2816x1024, .bf16⟩
  | .hbm, ⟨20, _⟩ => ⟨S2x1x1024, .f32⟩
  | .hbm, ⟨21, _⟩ => ⟨S2x1024x1024, .bf16⟩
  | .hbm, ⟨22, _⟩ => ⟨S2x1024x1024, .bf16⟩
  | .hbm, ⟨23, _⟩ => ⟨S2x256x1024, .bf16⟩
  | .hbm, ⟨24, _⟩ => ⟨S2x16384x256, .f32⟩
  | .hbm, ⟨25, _⟩ => ⟨S16384x1024, .f32⟩
  | .hbm, ⟨26, _⟩ => ⟨S16384x256, .f32⟩
  | .hbm, ⟨27, _⟩ => ⟨S16384x256, .bf16⟩
  | .hbm, ⟨28, _⟩ => ⟨S16384x512, .f32⟩
  | .hbm, ⟨29, _⟩ => ⟨S16384x512, .bf16⟩
  | .hbm, ⟨30, _⟩ => ⟨S16384x256, .f32⟩
  | .hbm, ⟨31, _⟩ => ⟨S16384x256, .bf16⟩
  | .hbm, ⟨32, _⟩ => ⟨S2x1x1024, .f32⟩
  | .hbm, ⟨33, _⟩ => ⟨S2x1x1024, .f32⟩
  | .hbm, ⟨34, _⟩ => ⟨S2x1x1024, .f32⟩
  | .hbm, ⟨35, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S1x512x256, .f32⟩
  | .local _ .vmem, ⟨9, _⟩ => ⟨S1x512x256, .f32⟩
  | .local _ .vmem, ⟨10, _⟩ => ⟨S1x1024x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1024x2816, .bf16⟩
  | .local _ .vmem, ⟨14, _⟩ => ⟨S1x1024x2816, .bf16⟩
  | .local _ .vmem, ⟨15, _⟩ => ⟨S1x2816x1024, .bf16⟩
  | .local _ .vmem, ⟨16, _⟩ => ⟨S1x1x1024, .f32⟩
  | .local _ .vmem, ⟨17, _⟩ => ⟨S1x1x1024, .f32⟩
  | .local _ .vmem, ⟨18, _⟩ => ⟨S1x1024x1024, .bf16⟩
  | .local _ .vmem, ⟨19, _⟩ => ⟨S1x256x1024, .bf16⟩
  | .local _ .vmem, ⟨20, _⟩ => ⟨S1x1x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S8x2048x1024 : Shape := ⟨3, ![8, 2048, 1024]⟩
abbrev S8x2048x256 : Shape := ⟨3, ![8, 2048, 256]⟩
abbrev S8x2048x512 : Shape := ⟨3, ![8, 2048, 512]⟩
abbrev S2x8x2048x256 : Shape := ⟨4, ![2, 8, 2048, 256]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x256x1024 : Shape := ⟨3, ![2, 256, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x2048x2816 : Shape := ⟨3, ![8, 2048, 2816]⟩
abbrev S1x8x2048x256 : Shape := ⟨4, ![1, 8, 2048, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 153
  | .vmem => 0
  | .smem => 0
  | _ => 0

abbrev hbmTy0_0 (i : Nat) : BufTy := match i % 128 with
  | 0 => ⟨S8x2048x1024, .f32⟩
  | 1 => ⟨S8x2048x256, .f32⟩
  | 2 => ⟨S8x2048x512, .f32⟩
  | 3 => ⟨S8x2048x256, .f32⟩
  | 4 => ⟨S2x8x2048x256, .f32⟩
  | 5 => ⟨S2x1024x1024, .f32⟩
  | 6 => ⟨S2x1024, .f32⟩
  | 7 => ⟨S2x1024, .f32⟩
  | 8 => ⟨S2x1024x2816, .f32⟩
  | 9 => ⟨S2x1024x2816, .f32⟩
  | 10 => ⟨S2x2816x1024, .f32⟩
  | 11 => ⟨S2x1024, .f32⟩
  | 12 => ⟨S2x1024, .f32⟩
  | 13 => ⟨S2x1024x1024, .f32⟩
  | 14 => ⟨S2x256x1024, .f32⟩
  | 15 => ⟨S2x1024, .f32⟩
  | 16 => ⟨S8x2048x1024, .f32⟩
  | 17 => ⟨S1x1024x1024, .f32⟩
  | 18 => ⟨S1024x1024, .f32⟩
  | 19 => ⟨S8x2048x1024, .f32⟩
  | 20 => ⟨S1x1024, .f32⟩
  | 21 => ⟨S1024, .f32⟩
  | 22 => ⟨S8x2048x1024, .f32⟩
  | 23 => ⟨S_, .f32⟩
  | 24 => ⟨S8x2048, .f32⟩
  | 25 => ⟨S8x2048x1, .f32⟩
  | 26 => ⟨S_, .f32⟩
  | 27 => ⟨S8x2048x1, .f32⟩
  | 28 => ⟨S8x2048x1, .f32⟩
  | 29 => ⟨S_, .f32⟩
  | 30 => ⟨S8x2048x1, .f32⟩
  | 31 => ⟨S8x2048x1, .f32⟩
  | 32 => ⟨S8x2048x1, .f32⟩
  | 33 => ⟨S8x2048x1024, .f32⟩
  | 34 => ⟨S8x2048x1024, .f32⟩
  | 35 => ⟨S1x1x1024, .f32⟩
  | 36 => ⟨S8x2048x1024, .f32⟩
  | 37 => ⟨S8x2048x1024, .f32⟩
  | 38 => ⟨S8x2048x1024, .f32⟩
  | 39 => ⟨S1x1024, .f32⟩
  | 40 => ⟨S1024, .f32⟩
  | 41 => ⟨S8x2048x1024, .f32⟩
  | 42 => ⟨S_, .f32⟩
  | 43 => ⟨S8x2048, .f32⟩
  | 44 => ⟨S8x2048x1, .f32⟩
  | 45 => ⟨S_, .f32⟩
  | 46 => ⟨S8x2048x1, .f32⟩
  | 47 => ⟨S8x2048x1, .f32⟩
  | 48 => ⟨S_, .f32⟩
  | 49 => ⟨S8x2048x1, .f32⟩
  | 50 => ⟨S8x2048x1, .f32⟩
  | 51 => ⟨S8x2048x1, .f32⟩
  | 52 => ⟨S8x2048x1024, .f32⟩
  | 53 => ⟨S8x2048x1024, .f32⟩
  | 54 => ⟨S1x1x1024, .f32⟩
  | 55 => ⟨S8x2048x1024, .f32⟩
  | 56 => ⟨S8x2048x1024, .f32⟩
  | 57 => ⟨S1x1024x2816, .f32⟩
  | 58 => ⟨S1024x2816, .f32⟩
  | 59 => ⟨S1x1024x2816, .f32⟩
  | 60 => ⟨S1024x2816, .f32⟩
  | 61 => ⟨S1x2816x1024, .f32⟩
  | 62 => ⟨S2816x1024, .f32⟩
  | 63 => ⟨S8x2048x2816, .f32⟩
  | 64 => ⟨S8x2048x2816, .f32⟩
  | 65 => ⟨S8x2048x2816, .f32⟩
  | 66 => ⟨S_, .f32⟩
  | 67 => ⟨S8x2048x2816, .f32⟩
  | 68 => ⟨S8x2048x2816, .f32⟩
  | 69 => ⟨S_, .f32⟩
  | 70 => ⟨S8x2048x2816, .f32⟩
  | 71 => ⟨S8x2048x2816, .f32⟩
  | 72 => ⟨S8x2048x2816, .f32⟩
  | 73 => ⟨S8x2048x2816, .f32⟩
  | 74 => ⟨S8x2048x2816, .f32⟩
  | 75 => ⟨S8x2048x1024, .f32⟩
  | 76 => ⟨S1x1024, .f32⟩
  | 77 => ⟨S1024, .f32⟩
  | 78 => ⟨S8x2048x1024, .f32⟩
  | 79 => ⟨S_, .f32⟩
  | 80 => ⟨S8x2048, .f32⟩
  | 81 => ⟨S8x2048x1, .f32⟩
  | 82 => ⟨S_, .f32⟩
  | 83 => ⟨S8x2048x1, .f32⟩
  | 84 => ⟨S8x2048x1, .f32⟩
  | 85 => ⟨S_, .f32⟩
  | 86 => ⟨S8x2048x1, .f32⟩
  | 87 => ⟨S8x2048x1, .f32⟩
  | 88 => ⟨S8x2048x1, .f32⟩
  | 89 => ⟨S8x2048x1024, .f32⟩
  | 90 => ⟨S8x2048x1024, .f32⟩
  | 91 => ⟨S1x1x1024, .f32⟩
  | 92 => ⟨S8x2048x1024, .f32⟩
  | 93 => ⟨S8x2048x1024, .f32⟩
  | 94 => ⟨S_, .f32⟩
  | 95 => ⟨S8x2048x1024, .f32⟩
  | 96 => ⟨S8x2048x1024, .f32⟩
  | 97 => ⟨S8x2048x1024, .f32⟩
  | 98 => ⟨S1x1024, .f32⟩
  | 99 => ⟨S1024, .f32⟩
  | 100 => ⟨S8x2048x1024, .f32⟩
  | 101 => ⟨S_, .f32⟩
  | 102 => ⟨S8x2048, .f32⟩
  | 103 => ⟨S8x2048x1, .f32⟩
  | 104 => ⟨S_, .f32⟩
  | 105 => ⟨S8x2048x1, .f32⟩
  | 106 => ⟨S8x2048x1, .f32⟩
  | 107 => ⟨S_, .f32⟩
  | 108 => ⟨S8x2048x1, .f32⟩
  | 109 => ⟨S8x2048x1, .f32⟩
  | 110 => ⟨S8x2048x1, .f32⟩
  | 111 => ⟨S8x2048x1024, .f32⟩
  | 112 => ⟨S8x2048x1024, .f32⟩
  | 113 => ⟨S1x1x1024, .f32⟩
  | 114 => ⟨S8x2048x1024, .f32⟩
  | 115 => ⟨S8x2048x1024, .f32⟩
  | 116 => ⟨S1x1024x1024, .f32⟩
  | 117 => ⟨S1024x1024, .f32⟩
  | 118 => ⟨S8x2048x1024, .f32⟩
  | 119 => ⟨S8x2048x1024, .f32⟩
  | 120 => ⟨S8x2048x1024, .f32⟩
  | 121 => ⟨S_, .f32⟩
  | 122 => ⟨S8x2048x1024, .f32⟩
  | 123 => ⟨S8x2048x1024, .f32⟩
  | 124 => ⟨S_, .f32⟩
  | 125 => ⟨S8x2048x1024, .f32⟩
  | 126 => ⟨S8x2048x1024, .f32⟩
  | 127 => ⟨S1x8x2048x256, .f32⟩
  | _ => ⟨S8x2048x1024, .f32⟩

abbrev hbmTy0_1 (i : Nat) : BufTy := match i % 128 with
  | 0 => ⟨S8x2048x256, .f32⟩
  | 1 => ⟨S1x256x1024, .f32⟩
  | 2 => ⟨S256x1024, .f32⟩
  | 3 => ⟨S8x2048x1024, .f32⟩
  | 4 => ⟨S8x2048x1024, .f32⟩
  | 5 => ⟨S1x1024, .f32⟩
  | 6 => ⟨S1024, .f32⟩
  | 7 => ⟨S8x2048x1024, .f32⟩
  | 8 => ⟨S_, .f32⟩
  | 9 => ⟨S8x2048, .f32⟩
  | 10 => ⟨S8x2048x1, .f32⟩
  | 11 => ⟨S_, .f32⟩
  | 12 => ⟨S8x2048x1, .f32⟩
  | 13 => ⟨S8x2048x1, .f32⟩
  | 14 => ⟨S_, .f32⟩
  | 15 => ⟨S8x2048x1, .f32⟩
  | 16 => ⟨S8x2048x1, .f32⟩
  | 17 => ⟨S8x2048x1, .f32⟩
  | 18 => ⟨S8x2048x1024, .f32⟩
  | 19 => ⟨S8x2048x1024, .f32⟩
  | 20 => ⟨S1x1x1024, .f32⟩
  | 21 => ⟨S8x2048x1024, .f32⟩
  | 22 => ⟨S8x2048x1024, .f32⟩
  | 23 => ⟨S8x2048x1024, .f32⟩
  | 24 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_5 : Ref sig .tc := ⟨.hbm, 79, rfl⟩
abbrev main_v49 : Ref sig .tc := ⟨.hbm, 80, rfl⟩
abbrev main_v50 : Ref sig .tc := ⟨.hbm, 81, rfl⟩
abbrev main_cst_6 : Ref sig .tc := ⟨.hbm, 82, rfl⟩
abbrev main_v51 : Ref sig .tc := ⟨.hbm, 83, rfl⟩
abbrev main_v52 : Ref sig .tc := ⟨.hbm, 84, rfl⟩
abbrev main_cst_7 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_8 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_9 : Ref sig .tc := ⟨.hbm, 101, rfl⟩
abbrev main_v67 : Ref sig .tc := ⟨.hbm, 102, rfl⟩
abbrev main_v68 : Ref sig .tc := ⟨.hbm, 103, rfl⟩
abbrev main_cst_10 : Ref sig .tc := ⟨.hbm, 104, rfl⟩
abbrev main_v69 : Ref sig .tc := ⟨.hbm, 105, rfl⟩
abbrev main_v70 : Ref sig .tc := ⟨.hbm, 106, rfl⟩
abbrev main_cst_11 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_12 : Ref sig .tc := ⟨.hbm, 121, rfl⟩
abbrev main_v84 : Ref sig .tc := ⟨.hbm, 122, rfl⟩
abbrev main_v85 : Ref sig .tc := ⟨.hbm, 123, rfl⟩
abbrev main_cst_13 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_14 : Ref sig .tc := ⟨.hbm, 136, rfl⟩
abbrev main_v97 : Ref sig .tc := ⟨.hbm, 137, rfl⟩
abbrev main_v98 : Ref sig .tc := ⟨.hbm, 138, rfl⟩
abbrev main_cst_15 : Ref sig .tc := ⟨.hbm, 139, rfl⟩
abbrev main_v99 : Ref sig .tc := ⟨.hbm, 140, rfl⟩
abbrev main_v100 : Ref sig .tc := ⟨.hbm, 141, rfl⟩
abbrev main_cst_16 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x16 : Shape := ⟨3, ![8, 2048, 16]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x2208 : Shape := ⟨3, ![2, 1024, 2208]⟩
abbrev S2x384 : Shape := ⟨2, ![2, 384]⟩
abbrev S2x384x768 : Shape := ⟨3, ![2, 384, 768]⟩
abbrev S2x256 : Shape := ⟨2, ![2, 256]⟩
abbrev S2x256x1024 : Shape := ⟨3, ![2, 256, 1024]⟩
abbrev S2x3x256 : Shape := ⟨3, ![2, 3, 256]⟩
abbrev S16384x16 : Shape := ⟨2, ![16384, 16]⟩
abbrev S_ : Shape := ⟨0, ![]⟩
abbrev S16384x64 : Shape := ⟨2, ![16384, 64]⟩
abbrev S16384x32 : Shape := ⟨2, ![16384, 32]⟩
abbrev S16384x128 : Shape := ⟨2, ![16384, 128]⟩
abbrev S2x1x1024 : Shape := ⟨3, ![2, 1, 1024]⟩
abbrev S2x1024x32 : Shape := ⟨3, ![2, 1024, 32]⟩
abbrev S2x1024x128 : Shape := ⟨3, ![2, 1024, 128]⟩
abbrev S2x1024x1408 : Shape := ⟨3, ![2, 1024, 1408]⟩
abbrev S2x1024x768 : Shape := ⟨3, ![2, 1024, 768]⟩
abbrev S2x1024x2304 : Shape := ⟨3, ![2, 1024, 2304]⟩
abbrev S2x384x8x96 : Shape := ⟨4, ![2, 384, 8, 96]⟩
abbrev S2x384x8x128 : Shape := ⟨4, ![2, 384, 8, 128]⟩
abbrev S2x384x1024 : Shape := ⟨3, ![2, 384, 1024]⟩
abbrev S2x256x8x128 : Shape := ⟨4, ![2, 256, 8, 128]⟩
abbrev S2x256x8x64 : Shape := ⟨4, ![2, 256, 8, 64]⟩
abbrev S2x256x512 : Shape := ⟨3, ![2, 256, 512]⟩
abbrev S2x256x1536 : Shape := ⟨3, ![2, 256, 1536]⟩
abbrev S16384x1024 : Shape := ⟨2, ![16384, 1024]⟩
abbrev S2x1x384 : Shape := ⟨3, ![2, 1, 384]⟩
abbrev S2x1x256 : Shape := ⟨3, ![2, 1, 256]⟩
abbrev S16384x256 : Shape := ⟨2, ![16384, 256]⟩
abbrev S8x512x2048 : Shape := ⟨3, ![8, 512, 2048]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1024x2304 : Shape := ⟨3, ![1, 1024, 2304]⟩
abbrev S1x1x384 : Shape := ⟨3, ![1, 1, 384]⟩
abbrev S1x384x1024 : Shape := ⟨3, ![1, 384, 1024]⟩
abbrev S1x1x256 : Shape := ⟨3, ![1, 1, 256]⟩
abbrev S1x256x1536 : Shape := ⟨3, ![1, 256, 1536]⟩
abbrev S1x3x256 : Shape := ⟨3, ![1, 3, 256]⟩
abbrev S512x128 : Shape := ⟨2, ![512, 128]⟩
abbrev S512x256 : Shape := ⟨2, ![512, 256]⟩
abbrev S1x512x512 : Shape := ⟨3, ![1, 512, 512]⟩
abbrev S8x256 : Shape := ⟨2, ![8, 256]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1x128 : Shape := ⟨2, ![1, 128]⟩
abbrev S1x1024x768 : Shape := ⟨3, ![1, 1024, 768]⟩
abbrev S1024x768 : Shape := ⟨2, ![1024, 768]⟩
abbrev S512x768 : Shape := ⟨2, ![512, 768]⟩
abbrev S1x256 : Shape := ⟨2, ![1, 256]⟩
abbrev S1x1024x384 : Shape := ⟨3, ![1, 1024, 384]⟩
abbrev S1024x384 : Shape := ⟨2, ![1024, 384]⟩
abbrev S512x384 : Shape := ⟨2, ![512, 384]⟩
abbrev S1x384 : Shape := ⟨2, ![1, 384]⟩
abbrev S384x1024 : Shape := ⟨2, ![384, 1024]⟩
abbrev S256x1536 : Shape := ⟨2, ![256, 1536]⟩
abbrev S512x1536 : Shape := ⟨2, ![512, 1536]⟩
abbrev S1x1024x128 : Shape := ⟨3, ![1, 1024, 128]⟩
abbrev S1024x128 : Shape := ⟨2, ![1024, 128]⟩
abbrev S512x512 : Shape := ⟨2, ![512, 512]⟩
abbrev S3x256 : Shape := ⟨2, ![3, 256]⟩

abbrev nBuf : Space → Nat
  | .hbm => 72
  | .vmem => 43
  | .smem => 0
  | _ => 0

abbrev bufTy : (tb : Table) → Fin (tcTables nBuf tb) → BufTy
  | .hbm, ⟨0, _⟩ => ⟨S8x2048x1024, .f32⟩
  | .hbm, ⟨1, _⟩ => ⟨S8x2048x16, .f32⟩
  | .hbm, ⟨2, _⟩ => ⟨S8x2048x16, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S2x1024, .f32⟩
  | .hbm, ⟨8, _⟩ => ⟨S2x1024, .f32⟩
  | .hbm, ⟨9, _⟩ => ⟨S2x1024x2208, .f32⟩
  | .hbm, ⟨10, _⟩ => ⟨S2x384, .f32⟩
  | .hbm, ⟨11, _⟩ => ⟨S2x384x768, .f32⟩
  | .hbm, ⟨12, _⟩ => ⟨S2x256, .f32⟩
  | .hbm, ⟨13, _⟩ => ⟨S2x256x1024, .f32⟩
  | .hbm, ⟨14, _⟩ => ⟨S2x3x256, .f32⟩
  | .hbm, ⟨15, _⟩ => ⟨S16384x16, .f32⟩
  | .hbm, ⟨16, _⟩ => ⟨S16384x16, .f32⟩
  | .hbm, ⟨17, _⟩ => ⟨S_, .f32⟩
  | .hbm, ⟨18, _⟩ => ⟨S16384x64, .f32⟩
  | .hbm, ⟨19, _⟩ => ⟨S_, .f32⟩
  | .hbm, ⟨20, _⟩ => ⟨S16384x32, .f32⟩
  | .hbm, ⟨21, _⟩ => ⟨S16384x128, .f32⟩
  | .hbm, ⟨22, _⟩ => ⟨S_, .f32⟩
  | .hbm, ⟨23, _⟩ => ⟨S16384x64, .f32⟩
  | .hbm, ⟨24, _⟩ => ⟨S16384x16, .f32⟩
  | .hbm, ⟨25, _⟩ => ⟨S_, .f32⟩
  | .hbm, ⟨26, _⟩ => ⟨S16384x32, .f32⟩
  | .hbm, ⟨27, _⟩ => ⟨S16384x128, .f32⟩
  | .hbm, ⟨28, _⟩ => ⟨S2x1x1024, .f32⟩
  | .hbm, ⟨29, _⟩ => ⟨S2x1024x2816, .bf16⟩
  | .hbm, ⟨30, _⟩ => ⟨S2x1024x2816, .bf16⟩
  | .hbm, ⟨31, _⟩ => ⟨S2x2816x1024, .bf16⟩
  | .hbm, ⟨32, _⟩ => ⟨S2x1x1024, .f32⟩
  | .hbm, ⟨33, _⟩ => ⟨S2x1024x32, .f32⟩
  | .hbm, ⟨34, _⟩ => ⟨S_, .i32⟩
  | .hbm, ⟨35, _⟩ => ⟨S_, .f32⟩
  | .hbm, ⟨36, _⟩ => ⟨S2x1024x128, .f32⟩
  | .hbm, ⟨37, _⟩ => ⟨S2x1024x1408, .f32⟩
  | .hbm, ⟨38, _⟩ => ⟨S2x1024x768, .f32⟩
  | .hbm, ⟨39, _⟩ => ⟨S2x1024x2304, .f32⟩
  | .hbm, ⟨40, _⟩ => ⟨S2x1024x2304, .bf16⟩
  | .hbm, ⟨41, _⟩ => ⟨S2x384x8x96, .f32⟩
  | .hbm, ⟨42, _⟩ => ⟨S_, .i32⟩
  | .hbm, ⟨43, _⟩ => ⟨S_, .f32⟩
  | .hbm, ⟨44, _⟩ => ⟨S2x384x8x128, .f32⟩
  | .hbm, ⟨45, _⟩ => ⟨S2x384x1024, .f32⟩
  | .hbm, ⟨46, _⟩ => ⟨S2x384x1024, .bf16⟩
  | .hbm, ⟨47, _⟩ => ⟨S2x256x8x128, .f32⟩
  | .hbm, ⟨48, _⟩ => ⟨S2x256x8x64, .f32⟩
  | .hbm, ⟨49, _⟩ => ⟨S_, .i32⟩
  | .hbm, ⟨50, _⟩ => ⟨S_, .f32⟩
  | .hbm, ⟨51, _⟩ => ⟨S2x256x8x128, .f32⟩
  | .hbm, ⟨52, _⟩ => ⟨S2x256x8x64, .f32⟩
  | .hbm, ⟨53, _⟩ => ⟨S2x256x1024, .f32⟩
  | .hbm, ⟨54, _⟩ => ⟨S2x256x512, .f32⟩
  | .hbm, ⟨55, _⟩ => ⟨S2x256x1536, .f32⟩
  | .hbm, ⟨56, _⟩ => ⟨S2x256x1536, .bf16⟩
  | .hbm, ⟨57, _⟩ => ⟨S16384x1024, .f32⟩
  | .hbm, ⟨58, _⟩ => ⟨S2x1x1024, .f32⟩
  | .hbm, ⟨59, _⟩ => ⟨S2x1x384, .f32⟩
  | .hbm, ⟨60, _⟩ => ⟨S2x1x256, .f32⟩
  | .hbm, ⟨61, _⟩ => ⟨S16384x1024, .f32⟩
  | .hbm, ⟨62, _⟩ => ⟨S16384x256, .bf16⟩
  | .hbm, ⟨63, _⟩ => ⟨S16384x256, .bf16⟩
  | .hbm, ⟨64, _⟩ => ⟨S16384x256, .bf16⟩
  | .hbm, ⟨65, _⟩ => ⟨S16384x256, .bf16⟩
  | .hbm, ⟨66, _⟩ => ⟨S16384x256, .bf16⟩
  | .hbm, ⟨67, _⟩ => ⟨S16384x1024, .bf16⟩
  | .hbm, ⟨68, _⟩ => ⟨S16384x1024, .bf16⟩
  | .hbm, ⟨69, _⟩ => ⟨S8x512x2048, .bf16⟩
  | .hbm, ⟨70, _⟩ => ⟨S8x512x2048, .bf16⟩
  | .hbm, ⟨71, _⟩ => ⟨S16384x256, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1024x2304, .bf16⟩
  | .local _ .vmem, ⟨9, _⟩ => ⟨S1x1x384, .f32⟩
  | .local _ .vmem, ⟨10, _⟩ => ⟨S1x384x1024, .bf16⟩
  | .local _ .vmem, ⟨11, _⟩ => ⟨S1x1x256, .f32⟩
  | .local _ .vmem, ⟨12, _⟩ => ⟨S1x256x1536, .bf16⟩
  | .local _ .vmem, ⟨13, _⟩ => ⟨S1x3x256, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .f32⟩
  | .local _ .vmem, ⟨19, _⟩ => ⟨S512x1024, .f32⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S1x512x512, .bf16⟩
  | .local _ .vmem, ⟨35, _⟩ => ⟨S1x512x512, .bf16⟩
  | .local _ .vmem, ⟨36, _⟩ => ⟨S1x512x512, .bf16⟩
  | .local _ .vmem, ⟨37, _⟩ => ⟨S1x512x512, .bf16⟩
  | .local _ .vmem, ⟨38, _⟩ => ⟨S512x256, .bf16⟩
  | .local _ .vmem, ⟨39, _⟩ => ⟨S512x256, .bf16⟩
  | .local _ .vmem, ⟨40, _⟩ => ⟨S512x1024, .bf16⟩
  | .local _ .vmem, ⟨41, _⟩ => ⟨S512x1024, .f32⟩
  | .local _ .vmem, ⟨42, _⟩ => ⟨S8x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_call0_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_call1_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_4 : Ref sig .tc := ⟨.hbm, 49, rfl⟩
abbrev main_call2_v0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36_0 : Ref sig .tc := ⟨.hbm, 61, rfl⟩
abbrev main_v36_1 : Ref sig .tc := ⟨.hbm, 62, rfl⟩
abbrev main_v36_2 : Ref sig .tc := ⟨.hbm, 63, rfl⟩
abbrev main_v36_3 : Ref sig .tc := ⟨.hbm, 64, rfl⟩
abbrev main_v36_4 : Ref sig .tc := ⟨.hbm, 65, rfl⟩
abbrev main_v36_5 : Ref sig .tc := ⟨.hbm, 66, rfl⟩
abbrev main_v36_6 : Ref sig .tc := ⟨.hbm, 67, rfl⟩
abbrev main_v36_7 : Ref sig .tc := ⟨.hbm, 68, rfl⟩
abbrev main_v36_8 : Ref sig .tc := ⟨.hbm, 69, rfl⟩
abbrev main_v36_9 : Ref sig .tc := ⟨.hbm, 70, rfl⟩
abbrev main_v36_10 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_24 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2304 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Reference3Ideal.lean ====
abbrev S8x2048x1024 : Shape := ⟨3, ![8, 2048, 1024]⟩
abbrev S8x2048x16 : Shape := ⟨3, ![8, 2048, 16]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x2208 : Shape := ⟨3, ![2, 1024, 2208]⟩
abbrev S2x384 : Shape := ⟨2, ![2, 384]⟩
abbrev S2x384x768 : Shape := ⟨3, ![2, 384, 768]⟩
abbrev S2x256 : Shape := ⟨2, ![2, 256]⟩
abbrev S2x256x1024 : Shape := ⟨3, ![2, 256, 1024]⟩
abbrev S2x3x256 : Shape := ⟨3, ![2, 3, 256]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x2048x2816 : Shape := ⟨3, ![8, 2048, 2816]⟩
abbrev S1x1024x2208 : Shape := ⟨3, ![1, 1024, 2208]⟩
abbrev S1024x2208 : Shape := ⟨2, ![1024, 2208]⟩
abbrev S8x2048x2208 : Shape := ⟨3, ![8, 2048, 2208]⟩
abbrev S8x2048x256 : Shape := ⟨3, ![8, 2048, 256]⟩
abbrev S8x2048x384 : Shape := ⟨3, ![8, 2048, 384]⟩
abbrev S8x2048x800 : Shape := ⟨3, ![8, 2048, 800]⟩
abbrev S1x256 : Shape := ⟨2, ![1, 256]⟩
abbrev S256 : Shape := ⟨1, ![256]⟩
abbrev S1x1x256 : Shape := ⟨3, ![1, 1, 256]⟩
abbrev S1x256x1024 : Shape := ⟨3, ![1, 256, 1024]⟩
abbrev S256x1024 : Shape := ⟨2, ![256, 1024]⟩
abbrev S8x2048x8x128 : Shape := ⟨4, ![8, 2048, 8, 128]⟩
abbrev S8x2048x8x64 : Shape := ⟨4, ![8, 2048, 8, 64]⟩
abbrev S8x2048x512 : Shape := ⟨3, ![8, 2048, 512]⟩
abbrev S8x512x2048 : Shape := ⟨3, ![8, 512, 2048]⟩
abbrev S512 : Shape := ⟨1, ![512]⟩
abbrev S512x1 : Shape := ⟨2, ![512, 1]⟩
abbrev S16384x1024 : Shape := ⟨2, ![16384, 1024]⟩
abbrev S16384x256 : Shape := ⟨2, ![16384, 256]⟩

abbrev nBuf : Space → Nat
  | .hbm => 170
  | .vmem => 0
  | .smem => 0
  | _ => 0

abbrev hbmTy0_0 (i : Nat) : BufTy := match i % 128 with
  | 0 => ⟨S8x2048x1024, .f32⟩
  | 1 => ⟨S8x2048x16, .f32⟩
  | 2 => ⟨S8x2048x16, .f32⟩
  | 3 => ⟨S2x1024, .f32⟩
  | 4 => ⟨S2x1024x2816, .f32⟩
  | 5 => ⟨S2x1024x2816, .f32⟩
  | 6 => ⟨S2x2816x1024, .f32⟩
  | 7 => ⟨S2x1024, .f32⟩
  | 8 => ⟨S2x1024, .f32⟩
  | 9 => ⟨S2x1024x2208, .f32⟩
  | 10 => ⟨S2x384, .f32⟩
  | 11 => ⟨S2x384x768, .f32⟩
  | 12 => ⟨S2x256, .f32⟩
  | 13 => ⟨S2x256x1024, .f32⟩
  | 14 => ⟨S2x3x256, .f32⟩
  | 15 => ⟨S1x1024, .f32⟩
  | 16 => ⟨S1024, .f32⟩
  | 17 => ⟨S8x2048x1024, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S_, .f32⟩
  | 25 => ⟨S8x2048x1, .f32⟩
  | 26 => ⟨S8x2048x1, .f32⟩
  | 27 => ⟨S8x2048x1, .f32⟩
  | 28 => ⟨S8x2048x1024, .f32⟩
  | 29 => ⟨S8x2048x1024, .f32⟩
  | 30 => ⟨S1x1x1024, .f32⟩
  | 31 => ⟨S8x2048x1024, .f32⟩
  | 32 => ⟨S8x2048x1024, .f32⟩
  | 33 => ⟨S1x1024x2816, .f32⟩
  | 34 => ⟨S1024x2816, .f32⟩
  | 35 => ⟨S1x1024x2816, .f32⟩
  | 36 => ⟨S1024x2816, .f32⟩
  | 37 => ⟨S1x2816x1024, .f32⟩
  | 38 => ⟨S2816x1024, .f32⟩
  | 39 => ⟨S8x2048x2816, .f32⟩
  | 40 => ⟨S8x2048x2816, .f32⟩
  | 41 => ⟨S8x2048x2816, .f32⟩
  | 42 => ⟨S_, .f32⟩
  | 43 => ⟨S8x2048x2816, .f32⟩
  | 44 => ⟨S8x2048x2816, .f32⟩
  | 45 => ⟨S_, .f32⟩
  | 46 => ⟨S8x2048x2816, .f32⟩
  | 47 => ⟨S8x2048x2816, .f32⟩
  | 48 => ⟨S8x2048x2816, .f32⟩
  | 49 => ⟨S8x2048x2816, .f32⟩
  | 50 => ⟨S8x2048x2816, .f32⟩
  | 51 => ⟨S8x2048x1024, .f32⟩
  | 52 => ⟨S1x1024, .f32⟩
  | 53 => ⟨S1024, .f32⟩
  | 54 => ⟨S8x2048x1024, .f32⟩
  | 55 => ⟨S_, .f32⟩
  | 56 => ⟨S8x2048, .f32⟩
  | 57 => ⟨S8x2048x1, .f32⟩
  | 58 => ⟨S_, .f32⟩
  | 59 => ⟨S8x2048x1, .f32⟩
  | 60 => ⟨S8x2048x1, .f32⟩
  | 61 => ⟨S_, .f32⟩
  | 62 => ⟨S8x2048x1, .f32⟩
  | 63 => ⟨S8x2048x1, .f32⟩
  | 64 => ⟨S8x2048x1, .f32⟩
  | 65 => ⟨S8x2048x1024, .f32⟩
  | 66 => ⟨S8x2048x1024, .f32⟩
  | 67 => ⟨S1x1x1024, .f32⟩
  | 68 => ⟨S8x2048x1024, .f32⟩
  | 69 => ⟨S8x2048x1024, .f32⟩
  | 70 => ⟨S_, .f32⟩
  | 71 => ⟨S8x2048x1024, .f32⟩
  | 72 => ⟨S8x2048x1024, .f32⟩
  | 73 => ⟨S8x2048x1024, .f32⟩
  | 74 => ⟨S1x1024, .f32⟩
  | 75 => ⟨S1024, .f32⟩
  | 76 => ⟨S8x2048x1024, .f32⟩
  | 77 => ⟨S_, .f32⟩
  | 78 => ⟨S8x2048, .f32⟩
  | 79 => ⟨S8x2048x1, .f32⟩
  | 80 => ⟨S_, .f32⟩
  | 81 => ⟨S8x2048x1, .f32⟩
  | 82 => ⟨S8x2048x1, .f32⟩
  | 83 => ⟨S_, .f32⟩
  | 84 => ⟨S8x2048x1, .f32⟩
  | 85 => ⟨S8x2048x1, .f32⟩
  | 86 => ⟨S8x2048x1, .f32⟩
  | 87 => ⟨S8x2048x1024, .f32⟩
  | 88 => ⟨S8x2048x1024, .f32⟩
  | 89 => ⟨S1x1x1024, .f32⟩
  | 90 => ⟨S8x2048x1024, .f32⟩
  | 91 => ⟨S8x2048x1024, .f32⟩
  | 92 => ⟨S1x1024x2208, .f32⟩
  | 93 => ⟨S1024x2208, .f32⟩
  | 94 => ⟨S8x2048x2208, .f32⟩
  | 95 => ⟨S8x2048x256, .f32⟩
  | 96 => ⟨S8x2048x256, .f32⟩
  | 97 => ⟨S8x2048x256, .f32⟩
  | 98 => ⟨S8x2048x384, .f32⟩
  | 99 => ⟨S8x2048x256, .f32⟩
  | 100 => ⟨S8x2048x800, .f32⟩
  | 101 => ⟨S1x256, .f32⟩
  | 102 => ⟨S256, .f32⟩
  | 103 => ⟨S8x2048x256, .f32⟩
  | 104 => ⟨S_, .f32⟩
  | 105 => ⟨S8x2048, .f32⟩
  | 106 => ⟨S8x2048x1, .f32⟩
  | 107 => ⟨S_, .f32⟩
  | 108 => ⟨S8x2048x1, .f32⟩
  | 109 => ⟨S8x2048x1, .f32⟩
  | 110 => ⟨S_, .f32⟩
  | 111 => ⟨S8x2048x1, .f32⟩
  | 112 => ⟨S8x2048x1, .f32⟩
  | 113 => ⟨S8x2048x1, .f32⟩
  | 114 => ⟨S8x2048x256, .f32⟩
  | 115 => ⟨S8x2048x256, .f32⟩
  | 116 => ⟨S1x1x256, .f32⟩
  | 117 => ⟨S8x2048x256, .f32⟩
  | 118 => ⟨S8x2048x256, .f32⟩
  | 119 => ⟨S1x256x1024, .f32⟩
  | 120 => ⟨S256x1024, .f32⟩
  | 121 => ⟨S8x2048x1024, .f32⟩
  | 122 => ⟨S8x2048x8x128, .f32⟩
  | 123 => ⟨S8x2048x8x64, .f32⟩
  | 124 => ⟨S8x2048x512, .f32⟩
  | 125 => ⟨S8x512x2048, .f32⟩
  | 126 => ⟨S256, .i32⟩
  | 127 => ⟨S_, .i32⟩
  | _ => ⟨S8x2048x1024, .f32⟩

abbrev hbmTy0_1 (i : Nat) : BufTy := match i % 128 with
  | 0 => ⟨S256, .i32⟩
  | 1 => ⟨S256, .i32⟩
  | 2 => ⟨S_, .i32⟩
  | 3 => ⟨S256, .i32⟩
  | 4 => ⟨S256, .i1⟩
  | 5 => ⟨S512, .i32⟩
  | 6 => ⟨S_, .i32⟩
  | 7 => ⟨S512, .i32⟩
  | 8 => ⟨S512, .i32⟩
  | 9 => ⟨S_, .i32⟩
  | 10 => ⟨S512, .i32⟩
  | 11 => ⟨S512, .i1⟩
  | 12 => ⟨S512x1, .i1⟩
  | 13 => ⟨S16384x1024, .f32⟩
  | 14 => ⟨S16384x256, .f32⟩
  | 15 => ⟨S16384x256, .bf16⟩
  | 16 => ⟨S_, .f32⟩
  | 17 => ⟨S_, .f32⟩
  | 18 => ⟨S8x2048x256, .i1⟩
  | 19 => ⟨S8x2048x256, .f32⟩
  | 20 => ⟨S8x2048x256, .f32⟩
  | 21 => ⟨S16384x256, .f32⟩
  | 22 => ⟨S16384x256, .bf16⟩
  | 23 => ⟨S_, .f32⟩
  | 24 => ⟨S_, .f32⟩
  | 25 => ⟨S8x2048x256, .i1⟩
  | 26 => ⟨S8x2048x256, .f32⟩
  | 27 => ⟨S8x2048x256, .f32⟩
  | 28 => ⟨S16384x256, .f32⟩
  | 29 => ⟨S16384x256, .bf16⟩
  | 30 => ⟨S_, .f32⟩
  | 31 => ⟨S_, .f32⟩
  | 32 => ⟨S8x512x2048, .i1⟩
  | 33 => ⟨S8x512x2048, .f32⟩
  | 34 => ⟨S8x512x2048, .f32⟩
  | 35 => ⟨S8x512x2048, .bf16⟩
  | 36 => ⟨S_, .f32⟩
  | 37 => ⟨S_, .f32⟩
  | 38 => ⟨S8x512x2048, .i1⟩
  | 39 => ⟨S8x512x2048, .f32⟩
  | 40 => ⟨S8x512x2048, .f32⟩
  | 41 => ⟨S8x512x2048, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_2 : Ref sig .tc := ⟨.hbm, 55, rfl⟩
abbrev main_v29 : Ref sig .tc := ⟨.hbm, 56, rfl⟩
abbrev main_v30 : Ref sig .tc := ⟨.hbm, 57, rfl⟩
abbrev main_cst_3 : Ref sig .tc := ⟨.hbm, 58, rfl⟩
abbrev main_v31 : Ref sig .tc := ⟨.hbm, 59, rfl⟩
abbrev main_v32 : Ref sig .tc := ⟨.hbm, 60, rfl⟩
abbrev main_cst_4 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_5 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_6 : Ref sig .tc := ⟨.hbm, 77, rfl⟩
abbrev main_v47 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_9 : Ref sig .tc := ⟨.hbm, 104, rfl⟩
abbrev main_v71 : Ref sig .tc := ⟨.hbm, 105, rfl⟩
abbrev main_v72 : Ref sig .tc := ⟨.hbm, 106, rfl⟩
abbrev main_cst_10 : Ref sig .tc := ⟨.hbm, 107, rfl⟩
abbrev main_v73 : Ref sig .tc := ⟨.hbm, 108, rfl⟩
abbrev main_v74 : Ref sig .tc := ⟨.hbm, 109, rfl⟩
abbrev main_cst_11 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c : Ref sig .tc := ⟨.hbm, 127, rfl⟩
abbrev main_v91 : Ref sig .tc := ⟨.hbm, 128, rfl⟩
abbrev main_v92 : Ref sig .tc := ⟨.hbm, 129, rfl⟩
abbrev main_c_12 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_c_13 : Ref sig .tc := ⟨.hbm, 134, rfl⟩
abbrev main_v96 : Ref sig .tc := ⟨.hbm, 135, rfl⟩
abbrev main_v97 : Ref sig .tc := ⟨.hbm, 136, rfl⟩
abbrev main_c_14 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_15 : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_16 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_17 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_v110 : Ref sig .tc := ⟨.hbm, 162, rfl⟩
abbrev main_v111 : Ref sig .tc := ⟨.hbm, 163, rfl⟩
abbrev main_cst_18 : Ref sig .tc := ⟨.hbm, 164, rfl⟩
abbrev main_call4_v0 : Ref sig .tc := ⟨.hbm, 165, rfl⟩
abbrev main_call4_v1 : Ref sig .tc := ⟨.hbm, 166, rfl⟩
abbrev main_call4_v2 : Ref sig .tc := ⟨.hbm, 167, rfl⟩
abbrev main_v112 : Ref sig .tc := ⟨.hbm, 168, rfl⟩
abbrev main_v113 : Ref sig .tc := ⟨.hbm, 169, rfl⟩

abbrev nD : Nat := 1
abbrev τ : Topo := Topo.v7x

variable {F : FTy → Type} [FloatOps F]
-- ==== Kernel4.lean ====
abbrev S8x2048 : Shape := ⟨2, ![8, 2048]⟩
abbrev S16 : Shape := ⟨1, ![16]⟩
abbrev S_ : Shape := ⟨0, ![]⟩
abbrev S64 : Shape := ⟨1, ![64]⟩
abbrev S32 : Shape := ⟨1, ![32]⟩
abbrev S128 : Shape := ⟨1, ![128]⟩
abbrev S16384x1 : Shape := ⟨2, ![16384, 1]⟩
abbrev S1x128 : Shape := ⟨2, ![1, 128]⟩
abbrev S16384x128 : Shape := ⟨2, ![16384, 128]⟩
abbrev S2048x1 : Shape := ⟨2, ![2048, 1]⟩
abbrev S2048x128 : Shape := ⟨2, ![2048, 128]⟩

abbrev nBuf : Space → Nat
  | .hbm => 29
  | .vmem => 8
  | .smem => 0
  | _ => 0

abbrev bufTy : (tb : Table) → Fin (tcTables nBuf tb) → BufTy
  | .hbm, ⟨0, _⟩ => ⟨S8x2048, .i32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S32, .f32⟩
  | .hbm, ⟨13, _⟩ => ⟨S128, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S_, .f32⟩
  | .hbm, ⟨22, _⟩ => ⟨S32, .f32⟩
  | .hbm, ⟨23, _⟩ => ⟨S128, .f32⟩
  | .hbm, ⟨24, _⟩ => ⟨S16384x1, .i32⟩
  | .hbm, ⟨25, _⟩ => ⟨S1x128, .f32⟩
  | .hbm, ⟨26, _⟩ => ⟨S1x128, .f32⟩
  | .hbm, ⟨27, _⟩ => ⟨S16384x128, .f32⟩
  | .hbm, ⟨28, _⟩ => ⟨S16384x128, .f32⟩
  | .local _ .vmem, ⟨0, _⟩ => ⟨S2048x1, .i32⟩
  | .local _ .vmem, ⟨1, _⟩ => ⟨S2048x1, .i32⟩
  | .local _ .vmem, ⟨2, _⟩ => ⟨S1x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_cst_4 : Ref sig .tc := ⟨.hbm, 16, rfl⟩
abbrev main_v10 : Ref sig .tc := ⟨.hbm, 17, rfl⟩
abbrev main_v11 : Ref sig .tc := ⟨.hbm, 18, rfl⟩
abbrev main_cst_5 : Ref sig .tc := ⟨.hbm, 19, rfl⟩
abbrev main_v12 : Ref sig .tc := ⟨.hbm, 20, rfl⟩
abbrev main_cst_6 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8x2048 : Shape := ⟨2, ![8, 2048]⟩
abbrev S16 : Shape := ⟨1, ![16]⟩
abbrev S_ : Shape := ⟨0, ![]⟩
abbrev S8x2048x1 : Shape := ⟨3, ![8, 2048, 1]⟩
abbrev S1x1x16 : Shape := ⟨3, ![1, 1, 16]⟩
abbrev S8x2048x16 : Shape := ⟨3, ![8, 2048, 16]⟩
abbrev S16384x16 : Shape := ⟨2, ![16384, 16]⟩
abbrev S16384x64 : Shape := ⟨2, ![16384, 64]⟩
abbrev S16384x32 : Shape := ⟨2, ![16384, 32]⟩
abbrev S16384x128 : Shape := ⟨2, ![16384, 128]⟩

abbrev nBuf : Space → Nat
  | .hbm => 30
  | .vmem => 0
  | .smem => 0
  | _ => 0

abbrev bufTy : (tb : Table) → Fin (tcTables nBuf tb) → BufTy
  | .hbm, ⟨0, _⟩ => ⟨S8x2048, .i32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S8x2048, .f32⟩
  | .hbm, ⟨10, _⟩ => ⟨S8x2048x1, .f32⟩
  | .hbm, ⟨11, _⟩ => ⟨S1x1x16, .f32⟩
  | .hbm, ⟨12, _⟩ => ⟨S8x2048x16, .f32⟩
  | .hbm, ⟨13, _⟩ => ⟨S8x2048x16, .f32⟩
  | .hbm, ⟨14, _⟩ => ⟨S8x2048x16, .f32⟩
  | .hbm, ⟨15, _⟩ => ⟨S8x2048x16, .f32⟩
  | .hbm, ⟨16, _⟩ => ⟨S16384x16, .f32⟩
  | .hbm, ⟨17, _⟩ => ⟨S8x2048x16, .f32⟩
  | .hbm, ⟨18, _⟩ => ⟨S16384x16, .f32⟩
  | .hbm, ⟨19, _⟩ => ⟨S_, .f32⟩
  | .hbm, ⟨20, _⟩ => ⟨S16384x64, .f32⟩
  | .hbm, ⟨21, _⟩ => ⟨S_, .f32⟩
  | .hbm, ⟨22, _⟩ => ⟨S16384x32, .f32⟩
  | .hbm, ⟨23, _⟩ => ⟨S16384x128, .f32⟩
  | .hbm, ⟨24, _⟩ => ⟨S_, .f32⟩
  | .hbm, ⟨25, _⟩ => ⟨S16384x64, .f32⟩
  | .hbm, ⟨26, _⟩ => ⟨S16384x16, .f32⟩
  | .hbm, ⟨27, _⟩ => ⟨S_, .f32⟩
  | .hbm, ⟨28, _⟩ => ⟨S16384x32, .f32⟩
  | .hbm, ⟨29, _⟩ => ⟨S16384x128, .f32⟩
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Proof.PostRow.lean ====
/- One row of the layer's last part, on extended reals: the mixers' outputs projected and added to the residual stream,
   the second gated feed-forward network, and the gated per-layer embedding, each behind a root-mean-square norm. The
   kernel's block and the reference's array are both read as this function of one token's row. -/
module

public import Idealize.ShloMosaic.Lib.Pointwise

@[expose] public section

noncomputable section

namespace Cert.Post

open Idealize.ShloMosaic

/-- The root-mean-square norm of a row of 1024 features, scaled by `g`. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The three mixers' rows, side by side, times the output projection. -/
def mix (a : Fin 256 → EReal) (b : Fin 512 → EReal) (c : Fin 256 → EReal) (W : Fin 1024 → Fin 1024 → EReal) (j : Fin 1024) : EReal :=
  (∑ k, a k * W ⟨k, by omega⟩ j) + (∑ k, b k * W ⟨256 + k, by omega⟩ j) + ∑ k, c k * W ⟨768 + k, by omega⟩ j

/-- One hidden unit of the gated feed-forward network: `silu` of the gate times the up projection. -/
def unit (h : Fin 1024 → EReal) (Wg Wu : Fin 1024 → Fin 2816 → EReal) (n : Fin 2816) : EReal :=
  (∑ k, h k * Wg k n) * Ideal.logistic (∑ k, h k * Wg k n) * ∑ k, h k * Wu k n

/-- The gated feed-forward network of a row. -/
def ffn (h : Fin 1024 → EReal) (Wg Wu : Fin 1024 → Fin 2816 → EReal) (Wd : Fin 2816 → Fin 1024 → EReal) (j : Fin 1024) : EReal :=
  ∑ n, unit h Wg Wu n * Wd n j

/-- The row after the mixers' output projection. -/
def row1 (x : Fin 1024 → EReal) (a : Fin 256 → EReal) (b : Fin 512 → EReal) (c : Fin 256 → EReal)
    (W : Fin 1024 → Fin 1024 → EReal) (g : Fin 1024 → EReal) (j : Fin 1024) : EReal :=
  x j + rms (mix a b c W) g j

/-- The row after the feed-forward network, which counts half. -/
def row2 (x : Fin 1024 → EReal) (gpre : Fin 1024 → EReal) (Wg Wu : Fin 1024 → Fin 2816 → EReal)
    (Wd : Fin 2816 → Fin 1024 → EReal) (gpost : Fin 1024 → EReal) (j : Fin 1024) : EReal :=
  x j + Ideal.ofBits .f32 0x3F000000#32 * rms (ffn (rms x gpre) Wg Wu Wd) gpost j

/-- The gated embedding of a row: the gate read from the normed row, the embedding projected. -/
def gated (x : Fin 1024 → EReal) (g : Fin 1024 → EReal) (Wgate : Fin 1024 → Fin 1024 → EReal) (p : Fin 256 → EReal)
    (Wproj : Fin 256 → Fin 1024 → EReal) (j : Fin 1024) : EReal :=
  Ideal.logistic (∑ k, rms x g k * Wgate k j) * ∑ k, p k * Wproj k j

/-- The row after the gated per-layer embedding. -/
def row3 (x : Fin 1024 → EReal) (g : Fin 1024 → EReal) (Wgate : Fin 1024 → Fin 1024 → EReal) (p : Fin 256 → EReal)
    (Wproj : Fin 256 → Fin 1024 → EReal) (gpost : Fin 1024 → EReal) (j : Fin 1024) : EReal :=
  x j + rms (gated x g Wgate p Wproj) gpost j

/-- A sum over 1024 features cut where the three mixers' outputs meet. -/
theorem sum_mixers (f : Fin 1024 → EReal) :
    (∑ k, f k) = (∑ k : Fin 256, f ⟨k, by omega⟩) + (∑ k : Fin 512, f ⟨256 + k, by omega⟩) + ∑ k : Fin 256, f ⟨768 + k, by omega⟩ := by
  rw [← Fin.sum_congr' f (show 256 + 512 + 256 = 1024 from rfl), Fin.sum_univ_add, Fin.sum_univ_add]
  rfl

/-- A sum over the 2816 hidden units as eleven chunks of 256, added in order. -/
theorem sum_chunks (f : Fin 2816 → EReal) :
    (∑ n, f n) = ∑ c : Fin 11, ∑ k : Fin 256, f ⟨256 * c + k, by omega⟩ := by
  rw [← Fin.sum_congr' f (show 11 * 256 = 2816 from rfl), ← finProdFinEquiv.sum_comp, Fintype.sum_prod_type]
  refine Finset.sum_congr rfl fun c _ => Finset.sum_congr rfl fun k _ => congrArg f (Fin.ext ?_)
  simp [finProdFinEquiv, add_comm]

/-- A sum of eleven terms, added in order. -/
theorem sum_eleven (f : Fin 11 → EReal) :
    (∑ c, f c) = f 0 + f 1 + f 2 + f 3 + f 4 + f 5 + f 6 + f 7 + f 8 + f 9 + f 10 := by
  simp only [Fin.sum_univ_castSucc, Finset.univ_eq_empty, Finset.sum_empty, zero_add]
  rfl

end Cert.Post

end
-- ==== Proof.PostBody.lean ====
/- What one grid point of the layer's last kernel leaves in its output block, row by row: `Post.row3` of `Post.row2` of
   `Post.row1` of the block's rows. The eleven chunks of the feed-forward network are one function of the tiles loaded. -/
module

public import proofs.«01_k».proof.Proof.Gen.Kernel2Ideal.Value
public import proofs.«01_k».proof.Proof.PostRow
public import Idealize.ShloMosaic.Lib.Pipeline.ValueKit
public import Idealize.ShloMosaic.Lib.Pointwise

@[expose] public section

set_option maxRecDepth 16384

noncomputable section

namespace Cert.Kernel2Ideal.Value

open Cert.Kernel2Ideal Cert.Kernel2Ideal.Gen Idealize.ShloMosaic Idealize.ShloMosaic.TcCoe Idealize.SL.Sem

/-- A block of rows normed row by row, scaled by `g`. -/
def rmsBlk (x : FVec Ideal S512x1024 .f32) (g : Vec Ideal S1x1x1024 .f32) : FVec Ideal S512x1024 .f32 :=
  mulf (mulf x (broadcastTo S512x1024 (rsqrt (addf (divf (shapeCast S512x1 (multiReduction .add [1] S512 (mulf x x)
    0x00000000#32 reduces_S512x1024_S512 (.inl rfl) rfl) shapeCasts_S512_S512x1)
    (broadcast S512x1 (Scalar.ofBits .f32 0x44800000#32))) (broadcast S512x1 (Scalar.ofBits .f32 0x358637BD#32))))
    broadcasts_S512x1_S512x1024))
    (broadcastTo S512x1024 (shapeCast S1x1024 g shapeCasts_S1x1x1024_S1x1024) broadcasts_S1x1024_S512x1024)

/-- The hidden units of one chunk of the feed-forward network. -/
def unitBlk (h : FVec Ideal S512x1024 .bf16) (wg wu : Vec Ideal S1x1024x256 .bf16) : FVec Ideal S512x256 .bf16 :=
  k0_pay7 h wg wu

/-- One chunk's contribution to the feed-forward network. -/
def chunkBlk (h : FVec Ideal S512x1024 .bf16) (wg wu : Vec Ideal S1x1024x256 .bf16) (wd : Vec Ideal S1x256x1024 .bf16) :
    FVec Ideal S512x1024 .f32 :=
  matmul (φ₁ := .bf16) (φ₂ := .bf16) dot_S512x256_S256x1024_S512x1024_1_0_0_1_n_n none (unitBlk h wg wu)
    (shapeCast S256x1024 wd shapeCasts_S1x256x1024_S256x1024) (constant S512x1024 .f32 0x00000000#32)

/-- The norm of a block, read at a row and a feature. -/
theorem rmsBlk_apply (x : FVec Ideal S512x1024 .f32) (g : Vec Ideal S1x1x1024 .f32) (r : Fin 512) (j : Fin 1024) :
    rmsBlk x g (ix2 r j) = Post.rms (fun k => x (ix2 r k)) (fun k => g (ix3 0 0 k)) j := by
  pointwise [rmsBlk, Post.rms]

/-- A chunk's contribution, read at a row and a feature. -/
theorem chunkBlk_apply (h : FVec Ideal S512x1024 .bf16) (wg wu : Vec Ideal S1x1024x256 .bf16) (wd : Vec Ideal S1x256x1024 .bf16)
    (r : Fin 512) (j : Fin 1024) :
    chunkBlk h wg wu wd (ix2 r j) = ∑ n : Fin 256, ((∑ k, h (ix2 r k) * wg (ix3 0 k n)) *
      Ideal.logistic (∑ k, h (ix2 r k) * wg (ix3 0 k n)) * ∑ k, h (ix2 r k) * wu (ix3 0 k n)) * wd (ix3 0 n j) := by
  pointwise [chunkBlk, unitBlk, k0_pay7]

variable (x0 : Vec Ideal S512x1024 .f32) (x1 : Vec Ideal S512x256 .bf16) (x2 : Vec Ideal S512x512 .bf16) (x3 : Vec Ideal S512x256 .bf16)
  (x4 : Vec Ideal S1x512x256 .f32) (x5 : Vec Ideal S1x1024x1024 .bf16) (x6 x7 : Vec Ideal S1x1x1024 .f32)
  (x8 x9 : Vec Ideal S1x1024x2816 .bf16) (x10 : Vec Ideal S1x2816x1024 .bf16) (x11 x12 : Vec Ideal S1x1x1024 .f32)
  (x13 : Vec Ideal S1x1024x1024 .bf16) (x14 : Vec Ideal S1x256x1024 .bf16) (x15 : Vec Ideal S1x1x1024 .f32)

/-- The mixers' outputs, projected: three products against three parts of the projection. -/
def mixBlk : FVec Ideal S512x1024 .f32 :=
  addf (addf
    (matmul (φ₁ := .bf16) (φ₂ := .bf16) dot_S512x256_S256x1024_S512x1024_1_0_0_1_n_n none x1
      (shapeCast S256x1024 (View.ld x5 (Rect.unit ![0, 0, 0] ![1, 256, 1024] inb_S1x1024x1024_S1x256x1024_0_0_0)) shapeCasts_S1x256x1024_S256x1024)
      (constant S512x1024 .f32 0x00000000#32))
    (matmul (φ₁ := .bf16) (φ₂ := .bf16) dot_S512x512_S512x1024_S512x1024_1_0_0_1_n_n none x2
      (shapeCast S512x1024 (View.ld x5 (Rect.unit ![0, 256, 0] ![1, 512, 1024] inb_S1x1024x1024_S1x512x1024_0_256_0)) shapeCasts_S1x512x1024_S512x1024)
      (constant S512x1024 .f32 0x00000000#32)))
    (matmul (φ₁ := .bf16) (φ₂ := .bf16) dot_S512x256_S256x1024_S512x1024_1_0_0_1_n_n none x3
      (shapeCast S256x1024 (View.ld x5 (Rect.unit ![0, 768, 0] ![1, 256, 1024] inb_S1x1024x1024_S1x256x1024_0_768_0)) shapeCasts_S1x256x1024_S256x1024)
      (constant S512x1024 .f32 0x00000000#32))

/-- The block after the output projection. -/
def blk1 : FVec Ideal S512x1024 .f32 :=
  addf x0 (rmsBlk (mixBlk x1 x2 x3 x5) x6)

/-- The feed-forward network of a block, chunk after chunk. -/
def ffnBlk (h : FVec Ideal S512x1024 .bf16) : FVec Ideal S512x1024 .f32 :=
  addf (addf (addf (addf (addf (addf (addf (addf (addf (addf
    (chunkBlk h (View.ld x8 (Rect.unit ![0, 0, 0] ![1, 1024, 256] inb_S1x1024x2816_S1x1024x256_0_0_0)) (View.ld x9 (Rect.unit ![0, 0, 0] ![1, 1024, 256] inb_S1x1024x2816_S1x1024x256_0_0_0)) (View.ld x10 (Rect.unit ![0, 0, 0] ![1, 256, 1024] inb_S1x2816x1024_S1x256x1024_0_0_0)))
    (chunkBlk h (View.ld x8 (Rect.unit ![0, 0, 256] ![1, 1024, 256] inb_S1x1024x2816_S1x1024x256_0_0_256)) (View.ld x9 (Rect.unit ![0, 0, 256] ![1, 1024, 256] inb_S1x1024x2816_S1x1024x256_0_0_256)) (View.ld x10 (Rect.unit ![0, 256, 0] ![1, 256, 1024] inb_S1x2816x1024_S1x256x1024_0_256_0))))
    (chunkBlk h (View.ld x8 (Rect.unit ![0, 0, 512] ![1, 1024, 256] inb_S1x1024x2816_S1x1024x256_0_0_512)) (View.ld x9 (Rect.unit ![0, 0, 512] ![1, 1024, 256] inb_S1x1024x2816_S1x1024x256_0_0_512)) (View.ld x10 (Rect.unit ![0, 512, 0] ![1, 256, 1024] inb_S1x2816x1024_S1x256x1024_0_512_0))))
    (chunkBlk h (View.ld x8 (Rect.unit ![0, 0, 768] ![1, 1024, 256] inb_S1x1024x2816_S1x1024x256_0_0_768)) (View.ld x9 (Rect.unit ![0, 0, 768] ![1, 1024, 256] inb_S1x1024x2816_S1x1024x256_0_0_768)) (View.ld x10 (Rect.unit ![0, 768, 0] ![1, 256, 1024] inb_S1x2816x1024_S1x256x1024_0_768_0))))
    (chunkBlk h (View.ld x8 (Rect.unit ![0, 0, 1024] ![1, 1024, 256] inb_S1x1024x2816_S1x1024x256_0_0_1024)) (View.ld x9 (Rect.unit ![0, 0, 1024] ![1, 1024, 256] inb_S1x1024x2816_S1x1024x256_0_0_1024)) (View.ld x10 (Rect.unit ![0, 1024, 0] ![1, 256, 1024] inb_S1x2816x1024_S1x256x1024_0_1024_0))))
    (chunkBlk h (View.ld x8 (Rect.unit ![0, 0, 1280] ![1, 1024, 256] inb_S1x1024x2816_S1x1024x256_0_0_1280)) (View.ld x9 (Rect.unit ![0, 0, 1280] ![1, 1024, 256] inb_S1x1024x2816_S1x1024x256_0_0_1280)) (View.ld x10 (Rect.unit ![0, 1280, 0] ![1, 256, 1024] inb_S1x2816x1024_S1x256x1024_0_1280_0))))
    (chunkBlk h (View.ld x8 (Rect.unit ![0, 0, 1536] ![1, 1024, 256] inb_S1x1024x2816_S1x1024x256_0_0_1536)) (View.ld x9 (Rect.unit ![0, 0, 1536] ![1, 1024, 256] inb_S1x1024x2816_S1x1024x256_0_0_1536)) (View.ld x10 (Rect.unit ![0, 1536, 0] ![1, 256, 1024] inb_S1x2816x1024_S1x256x1024_0_1536_0))))
    (chunkBlk h (View.ld x8 (Rect.unit ![0, 0, 1792] ![1, 1024, 256] inb_S1x1024x2816_S1x1024x256_0_0_1792)) (View.ld x9 (Rect.unit ![0, 0, 1792] ![1, 1024, 256] inb_S1x1024x2816_S1x1024x256_0_0_1792)) (View.ld x10 (Rect.unit ![0, 1792, 0] ![1, 256, 1024] inb_S1x2816x1024_S1x256x1024_0_1792_0))))
    (chunkBlk h (View.ld x8 (Rect.unit ![0, 0, 2048] ![1, 1024, 256] inb_S1x1024x2816_S1x1024x256_0_0_2048)) (View.ld x9 (Rect.unit ![0, 0, 2048] ![1, 1024, 256] inb_S1x1024x2816_S1x1024x256_0_0_2048)) (View.ld x10 (Rect.unit ![0, 2048, 0] ![1, 256, 1024] inb_S1x2816x1024_S1x256x1024_0_2048_0))))
    (chunkBlk h (View.ld x8 (Rect.unit ![0, 0, 2304] ![1, 1024, 256] inb_S1x1024x2816_S1x1024x256_0_0_2304)) (View.ld x9 (Rect.unit ![0, 0, 2304] ![1, 1024, 256] inb_S1x1024x2816_S1x1024x256_0_0_2304)) (View.ld x10 (Rect.unit ![0, 2304, 0] ![1, 256, 1024] inb_S1x2816x1024_S1x256x1024_0_2304_0))))
    (chunkBlk h (View.ld x8 (Rect.unit ![0, 0, 2560] ![1, 1024, 256] inb_S1x1024x2816_S1x1024x256_0_0_2560)) (View.ld x9 (Rect.unit ![0, 0, 2560] ![1, 1024, 256] inb_S1x1024x2816_S1x1024x256_0_0_2560)) (View.ld x10 (Rect.unit ![0, 2560, 0] ![1, 256, 1024] inb_S1x2816x1024_S1x256x1024_0_2560_0)))

/-- The block after the feed-forward network. -/
def blk2 (x : FVec Ideal S512x1024 .f32) : FVec Ideal S512x1024 .f32 :=
  addf x (mulf (broadcast S512x1024 (Scalar.ofBits .f32 0x3F000000#32))
    (rmsBlk (ffnBlk x8 x9 x10 (truncf .bf16 (rmsBlk x x7) bitsLt_bf16_f32)) x11))

/-- The gated embedding of a block. -/
def gatedBlk (x : FVec Ideal S512x1024 .f32) : FVec Ideal S512x1024 .f32 :=
  mulf (logistic (matmul (φ₁ := .bf16) (φ₂ := .bf16) dot_S512x1024_S1024x1024_S512x1024_1_0_0_1_n_n none (truncf .bf16 (rmsBlk x x12) bitsLt_bf16_f32)
      (shapeCast S1024x1024 x13 shapeCasts_S1x1024x1024_S1024x1024) (constant S512x1024 .f32 0x00000000#32)))
    (matmul (φ₁ := .bf16) (φ₂ := .bf16) dot_S512x256_S256x1024_S512x1024_1_0_0_1_n_n none
      (truncf .bf16 (shapeCast S512x256 x4 shapeCasts_S1x512x256_S512x256) bitsLt_bf16_f32)
      (shapeCast S256x1024 x14 shapeCasts_S1x256x1024_S256x1024) (constant S512x1024 .f32 0x00000000#32))

/-- The block after the gated embedding. -/
def blk3 (x : FVec Ideal S512x1024 .f32) : FVec Ideal S512x1024 .f32 :=
  addf x (rmsBlk (gatedBlk x4 x12 x13 x14 x) x15)

/-- An entry of the mixed block. -/
theorem mixBlk_apply (r : Fin 512) (j : Fin 1024) :
    mixBlk x1 x2 x3 x5 (ix2 r j) = Post.mix (fun k => x1 (ix2 r k)) (fun k => x2 (ix2 r k)) (fun k => x3 (ix2 r k))
      (fun k j => x5 (ix3 0 k j)) j := by
  pointwise [mixBlk, Post.mix]

/-- The block after the output projection, read at a row and a feature. -/
theorem blk1_apply (r : Fin 512) (j : Fin 1024) :
    blk1 x0 x1 x2 x3 x5 x6 (ix2 r j) = Post.row1 (fun k => x0 (ix2 r k)) (fun k => x1 (ix2 r k)) (fun k => x2 (ix2 r k))
      (fun k => x3 (ix2 r k)) (fun k j => x5 (ix3 0 k j)) (fun k => x6 (ix3 0 0 k)) j := by
  pointwise [blk1, Post.row1]
  simp only [rmsBlk_apply, mixBlk_apply]

/-- The feed-forward network of a block, read at a row and a feature. -/
theorem ffnBlk_apply (h : FVec Ideal S512x1024 .bf16) (r : Fin 512) (j : Fin 1024) :
    ffnBlk x8 x9 x10 h (ix2 r j) = Post.ffn (fun k => h (ix2 r k)) (fun k n => x8 (ix3 0 k n)) (fun k n => x9 (ix3 0 k n))
      (fun n j => x10 (ix3 0 n j)) j := by
  rw [Post.ffn, Post.sum_chunks, Post.sum_eleven]
  pointwise [ffnBlk]
  simp only [chunkBlk_apply]
  pointwise [Post.unit]

/-- The block after the feed-forward network, read at a row and a feature. -/
theorem blk2_apply (x : FVec Ideal S512x1024 .f32) (r : Fin 512) (j : Fin 1024) :
    blk2 x7 x8 x9 x10 x11 x (ix2 r j) = Post.row2 (fun k => x (ix2 r k)) (fun k => x7 (ix3 0 0 k)) (fun k n => x8 (ix3 0 k n))
      (fun k n => x9 (ix3 0 k n)) (fun n j => x10 (ix3 0 n j)) (fun k => x11 (ix3 0 0 k)) j := by
  pointwise [blk2, Post.row2]
  simp only [rmsBlk_apply, ffnBlk_apply]
  pointwise
  simp only [rmsBlk_apply]

/-- The gated embedding of a block, read at a row and a feature. -/
theorem gatedBlk_apply (x : FVec Ideal S512x1024 .f32) (r : Fin 512) (j : Fin 1024) :
    gatedBlk x4 x12 x13 x14 x (ix2 r j) = Post.gated (fun k => x (ix2 r k)) (fun k => x12 (ix3 0 0 k)) (fun k j => x13 (ix3 0 k j))
      (fun k => x4 (ix3 0 r k)) (fun k j => x14 (ix3 0 k j)) j := by
  pointwise [gatedBlk, Post.gated]
  simp only [rmsBlk_apply]

/-- The block after the gated embedding, read at a row and a feature. -/
theorem blk3_apply (x : FVec Ideal S512x1024 .f32) (r : Fin 512) (j : Fin 1024) :
    blk3 x4 x12 x13 x14 x15 x (ix2 r j) = Post.row3 (fun k => x (ix2 r k)) (fun k => x12 (ix3 0 0 k)) (fun k j => x13 (ix3 0 k j))
      (fun k => x4 (ix3 0 r k)) (fun k j => x14 (ix3 0 k j)) (fun k => x15 (ix3 0 0 k)) j := by
  pointwise [blk3, Post.row3]
  simp only [rmsBlk_apply, gatedBlk_apply]

/-- The printed projection of the mixers' outputs, normed. -/
theorem piece_mix :
    k0_pay3 x1 (View.ld x5 (Rect.unit ![0, 0, 0] ![1, 256, 1024] inb_S1x1024x1024_S1x256x1024_0_0_0)) x2
        (View.ld x5 (Rect.unit ![0, 256, 0] ![1, 512, 1024] inb_S1x1024x1024_S1x512x1024_0_256_0)) x3
        (View.ld x5 (Rect.unit ![0, 768, 0] ![1, 256, 1024] inb_S1x1024x1024_S1x256x1024_0_768_0)) x6
      = rmsBlk (mixBlk x1 x2 x3 x5) x6 := by
  simp only [k0_pay3, shapeCast_self]
  rfl

/-- The printed load of the residual stream. -/
theorem piece_load (a : FVec Ideal S512x1024 .f32) : k0_pay2 a = a := by
  simp only [k0_pay2, shapeCast_self]

/-- The printed norm before the feed-forward network. -/
theorem piece_norm (a b : FVec Ideal S512x1024 .f32) (g : Vec Ideal S1x1x1024 .f32) :
    k0_pay6 a b g = truncf .bf16 (rmsBlk (addf a b) g) bitsLt_bf16_f32 := by
  simp only [k0_pay6, k0_pay4, shapeCast_self]
  rfl

/-- The first printed chunk starts the accumulator. -/
theorem piece_first (h : FVec Ideal S512x1024 .bf16) (wg wu : Vec Ideal S1x1024x256 .bf16) (wd : Vec Ideal S1x256x1024 .bf16) :
    k0_pay9 (k0_pay7 h wg wu) (k0_pay8 wd) (constant S512x1024 .f32 0x00000000#32) = chunkBlk h wg wu wd := by
  simp only [k0_pay9, k0_pay8, shapeCast_self]
  rfl

/-- Each printed chunk adds its contribution to the accumulator. -/
theorem pieces_ffn (h : FVec Ideal S512x1024 .bf16) (wg wu : Vec Ideal S1x1024x256 .bf16) (wd : Vec Ideal S1x256x1024 .bf16)
    (acc : FVec Ideal S512x1024 .f32) :
    k0_pay10 h wg wu wd acc = addf acc (chunkBlk h wg wu wd)
    ∧ k0_pay13 h (k0_pay11 h wg) (k0_pay12 wu) wd acc = addf acc (chunkBlk h wg wu wd)
    ∧ k0_pay14 h wg wu wd acc = addf acc (chunkBlk h wg wu wd)
    ∧ k0_pay15 h wg wu wd acc = addf acc (chunkBlk h wg wu wd)
    ∧ k0_pay17 (k0_pay16 h wg wu) wd acc = addf acc (chunkBlk h wg wu wd)
    ∧ k0_pay18 h wg wu wd acc = addf acc (chunkBlk h wg wu wd)
    ∧ k0_pay19 h wg wu wd acc = addf acc (chunkBlk h wg wu wd)
    ∧ k0_pay22 (k0_pay20 h wg wu) (k0_pay21 wd) (constant S512x1024 .f32 0x00000000#32) acc = addf acc (chunkBlk h wg wu wd)
    ∧ k0_pay23 h wg wu wd acc = addf acc (chunkBlk h wg wu wd)
    ∧ k0_pay25 h (k0_pay24 h wg) wu wd acc = addf acc (chunkBlk h wg wu wd) := by
  simp only [k0_pay10, k0_pay11, k0_pay12, k0_pay13, k0_pay14, k0_pay15, k0_pay16, k0_pay17, k0_pay18,
    k0_pay19, k0_pay20, k0_pay21, k0_pay22, k0_pay23, k0_pay24, k0_pay25, shapeCast_self]
  exact ⟨rfl, rfl, rfl, rfl, rfl, rfl, rfl, rfl, rfl, rfl⟩

/-- The printed pieces of the body after the feed-forward network, as the functions above. -/
theorem pieces_end (a y : FVec Ideal S512x1024 .f32) (b : FVec Ideal S1x1024 .f32) (X : FVec Ideal S512x1024 .f32)
    (hX : k0_pay26 a b y = X) :
    k0_pay1 X (k0_pay30 X (k0_pay27 x12) (k0_pay28 a b y) k0_pay29 x13 x4 x14) (k0_pay31 x15) = blk3 x4 x12 x13 x14 x15 X := by
  subst hX
  simp only [k0_pay28]
  generalize k0_pay26 a b y = X
  rfl

/-- What the body leaves in the output's block is the block after the three steps. -/
theorem out_eq (c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15
      = blk3 x4 x12 x13 x14 x15 (blk2 x7 x8 x9 x10 x11 (blk1 x0 x1 x2 x3 x5 x6)) := by
  funext y
  frame_out
  rw [pieces_end _ _ _ _ _ _ _ _ _ rfl]
  refine congrFun (congrArg (blk3 x4 x12 x13 x14 x15) ?_) y
  simp only [piece_mix, piece_load, piece_norm, piece_first, pieces_ffn]
  rfl

end Cert.Kernel2Ideal.Value

end
-- ==== Proof.PostRef.lean ====
/- The reference of the layer's last part, read at a token and a feature: `Post.row3` of `Post.row2` of `Post.row1`. -/
module

public import proofs.«01_k».proof.Proof.Gen.Reference2Ideal.Read
public import proofs.«01_k».proof.Proof.PostRow
public import Idealize.ShloMosaic.Lib.Pipeline.ValueKit
public import Idealize.ShloMosaic.Lib.Pointwise

@[expose] public section

set_option maxRecDepth 16384

noncomputable section

namespace Cert.Reference2Ideal.Read

open Cert.Reference2Ideal Cert.Reference2Ideal.Gen Idealize.ShloMosaic Idealize.ShloMosaic.TcCoe Idealize.SL.Sem

variable (x0 : FVec Ideal S8x2048x1024 .f32) (x1 : FVec Ideal S8x2048x256 .f32) (x2 : FVec Ideal S8x2048x512 .f32)
  (x3 : FVec Ideal S8x2048x256 .f32) (x4 : FVec Ideal S2x8x2048x256 .f32) (x5 : FVec Ideal S2x1024x1024 .f32)
  (x6 x7 : FVec Ideal S2x1024 .f32) (x8 x9 : FVec Ideal S2x1024x2816 .f32) (x10 : FVec Ideal S2x2816x1024 .f32)
  (x11 x12 : FVec Ideal S2x1024 .f32) (x13 : FVec Ideal S2x1024x1024 .f32) (x14 : FVec Ideal S2x256x1024 .f32)
  (x15 : FVec Ideal S2x1024 .f32) (b : Fin 8) (r : Fin 2048)

/-- An entry of the mixers' outputs projected. -/
theorem v3_row (j : Fin 1024) :
    val_main_v3 (F := Ideal) x1 x2 x3 x5 (ix3 b r j) = Post.mix (fun k => x1 (ix3 b r k)) (fun k => x2 (ix3 b r k))
      (fun k => x3 (ix3 b r k)) (fun k j => x5 (ix3 1 k j)) j := by
  pointwise [val_main_v3, val_main_v0, val_main_v2, val_main_v1, Post.mix]
  rw [Post.sum_mixers]
  refine congrArg₂ (· + ·) (congrArg₂ (· + ·) (Finset.sum_congr rfl fun k _ => ?_) (Finset.sum_congr rfl fun k _ => ?_))
    (Finset.sum_congr rfl fun k _ => ?_)
  · simp
  · simp
  · simp [show ¬ 768 + (k : ℕ) < 256 by omega, show ¬ 768 + (k : ℕ) - 256 < 512 by omega,
      show 768 + (k : ℕ) - 256 - 512 = k by omega]

/-- An entry of the stream after mixing. -/
theorem v19_row (j : Fin 1024) :
    val_main_v19 (F := Ideal) x0 x1 x2 x3 x5 x6 (ix3 b r j) = Post.row1 (fun k => x0 (ix3 b r k)) (fun k => x1 (ix3 b r k))
      (fun k => x2 (ix3 b r k)) (fun k => x3 (ix3 b r k)) (fun k j => x5 (ix3 1 k j)) (fun k => x6 (ix2 1 k)) j := by
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_cst,
    val_main_cst_0, val_main_cst_1, Post.row1, Post.rms]
  simp only [v3_row]

/-- An entry of the network's normalised input. -/
theorem v34_row (j : Fin 1024) :
    val_main_v34 (F := Ideal) x0 x1 x2 x3 x5 x6 x7 (ix3 b r j) = Post.rms
      (fun k => val_main_v19 (F := Ideal) x0 x1 x2 x3 x5 x6 (ix3 b r k)) (fun k => x7 (ix2 1 k)) j := by
  pointwise [val_main_v34, val_main_v33, val_main_v32, val_main_v31, val_main_v30, val_main_v29, val_main_v28, val_main_v27,
    val_main_v26, val_main_v25, val_main_v24, val_main_v23, val_main_v22, val_main_v21, val_main_v20, val_main_cst_2,
    val_main_cst_3, val_main_cst_4, Post.rms]

/-- An entry of the gated product. -/
theorem v44_row (n : Fin 2816) :
    val_main_v44 (F := Ideal) x0 x1 x2 x3 x5 x6 x7 x8 x9 (ix3 b r n) = Post.unit
      (fun k => val_main_v34 (F := Ideal) x0 x1 x2 x3 x5 x6 x7 (ix3 b r k)) (fun k n => x8 (ix3 1 k n))
      (fun k n => x9 (ix3 1 k n)) n := by
  pointwise [val_main_v44, val_main_v43, val_main_v42, val_main_v41, val_main_v38, val_main_v37, val_main_v36, val_main_v35,
    val_main_call0_v5, val_main_call0_v4, val_main_call0_v3, val_main_call0_v2, val_main_call0_v1, val_main_call0_v0, val_main_call0_cst,
    val_main_call0_cst_0,     Post.unit, Ideal.logistic]

/-- An entry of the network's output. -/
theorem v45_row (j : Fin 1024) :
    val_main_v45 (F := Ideal) x0 x1 x2 x3 x5 x6 x7 x8 x9 x10 (ix3 b r j) = Post.ffn
      (fun k => val_main_v34 (F := Ideal) x0 x1 x2 x3 x5 x6 x7 (ix3 b r k)) (fun k n => x8 (ix3 1 k n))
      (fun k n => x9 (ix3 1 k n)) (fun n k => x10 (ix3 1 n k)) j := by
  pointwise [val_main_v45, val_main_v40, val_main_v39, v44_row, Post.ffn]

/-- An entry of the stream after the network. -/
theorem v60_row (j : Fin 1024) :
    val_main_v60 (F := Ideal) x0 x1 x2 x3 x5 x6 x7 x8 x9 x10 x11 (ix3 b r j) = Post.rms
      (fun k => val_main_v45 (F := Ideal) x0 x1 x2 x3 x5 x6 x7 x8 x9 x10 (ix3 b r k)) (fun k => x11 (ix2 1 k)) j := by
  pointwise [val_main_v60, val_main_v59, val_main_v58, val_main_v57, val_main_v56,
    val_main_v55, val_main_v54, val_main_v53, val_main_v52, val_main_v51, val_main_v50, val_main_v49, val_main_v48,
    val_main_v47, val_main_v46, val_main_cst_5, val_main_cst_6, val_main_cst_7, Post.rms]

/-- An entry of the gate's normalised input. -/
theorem v63_row (j : Fin 1024) :
    val_main_v63 (F := Ideal) x0 x1 x2 x3 x5 x6 x7 x8 x9 x10 x11 (ix3 b r j) = Post.row2
      (fun k => val_main_v19 (F := Ideal) x0 x1 x2 x3 x5 x6 (ix3 b r k)) (fun k => x7 (ix2 1 k))
      (fun k n => x8 (ix3 1 k n)) (fun k n => x9 (ix3 1 k n)) (fun n k => x10 (ix3 1 n k)) (fun k => x11 (ix2 1 k)) j := by
  have h34 : (fun k => val_main_v34 (F := Ideal) x0 x1 x2 x3 x5 x6 x7 (ix3 b r k)) = Post.rms _ _ :=
    funext fun k => v34_row x0 x1 x2 x3 x5 x6 x7 b r k
  have h45 : (fun k => val_main_v45 (F := Ideal) x0 x1 x2 x3 x5 x6 x7 x8 x9 x10 (ix3 b r k)) = Post.ffn _ _ _ _ :=
    funext fun k => v45_row x0 x1 x2 x3 x5 x6 x7 x8 x9 x10 b r k
  rw [Post.row2, ← h34, ← h45, ← v60_row]
  pointwise [val_main_v63, val_main_v62, val_main_v61, val_main_cst_8]

/-- An entry of the gated embedding. -/
theorem v93_row (j : Fin 1024) :
    val_main_v93 (F := Ideal) x0 x1 x2 x3 x4 x5 x6 x7 x8 x9 x10 x11 x12 x13 x14 (ix3 b r j) = Post.gated
      (fun k => val_main_v63 (F := Ideal) x0 x1 x2 x3 x5 x6 x7 x8 x9 x10 x11 (ix3 b r k)) (fun k => x12 (ix2 1 k))
      (fun k j => x13 (ix3 1 k j)) (fun k => x4 (ix4 1 b r k)) (fun k j => x14 (ix3 1 k j)) j := by
  pointwise [val_main_v93, val_main_v92, val_main_v91, val_main_v90, val_main_v89, val_main_v88, val_main_v87, val_main_v86,
    val_main_v85, val_main_v84, val_main_v83, val_main_v82, val_main_v81, val_main_v80, val_main_v79, val_main_v78,
    val_main_v77, val_main_v76, val_main_v75, val_main_v74, val_main_v73, val_main_v72, val_main_v71, val_main_v70,
    val_main_v69, val_main_v68, val_main_v67, val_main_v66, val_main_v65, val_main_v64, val_main_cst_9,
    val_main_cst_10, val_main_cst_11, val_main_cst_12, val_main_cst_13, Post.gated, Post.rms, Ideal.logistic]

/-- An entry of the result. -/
theorem v109_row (j : Fin 1024) :
    val_main_v109 (F := Ideal) x0 x1 x2 x3 x4 x5 x6 x7 x8 x9 x10 x11 x12 x13 x14 x15 (ix3 b r j) = Post.row3
      (fun k => val_main_v63 (F := Ideal) x0 x1 x2 x3 x5 x6 x7 x8 x9 x10 x11 (ix3 b r k)) (fun k => x12 (ix2 1 k))
      (fun k j => x13 (ix3 1 k j)) (fun k => x4 (ix4 1 b r k)) (fun k j => x14 (ix3 1 k j)) (fun k => x15 (ix2 1 k)) j := by
  pointwise [val_main_v109, val_main_v108, val_main_v107, val_main_v106, val_main_v105, val_main_v104, val_main_v103,
    val_main_v102, val_main_v101, val_main_v100, val_main_v99, val_main_v98, val_main_v97, val_main_v96, val_main_v95,
    val_main_v94, val_main_cst_14, val_main_cst_15, val_main_cst_16, v93_row, Post.row3, Post.rms]

/-- The reference's result at token `R` of the flattened batch: the three residual steps of the layer's last part. -/
theorem result_row (R : Fin 16384) (j : Fin 1024) (hb : R.val / 2048 < 8) (hr : R.val % 2048 < 2048) :
    val_main_v110 (F := Ideal) x0 x1 x2 x3 x4 x5 x6 x7 x8 x9 x10 x11 x12 x13 x14 x15 (ix2 R j) =
      Post.row3 (Post.row2 (Post.row1 (fun k => x0 (ix3 ⟨R.val / 2048, hb⟩ ⟨R.val % 2048, hr⟩ k))
          (fun k => x1 (ix3 ⟨R.val / 2048, hb⟩ ⟨R.val % 2048, hr⟩ k)) (fun k => x2 (ix3 ⟨R.val / 2048, hb⟩ ⟨R.val % 2048, hr⟩ k))
          (fun k => x3 (ix3 ⟨R.val / 2048, hb⟩ ⟨R.val % 2048, hr⟩ k)) (fun k j => x5 (ix3 1 k j)) (fun k => x6 (ix2 1 k)))
        (fun k => x7 (ix2 1 k)) (fun k n => x8 (ix3 1 k n)) (fun k n => x9 (ix3 1 k n)) (fun n k => x10 (ix3 1 n k))
        (fun k => x11 (ix2 1 k))) (fun k => x12 (ix2 1 k)) (fun k j => x13 (ix3 1 k j))
        (fun k => x4 (ix4 1 ⟨R.val / 2048, hb⟩ ⟨R.val % 2048, hr⟩ k)) (fun k j => x14 (ix3 1 k j)) (fun k => x15 (ix2 1 k)) j := by
  have h : val_main_v110 (F := Ideal) x0 x1 x2 x3 x4 x5 x6 x7 x8 x9 x10 x11 x12 x13 x14 x15 (ix2 R j) =
      val_main_v109 (F := Ideal) x0 x1 x2 x3 x4 x5 x6 x7 x8 x9 x10 x11 x12 x13 x14 x15
        (ix3 ⟨R.val / 2048, hb⟩ ⟨R.val % 2048, hr⟩ j) := by
    pointwise [val_main_v110]
  rw [h, v109_row]
  simp only [v63_row, v19_row]

end Cert.Reference2Ideal.Read

end
-- ==== Proof.PostFinal.lean ====
/- The kernel of the layer's last part and its reference compute the same rows. -/
module

public import proofs.«01_k».proof.Defs
public import proofs.«01_k».proof.Proof.Gen.Kernel2Ideal
public import proofs.«01_k».proof.Proof.Gen.Reference2Ideal
public import proofs.«01_k».proof.Proof.PostBody
public import proofs.«01_k».proof.Proof.PostRef
public import proofs.«01_k».proof.Proof.Gen.Reference2Ideal.Run

@[expose] public section

set_option maxRecDepth 16384

noncomputable section

namespace Cert.Kernel2Ideal.Value

open Cert.Kernel2Ideal Cert.Kernel2Ideal.Gen Idealize.ShloMosaic.StableHlo Idealize.ShloMosaic Idealize.ShloMosaic.TcCoe Idealize.SL.Sem

variable (m : (ℓ : Loc nD τ sig) → Buf (Elt Ideal) ℓ)

/-- The row blocks at grid point `t`. -/
theorem index_rows : ∀ t : Fin grid0.N, win0_16.index t = ![t.val, 0] ∧ win0_0.index t = ![t.val, 0] ∧ win0_1.index t = ![t.val, 0]
    ∧ win0_2.index t = ![t.val, 0] ∧ win0_3.index t = ![t.val, 0] ∧ win0_4.index t = ![1, t.val, 0] := by decide +kernel
/-- The weights' blocks are the second layer's. -/
theorem index_weights : ∀ t : Fin grid0.N, win0_5.index t = ![1, 0, 0] ∧ win0_6.index t = ![1, 0, 0] ∧ win0_7.index t = ![1, 0, 0]
    ∧ win0_8.index t = ![1, 0, 0] ∧ win0_9.index t = ![1, 0, 0] ∧ win0_10.index t = ![1, 0, 0] ∧ win0_11.index t = ![1, 0, 0]
    ∧ win0_12.index t = ![1, 0, 0] ∧ win0_13.index t = ![1, 0, 0] ∧ win0_14.index t = ![1, 0, 0] ∧ win0_15.index t = ![1, 0, 0] := by
  decide +kernel

/-- An entry of the residual stream as the kernel is given it. -/
theorem read0 (c : Dev nD) (t : Fin cfg0.N) (r : Fin 512) (k : Fin 1024) (hb : (t.val * 512 + r.val) / 2048 < 8)
    (hr : (t.val * 512 + r.val) % 2048 < 2048) : iblk m c 0 t (ix2 r k)
      = m ((c : Thread nD τ).loc main_arg0) (ix3 ⟨(t.val * 512 + r.val) / 2048, hb⟩ ⟨(t.val * 512 + r.val) % 2048, hr⟩ k) := by
  blk_simp [iblk]
  entry_read
  pointwise
  blk_ext! [(index_rows t).2.1]

/-- An entry of the attention's output as the kernel is given it. -/
theorem read1 (c : Dev nD) (t : Fin cfg0.N) (r : Fin 512) (k : Fin 256) (hb : (t.val * 512 + r.val) / 2048 < 8)
    (hr : (t.val * 512 + r.val) % 2048 < 2048) : iblk m c 1 t (ix2 r k)
      = m ((c : Thread nD τ).loc main_arg1) (ix3 ⟨(t.val * 512 + r.val) / 2048, hb⟩ ⟨(t.val * 512 + r.val) % 2048, hr⟩ k) := by
  blk_simp [iblk]
  entry_read
  pointwise
  blk_ext! [(index_rows t).2.2.1]

/-- An entry of the latent attention's output as the kernel is given it. -/
theorem read2 (c : Dev nD) (t : Fin cfg0.N) (r : Fin 512) (k : Fin 512) (hb : (t.val * 512 + r.val) / 2048 < 8)
    (hr : (t.val * 512 + r.val) % 2048 < 2048) : iblk m c 2 t (ix2 r k)
      = m ((c : Thread nD τ).loc main_arg2) (ix3 ⟨(t.val * 512 + r.val) / 2048, hb⟩ ⟨(t.val * 512 + r.val) % 2048, hr⟩ k) := by
  blk_simp [iblk]
  entry_read
  pointwise
  blk_ext! [(index_rows t).2.2.2.1]

/-- An entry of the convolution's output as the kernel is given it. -/
theorem read3 (c : Dev nD) (t : Fin cfg0.N) (r : Fin 512) (k : Fin 256) (hb : (t.val * 512 + r.val) / 2048 < 8)
    (hr : (t.val * 512 + r.val) % 2048 < 2048) : iblk m c 3 t (ix2 r k)
      = m ((c : Thread nD τ).loc main_arg3) (ix3 ⟨(t.val * 512 + r.val) / 2048, hb⟩ ⟨(t.val * 512 + r.val) % 2048, hr⟩ k) := by
  blk_simp [iblk]
  entry_read
  pointwise
  blk_ext! [(index_rows t).2.2.2.2.1]

/-- An entry of the embedding as the kernel is given it. -/
theorem read4 (c : Dev nD) (t : Fin cfg0.N) (r : Fin 512) (k : Fin 256) (hb : (t.val * 512 + r.val) / 2048 < 8)
    (hr : (t.val * 512 + r.val) % 2048 < 2048) : iblk m c 4 t (ix3 0 r k)
      = m ((c : Thread nD τ).loc main_arg4) (ix4 1 ⟨(t.val * 512 + r.val) / 2048, hb⟩ ⟨(t.val * 512 + r.val) % 2048, hr⟩ k) := by
  blk_simp [iblk]
  entry_read
  pointwise
  blk_ext! [(index_rows t).2.2.2.2.2]

/-- An entry of the output projection as the kernel is given it. -/
theorem read5 (c : Dev nD) (t : Fin cfg0.N) (k : Fin 1024) (n : Fin 1024) :
    iblk m c 5 t (ix3 0 k n) = m ((c : Thread nD τ).loc main_arg5) (ix3 1 k n) := by
  blk_simp [iblk]
  entry_read
  pointwise
  blk_ext! [(index_weights t).1]

/-- An entry of the mixers' gain as the kernel is given it. -/
theorem read6 (c : Dev nD) (t : Fin cfg0.N) (k : Fin 1024) :
    iblk m c 6 t (ix3 0 0 k) = m ((c : Thread nD τ).loc main_arg6) (ix2 1 k) := by
  blk_simp [iblk]
  entry_read
  pointwise
  blk_ext! [(index_weights t).2.1]

/-- An entry of the network's first gain as the kernel is given it. -/
theorem read7 (c : Dev nD) (t : Fin cfg0.N) (k : Fin 1024) :
    iblk m c 7 t (ix3 0 0 k) = m ((c : Thread nD τ).loc main_arg7) (ix2 1 k) := by
  blk_simp [iblk]
  entry_read
  pointwise
  blk_ext! [(index_weights t).2.2.1]

/-- An entry of the gate weights as the kernel is given it. -/
theorem read8 (c : Dev nD) (t : Fin cfg0.N) (k : Fin 1024) (n : Fin 2816) :
    iblk m c 8 t (ix3 0 k n) = m ((c : Thread nD τ).loc main_arg8) (ix3 1 k n) := by
  blk_simp [iblk]
  entry_read
  pointwise
  blk_ext! [(index_weights t).2.2.2.1]

/-- An entry of the up weights as the kernel is given it. -/
theorem read9 (c : Dev nD) (t : Fin cfg0.N) (k : Fin 1024) (n : Fin 2816) :
    iblk m c 9 t (ix3 0 k n) = m ((c : Thread nD τ).loc main_arg9) (ix3 1 k n) := by
  blk_simp [iblk]
  entry_read
  pointwise
  blk_ext! [(index_weights t).2.2.2.2.1]

/-- An entry of the down weights as the kernel is given it. -/
theorem read10 (c : Dev nD) (t : Fin cfg0.N) (k : Fin 2816) (n : Fin 1024) :
    iblk m c 10 t (ix3 0 k n) = m ((c : Thread nD τ).loc main_arg10) (ix3 1 k n) := by
  blk_simp [iblk]
  entry_read
  pointwise
  blk_ext! [(index_weights t).2.2.2.2.2.1]

/-- An entry of the network's last gain as the kernel is given it. -/
theorem read11 (c : Dev nD) (t : Fin cfg0.N) (k : Fin 1024) :
    iblk m c 11 t (ix3 0 0 k) = m ((c : Thread nD τ).loc main_arg11) (ix2 1 k) := by
  blk_simp [iblk]
  entry_read
  pointwise
  blk_ext! [(index_weights t).2.2.2.2.2.2.1]

/-- An entry of the embedding's first gain as the kernel is given it. -/
theorem read12 (c : Dev nD) (t : Fin cfg0.N) (k : Fin 1024) :
    iblk m c 12 t (ix3 0 0 k) = m ((c : Thread nD τ).loc main_arg12) (ix2 1 k) := by
  blk_simp [iblk]
  entry_read
  pointwise
  blk_ext! [(index_weights t).2.2.2.2.2.2.2.1]

/-- An entry of the embedding's gate as the kernel is given it. -/
theorem read13 (c : Dev nD) (t : Fin cfg0.N) (k : Fin 1024) (n : Fin 1024) :
    iblk m c 13 t (ix3 0 k n) = m ((c : Thread nD τ).loc main_arg13) (ix3 1 k n) := by
  blk_simp [iblk]
  entry_read
  pointwise
  blk_ext! [(index_weights t).2.2.2.2.2.2.2.2.1]

/-- An entry of the embedding's projection as the kernel is given it. -/
theorem read14 (c : Dev nD) (t : Fin cfg0.N) (k : Fin 256) (n : Fin 1024) :
    iblk m c 14 t (ix3 0 k n) = m ((c : Thread nD τ).loc main_arg14) (ix3 1 k n) := by
  blk_simp [iblk]
  entry_read
  pointwise
  blk_ext! [(index_weights t).2.2.2.2.2.2.2.2.2.1]

/-- An entry of the embedding's last gain as the kernel is given it. -/
theorem read15 (c : Dev nD) (t : Fin cfg0.N) (k : Fin 1024) :
    iblk m c 15 t (ix3 0 0 k) = m ((c : Thread nD τ).loc main_arg15) (ix2 1 k) := by
  blk_simp [iblk]
  entry_read
  pointwise
  blk_ext! [(index_weights t).2.2.2.2.2.2.2.2.2.2]

/-- The kernel's result array: the reference's term at the launch memory's arguments. -/
theorem arr16 (c : Dev nD) : (dats m 0 c).arrAt 16 cfg0.N = Cert.Reference2Ideal.Read.val_main_v110 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 16 _ (by decide +kernel) fun t hf y => ?_
  blk_simp
  rw [after0_16, outsAt0, out_eq]
  idx_vars y
  have ht : t.val < 32 := t.isLt
  have hb : (t.val * 512 + y0.val) / 2048 < 8 := by omega
  have hr : (t.val * 512 + y0.val) % 2048 < 2048 := by omega
  have e : ((View.whole main_v19).slice (win0_16.rect t)).emb (ix2 y0 y1) = ix2 ⟨t.val * 512 + y0.val, by omega⟩ y1 := by
    blk_ext! [(index_rows t).1]
  rw [e, Cert.Reference2Ideal.Read.result_row _ _ _ _ _ _ _ _ _ _ _ _ _ _ _ _ _ _ hb hr, blk3_apply]
  simp only [blk2_apply, blk1_apply, read0 m c t _ _ hb hr, read1 m c t _ _ hb hr, read2 m c t _ _ hb hr, read3 m c t _ _ hb hr,
    read4 m c t _ _ hb hr, read5, read6, read7, read8, read9, read10, read11, read12, read13, read14, read15]

/-- The kernel and the reference of the layer's last part end with equal results, over the extended reals. -/
theorem post_algebraic : Cert.algebraic_Kernel2Ideal_Reference2Ideal := by
  intro m ρ m' ρ' _ hargs
  refine ⟨fun c => (dats m 0 c).arrAt 16 cfg0.N, run_blocks m ρ, ?_⟩
  refine (θ_run Cert.Reference2Ideal.defs _ _).mono (fun r h c => ⟨(h c).1.trans ?_, (h c).2⟩) (Cert.Reference2Ideal.Value.run m' ρ')
  obtain ⟨h0, h1, h2, h3, h4, h5, h6, h7, h8, h9, h10, h11, h12, h13, h14, h15⟩ := hargs c
  refine (Cert.Reference2Ideal.Read.val_main_v110_eq (launchContents m' c)).trans (Eq.trans ?_ (arr16 m c).symm)
  rw [← h0, ← h1, ← h2, ← h3, ← h4, ← h5, ← h6, ← h7, ← h8, ← h9, ← h10, ← h11, ← h12, ← h13, ← h14, ← h15]

end Cert.Kernel2Ideal.Value

end
-- ==== Proof.PreRun.lean ====
/- The body of the layer's first kernel, run once at any grid point. It reads its fifteen inputs, which it leaves as they
   were, and writes eleven outputs. What it leaves in the outputs spoken of is named as the pieces stored; the other
   outputs and the three scratch buffers end at some contents. -/
module

public import proofs.«01_k».proof.Proof.Gen.Kernel3Ideal.Frame
public import proofs.«01_k».proof.Proof.Gen.Kernel3Ideal.Skeleton

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole)
  (arg2 : Memref sig .tc .vmem S1x1x1024 .f32) (harg2 : arg2.IsWhole)
  (arg3 : Memref sig .tc .vmem S1x1024x2816 .bf16) (harg3 : arg3.IsWhole)
  (arg4 : Memref sig .tc .vmem S1x1024x2816 .bf16) (harg4 : arg4.IsWhole)
  (arg5 : Memref sig .tc .vmem S1x2816x1024 .bf16) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1024x2304 .bf16) (harg8 : arg8.IsWhole)
  (arg9 : Memref sig .tc .vmem S1x1x384 .f32) (harg9 : arg9.IsWhole)
  (arg10 : Memref sig .tc .vmem S1x384x1024 .bf16) (harg10 : arg10.IsWhole)
  (arg11 : Memref sig .tc .vmem S1x1x256 .f32) (harg11 : arg11.IsWhole)
  (arg12 : Memref sig .tc .vmem S1x256x1536 .bf16) (harg12 : arg12.IsWhole)
  (arg13 : Memref sig .tc .vmem S1x3x256 .f32) (harg13 : arg13.IsWhole)
  (arg14 : Memref sig .tc .vmem S512x128 .f32) (harg14 : arg14.IsWhole)
  (arg15 : Memref sig .tc .vmem S512x128 .f32) (harg15 : arg15.IsWhole)
  (arg16 : Memref sig .tc .vmem S512x1024 .f32) (harg16 : arg16.IsWhole)
  (arg17 : Memref sig .tc .vmem S512x256 .bf16) (harg17 : arg17.IsWhole)
  (arg18 : Memref sig .tc .vmem S512x256 .bf16) (harg18 : arg18.IsWhole)
  (arg19 : Memref sig .tc .vmem S512x256 .bf16) (harg19 : arg19.IsWhole)
  (arg20 : Memref sig .tc .vmem S512x256 .bf16) (harg20 : arg20.IsWhole)
  (arg21 : Memref sig .tc .vmem S512x256 .bf16) (harg21 : arg21.IsWhole)
  (arg22 : Memref sig .tc .vmem S512x1024 .bf16) (harg22 : arg22.IsWhole)
  (arg23 : Memref sig .tc .vmem S512x1024 .bf16) (harg23 : arg23.IsWhole)
  (arg24 : Memref sig .tc .vmem S1x512x512 .bf16) (harg24 : arg24.IsWhole)
  (arg25 : Memref sig .tc .vmem S1x512x512 .bf16) (harg25 : arg25.IsWhole)
  (arg26 : Memref sig .tc .vmem S512x256 .bf16) (harg26 : arg26.IsWhole)
  (arg27 : Memref sig .tc .vmem S512x1024 .bf16) (harg27 : arg27.IsWhole)
  (arg28 : Memref sig .tc .vmem S512x1024 .f32) (harg28 : arg28.IsWhole)
  (arg29 : Memref sig .tc .vmem S8x256 .f32) (harg29 : arg29.IsWhole)
  (x0 : Vec F S512x1024 .f32) (x1 : Vec F S1x1x1024 .f32) (x2 : Vec F S1x1024x2816 .bf16) (x3 : Vec F S1x1024x2816 .bf16)
  (x4 : Vec F S1x2816x1024 .bf16) (x5 : Vec F S1x1x1024 .f32) (x6 : Vec F S1x1x1024 .f32) (x7 : Vec F S1x1024x2304 .bf16)
  (x8 : Vec F S1x1x384 .f32) (x9 : Vec F S1x384x1024 .bf16) (x10 : Vec F S1x1x256 .f32) (x11 : Vec F S1x256x1536 .bf16)
  (x12 : Vec F S1x3x256 .f32) (x13 : Vec F S512x128 .f32) (x14 : Vec F S512x128 .f32)

set_option maxHeartbeats 4000000 in
/-- The pieces the body stores into the outputs spoken of, with the proof that the body, started on inputs holding
    `x0 … x14` and on outputs and scratch buffers holding anything, ends with those pieces written and the inputs kept. -/
def premixRun :
    Σ' (L15 : List (View.Piece (Elt F) S512x1024 .f32)),
    Σ' (L16 : List (View.Piece (Elt F) S512x256 .bf16)),
    Σ' (L17 : List (View.Piece (Elt F) S512x256 .bf16)),
    Σ' (L18 : List (View.Piece (Elt F) S512x256 .bf16)),
    Σ' (L19 : List (View.Piece (Elt F) S512x256 .bf16)),
    Σ' (L20 : List (View.Piece (Elt F) S512x256 .bf16)),
    Σ' (L21 : List (View.Piece (Elt F) S512x1024 .bf16)),
    Σ' (L22 : List (View.Piece (Elt F) S512x1024 .bf16)),
    Σ' (L23 : List (View.Piece (Elt F) S1x512x512 .bf16)),
    { L24 : List (View.Piece (Elt F) S1x512x512 .bf16) //
      ∀ (E : Set ℕ) (K : PUnit → sProp 𝕄),
        iprop(owns (c : Thread nD τ) arg1 fullShare x0 ∗ owns (c : Thread nD τ) arg2 fullShare x1 ∗ owns (c : Thread nD τ)
          arg3 fullShare x2 ∗ owns (c : Thread nD τ) arg4 fullShare x3 ∗ owns (c : Thread nD τ) arg5 fullShare x4 ∗ owns
          (c : Thread nD τ) arg6 fullShare x5 ∗ owns (c : Thread nD τ) arg7 fullShare x6 ∗ owns (c : Thread nD τ) arg8
          fullShare x7 ∗ owns (c : Thread nD τ) arg9 fullShare x8 ∗ owns (c : Thread nD τ) arg10 fullShare x9 ∗ owns (c :
          Thread nD τ) arg11 fullShare x10 ∗ owns (c : Thread nD τ) arg12 fullShare x11 ∗ owns (c : Thread nD τ) arg13
          fullShare x12 ∗ owns (c : Thread nD τ) arg14 fullShare x13 ∗ owns (c : Thread nD τ) arg15 fullShare x14
          ∗ (∃ d, owns (c : Thread nD τ) arg16 fullShare d) ∗ (∃ d, owns (c : Thread nD τ) arg17 fullShare d) ∗ (∃ d, owns
          (c : Thread nD τ) arg18 fullShare d) ∗ (∃ d, owns (c : Thread nD τ) arg19 fullShare d) ∗ (∃ d, owns (c : Thread
          nD τ) arg20 fullShare d) ∗ (∃ d, owns (c : Thread nD τ) arg21 fullShare d) ∗ (∃ d, owns (c : Thread nD τ) arg22
          fullShare d) ∗ (∃ d, owns (c : Thread nD τ) arg23 fullShare d) ∗ (∃ d, owns (c : Thread nD τ) arg24 fullShare
          d) ∗ (∃ d, owns (c : Thread nD τ) arg25 fullShare d) ∗ (∃ d, owns (c : Thread nD τ) arg26 fullShare d) ∗ (∃ d,
          owns (c : Thread nD τ) arg27 fullShare d) ∗ (∃ d, owns (c : Thread nD τ) arg28 fullShare d) ∗ (∃ d, owns (c :
          Thread nD τ) arg29 fullShare d)
          ∗ (iprop(owns (c : Thread nD τ) arg1 fullShare x0 ∗ owns (c : Thread nD τ) arg2 fullShare x1 ∗ owns (c : Thread nD τ)
            arg3 fullShare x2 ∗ owns (c : Thread nD τ) arg4 fullShare x3 ∗ owns (c : Thread nD τ) arg5 fullShare x4 ∗ owns
            (c : Thread nD τ) arg6 fullShare x5 ∗ owns (c : Thread nD τ) arg7 fullShare x6 ∗ owns (c : Thread nD τ) arg8
            fullShare x7 ∗ owns (c : Thread nD τ) arg9 fullShare x8 ∗ owns (c : Thread nD τ) arg10 fullShare x9 ∗ owns (c :
            Thread nD τ) arg11 fullShare x10 ∗ owns (c : Thread nD τ) arg12 fullShare x11 ∗ owns (c : Thread nD τ) arg13
            fullShare x12 ∗ owns (c : Thread nD τ) arg14 fullShare x13 ∗ owns (c : Thread nD τ) arg15 fullShare x14
            ∗ (∃ f, arg16.view.loc (c : Thread nD τ) ↦[arg16.view.set]{fullShare} arg16.view.writes (Elt F) f L15) ∗ (∃ f,
            arg17.view.loc (c : Thread nD τ) ↦[arg17.view.set]{fullShare} arg17.view.writes (Elt F) f L16) ∗ (∃ f,
            arg18.view.loc (c : Thread nD τ) ↦[arg18.view.set]{fullShare} arg18.view.writes (Elt F) f L17) ∗ (∃ f,
            arg19.view.loc (c : Thread nD τ) ↦[arg19.view.set]{fullShare} arg19.view.writes (Elt F) f L18) ∗ (∃ f,
            arg20.view.loc (c : Thread nD τ) ↦[arg20.view.set]{fullShare} arg20.view.writes (Elt F) f L19) ∗ (∃ f,
            arg21.view.loc (c : Thread nD τ) ↦[arg21.view.set]{fullShare} arg21.view.writes (Elt F) f L20) ∗ (∃ f,
            arg22.view.loc (c : Thread nD τ) ↦[arg22.view.set]{fullShare} arg22.view.writes (Elt F) f L21) ∗ (∃ f,
            arg23.view.loc (c : Thread nD τ) ↦[arg23.view.set]{fullShare} arg23.view.writes (Elt F) f L22) ∗ (∃ f,
            arg24.view.loc (c : Thread nD τ) ↦[arg24.view.set]{fullShare} arg24.view.writes (Elt F) f L23) ∗ (∃ f,
            arg25.view.loc (c : Thread nD τ) ↦[arg25.view.set]{fullShare} arg25.view.writes (Elt F) f L24) ∗ (∃ d, owns (c
            : Thread nD τ) arg26 fullShare d) ∗ (∃ d, owns (c : Thread nD τ) arg27 fullShare d) ∗ (∃ d, owns (c : Thread nD
            τ) arg28 fullShare d) ∗ (∃ d, owns (c : Thread nD τ) arg29 fullShare d)) -∗ K ⟨⟩))
        ⊢ wp frame (wpE (defs₀ (F := F)) Variants.none c none) E
          (cc0_premix i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18 arg19
            harg19 arg20 harg20 arg21 harg21 arg22 harg22 arg23 harg23 arg24 harg24 arg25 harg25 arg26 harg26 arg27 harg27
            arg28 harg28 arg29 harg29) K } := by
  refine ⟨?_, ?_, ?_, ?_, ?_, ?_, ?_, ?_, ?_, ?_, fun E K => ?run⟩
  case run =>
    simp only [cc0_premix_eq_skeleton]; unfold cc0_premix_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton,
      k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
      %hf6, H6⟩, ⟨%f7, %hf7, H7⟩, ⟨%f8, %hf8, H8⟩, ⟨%f9, %hf9, H9⟩, ⟨%f10, %hf10, H10⟩, ⟨%f11, %hf11, H11⟩, ⟨%f12,
      %hf12, H12⟩, ⟨%f13, %hf13, H13⟩, ⟨%f14, %hf14, H14⟩,
      ⟨%d15, %f15, -, H15⟩, ⟨%d16, %f16, -, H16⟩, ⟨%d17, %f17, -, H17⟩, ⟨%d18, %f18, -, H18⟩, ⟨%d19, %f19, -, H19⟩,
      ⟨%d20, %f20, -, H20⟩, ⟨%d21, %f21, -, H21⟩, ⟨%d22, %f22, -, H22⟩, ⟨%d23, %f23, -, H23⟩, ⟨%d24, %f24, -, H24⟩,
      ⟨%d25, %f25, -, H25⟩, ⟨%d26, %f26, -, H26⟩, ⟨%d27, %f27, -, H27⟩, ⟨%d28, %f28, -, H28⟩, Hk⟩
    obtain rfl := harg1.eq_unread hf0; obtain rfl := harg2.eq_unread hf1; obtain rfl := harg3.eq_unread hf2; obtain
    rfl := harg4.eq_unread hf3; obtain rfl := harg5.eq_unread hf4; obtain rfl := harg6.eq_unread hf5; obtain rfl :=
    harg7.eq_unread hf6; obtain rfl := harg8.eq_unread hf7; obtain rfl := harg9.eq_unread hf8; obtain rfl :=
    harg10.eq_unread hf9; obtain rfl := harg11.eq_unread hf10; obtain rfl := harg12.eq_unread hf11; obtain rfl :=
    harg13.eq_unread hf12; obtain rfl := harg14.eq_unread hf13; obtain rfl := harg15.eq_unread hf14
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    isplitl [H16]
    · iexists _; iexact H16
    isplitl [H17]
    · iexists _; iexact H17
    isplitl [H18]
    · iexists _; iexact H18
    isplitl [H19]
    · iexists _; iexact H19
    isplitl [H20]
    · iexists _; iexact H20
    isplitl [H21]
    · iexists _; iexact H21
    isplitl [H22]
    · iexists _; iexact H22
    isplitl [H23]
    · iexists _; iexact H23
    isplitl [H24]
    · iexists _; iexact H24
    isplitl [H25]
    · iexists _; iexists _; isplitr
      swap; · iexact H25
      ipureintro; rfl
    isplitl [H26]
    · iexists _; iexists _; isplitr
      swap; · iexact H26
      ipureintro; rfl
    isplitl [H27]
    · iexists _; iexists _; isplitr
      swap; · iexact H27
      ipureintro; rfl
    iexists _; iexists _; isplitr
    swap; · iexact H28
    ipureintro; rfl

end Cert.Kernel3Ideal.Gen

end
-- ==== Proof.PreFrame.lean ====
/- The layer's first kernel run from end to end: at every grid point its body ends, with the inputs kept and the outputs
   spoken of at the contents named in `PreRun`; so every run of the program ends, leaves its arguments unchanged and its
   counters at zero, and those outputs hold what the grid points left there. -/
module

public import proofs.«01_k».proof.Proof.PreRun
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

section
variable (c : Dev nD) (i : grid0.Coords)
  (arg1 : Memref sig .tc .vmem S512x1024 .f32) (harg1 : arg1.IsWhole)
  (arg2 : Memref sig .tc .vmem S1x1x1024 .f32) (harg2 : arg2.IsWhole)
  (arg3 : Memref sig .tc .vmem S1x1024x2816 .bf16) (harg3 : arg3.IsWhole)
  (arg4 : Memref sig .tc .vmem S1x1024x2816 .bf16) (harg4 : arg4.IsWhole)
  (arg5 : Memref sig .tc .vmem S1x2816x1024 .bf16) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1024x2304 .bf16) (harg8 : arg8.IsWhole)
  (arg9 : Memref sig .tc .vmem S1x1x384 .f32) (harg9 : arg9.IsWhole)
  (arg10 : Memref sig .tc .vmem S1x384x1024 .bf16) (harg10 : arg10.IsWhole)
  (arg11 : Memref sig .tc .vmem S1x1x256 .f32) (harg11 : arg11.IsWhole)
  (arg12 : Memref sig .tc .vmem S1x256x1536 .bf16) (harg12 : arg12.IsWhole)
  (arg13 : Memref sig .tc .vmem S1x3x256 .f32) (harg13 : arg13.IsWhole)
  (arg14 : Memref sig .tc .vmem S512x128 .f32) (harg14 : arg14.IsWhole)
  (arg15 : Memref sig .tc .vmem S512x128 .f32) (harg15 : arg15.IsWhole)
  (arg16 : Memref sig .tc .vmem S512x1024 .f32) (harg16 : arg16.IsWhole)
  (arg17 : Memref sig .tc .vmem S512x256 .bf16) (harg17 : arg17.IsWhole)
  (arg18 : Memref sig .tc .vmem S512x256 .bf16) (harg18 : arg18.IsWhole)
  (arg19 : Memref sig .tc .vmem S512x256 .bf16) (harg19 : arg19.IsWhole)
  (arg20 : Memref sig .tc .vmem S512x256 .bf16) (harg20 : arg20.IsWhole)
  (arg21 : Memref sig .tc .vmem S512x256 .bf16) (harg21 : arg21.IsWhole)
  (arg22 : Memref sig .tc .vmem S512x1024 .bf16) (harg22 : arg22.IsWhole)
  (arg23 : Memref sig .tc .vmem S512x1024 .bf16) (harg23 : arg23.IsWhole)
  (arg24 : Memref sig .tc .vmem S1x512x512 .bf16) (harg24 : arg24.IsWhole)
  (arg25 : Memref sig .tc .vmem S1x512x512 .bf16) (harg25 : arg25.IsWhole)
  (arg26 : Memref sig .tc .vmem S512x256 .bf16) (harg26 : arg26.IsWhole)
  (arg27 : Memref sig .tc .vmem S512x1024 .bf16) (harg27 : arg27.IsWhole)
  (arg28 : Memref sig .tc .vmem S512x1024 .f32) (harg28 : arg28.IsWhole)
  (arg29 : Memref sig .tc .vmem S8x256 .f32) (harg29 : arg29.IsWhole)
  (x0 : Vec F S512x1024 .f32) (x1 : Vec F S1x1x1024 .f32) (x2 : Vec F S1x1024x2816 .bf16) (x3 : Vec F S1x1024x2816 .bf16)
  (x4 : Vec F S1x2816x1024 .bf16) (x5 : Vec F S1x1x1024 .f32) (x6 : Vec F S1x1x1024 .f32) (x7 : Vec F S1x1024x2304 .bf16)
  (x8 : Vec F S1x1x384 .f32) (x9 : Vec F S1x384x1024 .bf16) (x10 : Vec F S1x1x256 .f32) (x11 : Vec F S1x256x1536 .bf16)
  (x12 : Vec F S1x3x256 .f32) (x13 : Vec F S512x128 .f32) (x14 : Vec F S512x128 .f32)

/-- The pieces stored into output 15 cover its block. -/
theorem cover15 (y : S512x1024.Idx) :
    ∃ pc ∈ (premixRun (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14).1, y ∈ pc.1.set :=
  View.cover_of_tiledL _ S512x1024.size (by sl_kernel_rfl) y

/-- What the body leaves in output 15: its pieces, read back. -/
def out0_A_15 : Vec F S512x1024 .f32 :=
  (Memref.whole cc0_stg15_0 : Memref sig .tc .vmem S512x1024 .f32).view.read (Elt F)
    ((Memref.whole cc0_stg15_0 : Memref sig .tc .vmem S512x1024 .f32).view.writes (Elt F)
      (Memref.whole cc0_stg15_0 : Memref sig .tc .vmem S512x1024 .f32).view.junk
      (premixRun (F := F) c i arg1 harg1 arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 arg23 harg23 arg24 harg24 arg25 harg25 arg26 harg26 arg27 harg27
        arg28 harg28 arg29 harg29
        x0 x1 x2 x3 x4 x5 x6 x7 x8 x9 x10 x11 x12 x13 x14).1)

/-- The pieces stored into output 16 cover its block. -/
theorem cover16 (y : S512x256.Idx) :
    ∃ pc ∈ (premixRun (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14).2.1, y ∈ pc.1.set :=
  View.cover_of_tiledL _ S512x256.size (by sl_kernel_rfl) y

/-- What the body leaves in output 16: its pieces, read back. -/
def out0_A_16 : Vec F S512x256 .bf16 :=
  (Memref.whole cc0_stg16_0 : Memref sig .tc .vmem S512x256 .bf16).view.read (Elt F)
    ((Memref.whole cc0_stg16_0 : Memref sig .tc .vmem S512x256 .bf16).view.writes (Elt F)
      (Memref.whole cc0_stg16_0 : Memref sig .tc .vmem S512x256 .bf16).view.junk
      (premixRun (F := F) c i arg1 harg1 arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 arg23 harg23 arg24 harg24 arg25 harg25 arg26 harg26 arg27 harg27
        arg28 harg28 arg29 harg29
        x0 x1 x2 x3 x4 x5 x6 x7 x8 x9 x10 x11 x12 x13 x14).2.1)

/-- The pieces stored into output 17 cover its block. -/
theorem cover17 (y : S512x256.Idx) :
    ∃ pc ∈ (premixRun (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14).2.2.1, y ∈ pc.1.set :=
  View.cover_of_tiledL _ S512x256.size (by sl_kernel_rfl) y

/-- What the body leaves in output 17: its pieces, read back. -/
def out0_A_17 : Vec F S512x256 .bf16 :=
  (Memref.whole cc0_stg17_0 : Memref sig .tc .vmem S512x256 .bf16).view.read (Elt F)
    ((Memref.whole cc0_stg17_0 : Memref sig .tc .vmem S512x256 .bf16).view.writes (Elt F)
      (Memref.whole cc0_stg17_0 : Memref sig .tc .vmem S512x256 .bf16).view.junk
      (premixRun (F := F) c i arg1 harg1 arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 arg23 harg23 arg24 harg24 arg25 harg25 arg26 harg26 arg27 harg27
        arg28 harg28 arg29 harg29
        x0 x1 x2 x3 x4 x5 x6 x7 x8 x9 x10 x11 x12 x13 x14).2.2.1)

/-- The pieces stored into output 18 cover its block. -/
theorem cover18 (y : S512x256.Idx) :
    ∃ pc ∈ (premixRun (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14).2.2.2.1, y ∈ pc.1.set :=
  View.cover_of_tiledL _ S512x256.size (by sl_kernel_rfl) y

/-- What the body leaves in output 18: its pieces, read back. -/
def out0_A_18 : Vec F S512x256 .bf16 :=
  (Memref.whole cc0_stg18_0 : Memref sig .tc .vmem S512x256 .bf16).view.read (Elt F)
    ((Memref.whole cc0_stg18_0 : Memref sig .tc .vmem S512x256 .bf16).view.writes (Elt F)
      (Memref.whole cc0_stg18_0 : Memref sig .tc .vmem S512x256 .bf16).view.junk
      (premixRun (F := F) c i arg1 harg1 arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 arg23 harg23 arg24 harg24 arg25 harg25 arg26 harg26 arg27 harg27
        arg28 harg28 arg29 harg29
        x0 x1 x2 x3 x4 x5 x6 x7 x8 x9 x10 x11 x12 x13 x14).2.2.2.1)

/-- The pieces stored into output 19 cover its block. -/
theorem cover19 (y : S512x256.Idx) :
    ∃ pc ∈ (premixRun (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14).2.2.2.2.1, y ∈ pc.1.set :=
  View.cover_of_tiledL _ S512x256.size (by sl_kernel_rfl) y

/-- What the body leaves in output 19: its pieces, read back. -/
def out0_A_19 : Vec F S512x256 .bf16 :=
  (Memref.whole cc0_stg19_0 : Memref sig .tc .vmem S512x256 .bf16).view.read (Elt F)
    ((Memref.whole cc0_stg19_0 : Memref sig .tc .vmem S512x256 .bf16).view.writes (Elt F)
      (Memref.whole cc0_stg19_0 : Memref sig .tc .vmem S512x256 .bf16).view.junk
      (premixRun (F := F) c i arg1 harg1 arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 arg23 harg23 arg24 harg24 arg25 harg25 arg26 harg26 arg27 harg27
        arg28 harg28 arg29 harg29
        x0 x1 x2 x3 x4 x5 x6 x7 x8 x9 x10 x11 x12 x13 x14).2.2.2.2.1)

/-- The pieces stored into output 20 cover its block. -/
theorem cover20 (y : S512x256.Idx) :
    ∃ pc ∈ (premixRun (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14).2.2.2.2.2.1, y ∈ pc.1.set :=
  View.cover_of_tiledL _ S512x256.size (by sl_kernel_rfl) y

/-- What the body leaves in output 20: its pieces, read back. -/
def out0_A_20 : Vec F S512x256 .bf16 :=
  (Memref.whole cc0_stg20_0 : Memref sig .tc .vmem S512x256 .bf16).view.read (Elt F)
    ((Memref.whole cc0_stg20_0 : Memref sig .tc .vmem S512x256 .bf16).view.writes (Elt F)
      (Memref.whole cc0_stg20_0 : Memref sig .tc .vmem S512x256 .bf16).view.junk
      (premixRun (F := F) c i arg1 harg1 arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 arg23 harg23 arg24 harg24 arg25 harg25 arg26 harg26 arg27 harg27
        arg28 harg28 arg29 harg29
        x0 x1 x2 x3 x4 x5 x6 x7 x8 x9 x10 x11 x12 x13 x14).2.2.2.2.2.1)

/-- The pieces stored into output 21 cover its block. -/
theorem cover21 (y : S512x1024.Idx) :
    ∃ pc ∈ (premixRun (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14).2.2.2.2.2.2.1, y ∈ pc.1.set :=
  View.cover_of_tiledL _ ![512, 128] (by sl_kernel_rfl) y

/-- What the body leaves in output 21: its pieces, read back. -/
def out0_A_21 : Vec F S512x1024 .bf16 :=
  (Memref.whole cc0_stg21_0 : Memref sig .tc .vmem S512x1024 .bf16).view.read (Elt F)
    ((Memref.whole cc0_stg21_0 : Memref sig .tc .vmem S512x1024 .bf16).view.writes (Elt F)
      (Memref.whole cc0_stg21_0 : Memref sig .tc .vmem S512x1024 .bf16).view.junk
      (premixRun (F := F) c i arg1 harg1 arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 arg23 harg23 arg24 harg24 arg25 harg25 arg26 harg26 arg27 harg27
        arg28 harg28 arg29 harg29
        x0 x1 x2 x3 x4 x5 x6 x7 x8 x9 x10 x11 x12 x13 x14).2.2.2.2.2.2.1)

/-- The pieces stored into output 22 cover its block. -/
theorem cover22 (y : S512x1024.Idx) :
    ∃ pc ∈ (premixRun (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14).2.2.2.2.2.2.2.1, y ∈ pc.1.set :=
  View.cover_of_tiledL _ ![512, 128] (by sl_kernel_rfl) y

/-- What the body leaves in output 22: its pieces, read back. -/
def out0_A_22 : Vec F S512x1024 .bf16 :=
  (Memref.whole cc0_stg22_0 : Memref sig .tc .vmem S512x1024 .bf16).view.read (Elt F)
    ((Memref.whole cc0_stg22_0 : Memref sig .tc .vmem S512x1024 .bf16).view.writes (Elt F)
      (Memref.whole cc0_stg22_0 : Memref sig .tc .vmem S512x1024 .bf16).view.junk
      (premixRun (F := F) c i arg1 harg1 arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 arg23 harg23 arg24 harg24 arg25 harg25 arg26 harg26 arg27 harg27
        arg28 harg28 arg29 harg29
        x0 x1 x2 x3 x4 x5 x6 x7 x8 x9 x10 x11 x12 x13 x14).2.2.2.2.2.2.2.1)

/-- The pieces stored into output 23 cover its block. -/
theorem cover23 (y : S1x512x512.Idx) :
    ∃ pc ∈ (premixRun (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14).2.2.2.2.2.2.2.2.1, y ∈ pc.1.set :=
  View.cover_of_tiledL _ S1x512x512.size (by sl_kernel_rfl) y

/-- What the body leaves in output 23: its pieces, read back. -/
def out0_A_23 : Vec F S1x512x512 .bf16 :=
  (Memref.whole cc0_stg23_0 : Memref sig .tc .vmem S1x512x512 .bf16).view.read (Elt F)
    ((Memref.whole cc0_stg23_0 : Memref sig .tc .vmem S1x512x512 .bf16).view.writes (Elt F)
      (Memref.whole cc0_stg23_0 : Memref sig .tc .vmem S1x512x512 .bf16).view.junk
      (premixRun (F := F) c i arg1 harg1 arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 arg23 harg23 arg24 harg24 arg25 harg25 arg26 harg26 arg27 harg27
        arg28 harg28 arg29 harg29
        x0 x1 x2 x3 x4 x5 x6 x7 x8 x9 x10 x11 x12 x13 x14).2.2.2.2.2.2.2.2.1)

/-- The pieces stored into output 24 cover its block. -/
theorem cover24 (y : S1x512x512.Idx) :
    ∃ pc ∈ (premixRun (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14).2.2.2.2.2.2.2.2.2.1, y ∈ pc.1.set :=
  View.cover_of_tiledL _ S1x512x512.size (by sl_kernel_rfl) y

/-- What the body leaves in output 24: its pieces, read back. -/
def out0_A_24 : Vec F S1x512x512 .bf16 :=
  (Memref.whole cc0_stg24_0 : Memref sig .tc .vmem S1x512x512 .bf16).view.read (Elt F)
    ((Memref.whole cc0_stg24_0 : Memref sig .tc .vmem S1x512x512 .bf16).view.writes (Elt F)
      (Memref.whole cc0_stg24_0 : Memref sig .tc .vmem S1x512x512 .bf16).view.junk
      (premixRun (F := F) c i arg1 harg1 arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 arg23 harg23 arg24 harg24 arg25 harg25 arg26 harg26 arg27 harg27
        arg28 harg28 arg29 harg29
        x0 x1 x2 x3 x4 x5 x6 x7 x8 x9 x10 x11 x12 x13 x14).2.2.2.2.2.2.2.2.2.1)

end

variable (m : (ℓ : Loc nD τ sig) → Buf (Elt F) ℓ) (ρ : Dev nD → PrngReg)

/-- What output 15's block holds after grid point `t`. -/
def outAt15 (c : Dev nD) (t : Fin cfg0.N) : Vec F S512x1024 .f32 :=
  out0_A_15 c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast
    nbuf0_2)) (win0_3.stage (cfg0.slots t 3)) (hstage0_3 ((cfg0.slots t 3).cast nbuf0_3)) (win0_4.stage (cfg0.slots
    t 4)) (hstage0_4 ((cfg0.slots t 4).cast nbuf0_4)) (win0_5.stage (cfg0.slots t 5)) (hstage0_5 ((cfg0.slots t
    5).cast nbuf0_5)) (win0_6.stage (cfg0.slots t 6)) (hstage0_6 ((cfg0.slots t 6).cast nbuf0_6)) (win0_7.stage
    (cfg0.slots t 7)) (hstage0_7 ((cfg0.slots t 7).cast nbuf0_7)) (win0_8.stage (cfg0.slots t 8)) (hstage0_8
    ((cfg0.slots t 8).cast nbuf0_8)) (win0_9.stage (cfg0.slots t 9)) (hstage0_9 ((cfg0.slots t 9).cast nbuf0_9))
    (win0_10.stage (cfg0.slots t 10)) (hstage0_10 ((cfg0.slots t 10).cast nbuf0_10)) (win0_11.stage (cfg0.slots t
    11)) (hstage0_11 ((cfg0.slots t 11).cast nbuf0_11)) (win0_12.stage (cfg0.slots t 12)) (hstage0_12 ((cfg0.slots
    t 12).cast nbuf0_12)) (win0_13.stage (cfg0.slots t 13)) (hstage0_13 ((cfg0.slots t 13).cast nbuf0_13))
    (win0_14.stage (cfg0.slots t 14)) (hstage0_14 ((cfg0.slots t 14).cast nbuf0_14)) (win0_15.stage (cfg0.slots t
    15)) (hstage0_15 ((cfg0.slots t 15).cast nbuf0_15)) (win0_16.stage (cfg0.slots t 16)) (hstage0_16 ((cfg0.slots
    t 16).cast nbuf0_16)) (win0_17.stage (cfg0.slots t 17)) (hstage0_17 ((cfg0.slots t 17).cast nbuf0_17))
    (win0_18.stage (cfg0.slots t 18)) (hstage0_18 ((cfg0.slots t 18).cast nbuf0_18)) (win0_19.stage (cfg0.slots t
    19)) (hstage0_19 ((cfg0.slots t 19).cast nbuf0_19)) (win0_20.stage (cfg0.slots t 20)) (hstage0_20 ((cfg0.slots
    t 20).cast nbuf0_20)) (win0_21.stage (cfg0.slots t 21)) (hstage0_21 ((cfg0.slots t 21).cast nbuf0_21))
    (win0_22.stage (cfg0.slots t 22)) (hstage0_22 ((cfg0.slots t 22).cast nbuf0_22)) (win0_23.stage (cfg0.slots t
    23)) (hstage0_23 ((cfg0.slots t 23).cast nbuf0_23)) (win0_24.stage (cfg0.slots t 24)) (hstage0_24 ((cfg0.slots
    t 24).cast nbuf0_24)) (win0_25.stage (cfg0.slots t 25)) (hstage0_25 ((cfg0.slots t 25).cast nbuf0_25))
    (Memref.whole cc0_scratch0) (Memref.isWhole_whole _) (Memref.whole cc0_scratch1) (Memref.isWhole_whole _)
    (Memref.whole cc0_scratch2) (Memref.isWhole_whole _)
    (iblk m c 0 t) (iblk m c 1 t) (iblk m c 2 t) (iblk m c 3 t) (iblk m c 4 t) (iblk m c 5 t) (iblk m c 6 t) (iblk
    m c 7 t) (iblk m c 8 t) (iblk m c 9 t) (iblk m c 10 t) (iblk m c 11 t) (iblk m c 12 t) (iblk m c 13 t) (iblk m
    c 14 t)

/-- What output 16's block holds after grid point `t`. -/
def outAt16 (c : Dev nD) (t : Fin cfg0.N) : Vec F S512x256 .bf16 :=
  out0_A_16 c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast
    nbuf0_2)) (win0_3.stage (cfg0.slots t 3)) (hstage0_3 ((cfg0.slots t 3).cast nbuf0_3)) (win0_4.stage (cfg0.slots
    t 4)) (hstage0_4 ((cfg0.slots t 4).cast nbuf0_4)) (win0_5.stage (cfg0.slots t 5)) (hstage0_5 ((cfg0.slots t
    5).cast nbuf0_5)) (win0_6.stage (cfg0.slots t 6)) (hstage0_6 ((cfg0.slots t 6).cast nbuf0_6)) (win0_7.stage
    (cfg0.slots t 7)) (hstage0_7 ((cfg0.slots t 7).cast nbuf0_7)) (win0_8.stage (cfg0.slots t 8)) (hstage0_8
    ((cfg0.slots t 8).cast nbuf0_8)) (win0_9.stage (cfg0.slots t 9)) (hstage0_9 ((cfg0.slots t 9).cast nbuf0_9))
    (win0_10.stage (cfg0.slots t 10)) (hstage0_10 ((cfg0.slots t 10).cast nbuf0_10)) (win0_11.stage (cfg0.slots t
    11)) (hstage0_11 ((cfg0.slots t 11).cast nbuf0_11)) (win0_12.stage (cfg0.slots t 12)) (hstage0_12 ((cfg0.slots
    t 12).cast nbuf0_12)) (win0_13.stage (cfg0.slots t 13)) (hstage0_13 ((cfg0.slots t 13).cast nbuf0_13))
    (win0_14.stage (cfg0.slots t 14)) (hstage0_14 ((cfg0.slots t 14).cast nbuf0_14)) (win0_15.stage (cfg0.slots t
    15)) (hstage0_15 ((cfg0.slots t 15).cast nbuf0_15)) (win0_16.stage (cfg0.slots t 16)) (hstage0_16 ((cfg0.slots
    t 16).cast nbuf0_16)) (win0_17.stage (cfg0.slots t 17)) (hstage0_17 ((cfg0.slots t 17).cast nbuf0_17))
    (win0_18.stage (cfg0.slots t 18)) (hstage0_18 ((cfg0.slots t 18).cast nbuf0_18)) (win0_19.stage (cfg0.slots t
    19)) (hstage0_19 ((cfg0.slots t 19).cast nbuf0_19)) (win0_20.stage (cfg0.slots t 20)) (hstage0_20 ((cfg0.slots
    t 20).cast nbuf0_20)) (win0_21.stage (cfg0.slots t 21)) (hstage0_21 ((cfg0.slots t 21).cast nbuf0_21))
    (win0_22.stage (cfg0.slots t 22)) (hstage0_22 ((cfg0.slots t 22).cast nbuf0_22)) (win0_23.stage (cfg0.slots t
    23)) (hstage0_23 ((cfg0.slots t 23).cast nbuf0_23)) (win0_24.stage (cfg0.slots t 24)) (hstage0_24 ((cfg0.slots
    t 24).cast nbuf0_24)) (win0_25.stage (cfg0.slots t 25)) (hstage0_25 ((cfg0.slots t 25).cast nbuf0_25))
    (Memref.whole cc0_scratch0) (Memref.isWhole_whole _) (Memref.whole cc0_scratch1) (Memref.isWhole_whole _)
    (Memref.whole cc0_scratch2) (Memref.isWhole_whole _)
    (iblk m c 0 t) (iblk m c 1 t) (iblk m c 2 t) (iblk m c 3 t) (iblk m c 4 t) (iblk m c 5 t) (iblk m c 6 t) (iblk
    m c 7 t) (iblk m c 8 t) (iblk m c 9 t) (iblk m c 10 t) (iblk m c 11 t) (iblk m c 12 t) (iblk m c 13 t) (iblk m
    c 14 t)

/-- What output 17's block holds after grid point `t`. -/
def outAt17 (c : Dev nD) (t : Fin cfg0.N) : Vec F S512x256 .bf16 :=
  out0_A_17 c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast
    nbuf0_2)) (win0_3.stage (cfg0.slots t 3)) (hstage0_3 ((cfg0.slots t 3).cast nbuf0_3)) (win0_4.stage (cfg0.slots
    t 4)) (hstage0_4 ((cfg0.slots t 4).cast nbuf0_4)) (win0_5.stage (cfg0.slots t 5)) (hstage0_5 ((cfg0.slots t
    5).cast nbuf0_5)) (win0_6.stage (cfg0.slots t 6)) (hstage0_6 ((cfg0.slots t 6).cast nbuf0_6)) (win0_7.stage
    (cfg0.slots t 7)) (hstage0_7 ((cfg0.slots t 7).cast nbuf0_7)) (win0_8.stage (cfg0.slots t 8)) (hstage0_8
    ((cfg0.slots t 8).cast nbuf0_8)) (win0_9.stage (cfg0.slots t 9)) (hstage0_9 ((cfg0.slots t 9).cast nbuf0_9))
    (win0_10.stage (cfg0.slots t 10)) (hstage0_10 ((cfg0.slots t 10).cast nbuf0_10)) (win0_11.stage (cfg0.slots t
    11)) (hstage0_11 ((cfg0.slots t 11).cast nbuf0_11)) (win0_12.stage (cfg0.slots t 12)) (hstage0_12 ((cfg0.slots
    t 12).cast nbuf0_12)) (win0_13.stage (cfg0.slots t 13)) (hstage0_13 ((cfg0.slots t 13).cast nbuf0_13))
    (win0_14.stage (cfg0.slots t 14)) (hstage0_14 ((cfg0.slots t 14).cast nbuf0_14)) (win0_15.stage (cfg0.slots t
    15)) (hstage0_15 ((cfg0.slots t 15).cast nbuf0_15)) (win0_16.stage (cfg0.slots t 16)) (hstage0_16 ((cfg0.slots
    t 16).cast nbuf0_16)) (win0_17.stage (cfg0.slots t 17)) (hstage0_17 ((cfg0.slots t 17).cast nbuf0_17))
    (win0_18.stage (cfg0.slots t 18)) (hstage0_18 ((cfg0.slots t 18).cast nbuf0_18)) (win0_19.stage (cfg0.slots t
    19)) (hstage0_19 ((cfg0.slots t 19).cast nbuf0_19)) (win0_20.stage (cfg0.slots t 20)) (hstage0_20 ((cfg0.slots
    t 20).cast nbuf0_20)) (win0_21.stage (cfg0.slots t 21)) (hstage0_21 ((cfg0.slots t 21).cast nbuf0_21))
    (win0_22.stage (cfg0.slots t 22)) (hstage0_22 ((cfg0.slots t 22).cast nbuf0_22)) (win0_23.stage (cfg0.slots t
    23)) (hstage0_23 ((cfg0.slots t 23).cast nbuf0_23)) (win0_24.stage (cfg0.slots t 24)) (hstage0_24 ((cfg0.slots
    t 24).cast nbuf0_24)) (win0_25.stage (cfg0.slots t 25)) (hstage0_25 ((cfg0.slots t 25).cast nbuf0_25))
    (Memref.whole cc0_scratch0) (Memref.isWhole_whole _) (Memref.whole cc0_scratch1) (Memref.isWhole_whole _)
    (Memref.whole cc0_scratch2) (Memref.isWhole_whole _)
    (iblk m c 0 t) (iblk m c 1 t) (iblk m c 2 t) (iblk m c 3 t) (iblk m c 4 t) (iblk m c 5 t) (iblk m c 6 t) (iblk
    m c 7 t) (iblk m c 8 t) (iblk m c 9 t) (iblk m c 10 t) (iblk m c 11 t) (iblk m c 12 t) (iblk m c 13 t) (iblk m
    c 14 t)

/-- What output 18's block holds after grid point `t`. -/
def outAt18 (c : Dev nD) (t : Fin cfg0.N) : Vec F S512x256 .bf16 :=
  out0_A_18 c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast
    nbuf0_2)) (win0_3.stage (cfg0.slots t 3)) (hstage0_3 ((cfg0.slots t 3).cast nbuf0_3)) (win0_4.stage (cfg0.slots
    t 4)) (hstage0_4 ((cfg0.slots t 4).cast nbuf0_4)) (win0_5.stage (cfg0.slots t 5)) (hstage0_5 ((cfg0.slots t
    5).cast nbuf0_5)) (win0_6.stage (cfg0.slots t 6)) (hstage0_6 ((cfg0.slots t 6).cast nbuf0_6)) (win0_7.stage
    (cfg0.slots t 7)) (hstage0_7 ((cfg0.slots t 7).cast nbuf0_7)) (win0_8.stage (cfg0.slots t 8)) (hstage0_8
    ((cfg0.slots t 8).cast nbuf0_8)) (win0_9.stage (cfg0.slots t 9)) (hstage0_9 ((cfg0.slots t 9).cast nbuf0_9))
    (win0_10.stage (cfg0.slots t 10)) (hstage0_10 ((cfg0.slots t 10).cast nbuf0_10)) (win0_11.stage (cfg0.slots t
    11)) (hstage0_11 ((cfg0.slots t 11).cast nbuf0_11)) (win0_12.stage (cfg0.slots t 12)) (hstage0_12 ((cfg0.slots
    t 12).cast nbuf0_12)) (win0_13.stage (cfg0.slots t 13)) (hstage0_13 ((cfg0.slots t 13).cast nbuf0_13))
    (win0_14.stage (cfg0.slots t 14)) (hstage0_14 ((cfg0.slots t 14).cast nbuf0_14)) (win0_15.stage (cfg0.slots t
    15)) (hstage0_15 ((cfg0.slots t 15).cast nbuf0_15)) (win0_16.stage (cfg0.slots t 16)) (hstage0_16 ((cfg0.slots
    t 16).cast nbuf0_16)) (win0_17.stage (cfg0.slots t 17)) (hstage0_17 ((cfg0.slots t 17).cast nbuf0_17))
    (win0_18.stage (cfg0.slots t 18)) (hstage0_18 ((cfg0.slots t 18).cast nbuf0_18)) (win0_19.stage (cfg0.slots t
    19)) (hstage0_19 ((cfg0.slots t 19).cast nbuf0_19)) (win0_20.stage (cfg0.slots t 20)) (hstage0_20 ((cfg0.slots
    t 20).cast nbuf0_20)) (win0_21.stage (cfg0.slots t 21)) (hstage0_21 ((cfg0.slots t 21).cast nbuf0_21))
    (win0_22.stage (cfg0.slots t 22)) (hstage0_22 ((cfg0.slots t 22).cast nbuf0_22)) (win0_23.stage (cfg0.slots t
    23)) (hstage0_23 ((cfg0.slots t 23).cast nbuf0_23)) (win0_24.stage (cfg0.slots t 24)) (hstage0_24 ((cfg0.slots
    t 24).cast nbuf0_24)) (win0_25.stage (cfg0.slots t 25)) (hstage0_25 ((cfg0.slots t 25).cast nbuf0_25))
    (Memref.whole cc0_scratch0) (Memref.isWhole_whole _) (Memref.whole cc0_scratch1) (Memref.isWhole_whole _)
    (Memref.whole cc0_scratch2) (Memref.isWhole_whole _)
    (iblk m c 0 t) (iblk m c 1 t) (iblk m c 2 t) (iblk m c 3 t) (iblk m c 4 t) (iblk m c 5 t) (iblk m c 6 t) (iblk
    m c 7 t) (iblk m c 8 t) (iblk m c 9 t) (iblk m c 10 t) (iblk m c 11 t) (iblk m c 12 t) (iblk m c 13 t) (iblk m
    c 14 t)

/-- What output 19's block holds after grid point `t`. -/
def outAt19 (c : Dev nD) (t : Fin cfg0.N) : Vec F S512x256 .bf16 :=
  out0_A_19 c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast
    nbuf0_2)) (win0_3.stage (cfg0.slots t 3)) (hstage0_3 ((cfg0.slots t 3).cast nbuf0_3)) (win0_4.stage (cfg0.slots
    t 4)) (hstage0_4 ((cfg0.slots t 4).cast nbuf0_4)) (win0_5.stage (cfg0.slots t 5)) (hstage0_5 ((cfg0.slots t
    5).cast nbuf0_5)) (win0_6.stage (cfg0.slots t 6)) (hstage0_6 ((cfg0.slots t 6).cast nbuf0_6)) (win0_7.stage
    (cfg0.slots t 7)) (hstage0_7 ((cfg0.slots t 7).cast nbuf0_7)) (win0_8.stage (cfg0.slots t 8)) (hstage0_8
    ((cfg0.slots t 8).cast nbuf0_8)) (win0_9.stage (cfg0.slots t 9)) (hstage0_9 ((cfg0.slots t 9).cast nbuf0_9))
    (win0_10.stage (cfg0.slots t 10)) (hstage0_10 ((cfg0.slots t 10).cast nbuf0_10)) (win0_11.stage (cfg0.slots t
    11)) (hstage0_11 ((cfg0.slots t 11).cast nbuf0_11)) (win0_12.stage (cfg0.slots t 12)) (hstage0_12 ((cfg0.slots
    t 12).cast nbuf0_12)) (win0_13.stage (cfg0.slots t 13)) (hstage0_13 ((cfg0.slots t 13).cast nbuf0_13))
    (win0_14.stage (cfg0.slots t 14)) (hstage0_14 ((cfg0.slots t 14).cast nbuf0_14)) (win0_15.stage (cfg0.slots t
    15)) (hstage0_15 ((cfg0.slots t 15).cast nbuf0_15)) (win0_16.stage (cfg0.slots t 16)) (hstage0_16 ((cfg0.slots
    t 16).cast nbuf0_16)) (win0_17.stage (cfg0.slots t 17)) (hstage0_17 ((cfg0.slots t 17).cast nbuf0_17))
    (win0_18.stage (cfg0.slots t 18)) (hstage0_18 ((cfg0.slots t 18).cast nbuf0_18)) (win0_19.stage (cfg0.slots t
    19)) (hstage0_19 ((cfg0.slots t 19).cast nbuf0_19)) (win0_20.stage (cfg0.slots t 20)) (hstage0_20 ((cfg0.slots
    t 20).cast nbuf0_20)) (win0_21.stage (cfg0.slots t 21)) (hstage0_21 ((cfg0.slots t 21).cast nbuf0_21))
    (win0_22.stage (cfg0.slots t 22)) (hstage0_22 ((cfg0.slots t 22).cast nbuf0_22)) (win0_23.stage (cfg0.slots t
    23)) (hstage0_23 ((cfg0.slots t 23).cast nbuf0_23)) (win0_24.stage (cfg0.slots t 24)) (hstage0_24 ((cfg0.slots
    t 24).cast nbuf0_24)) (win0_25.stage (cfg0.slots t 25)) (hstage0_25 ((cfg0.slots t 25).cast nbuf0_25))
    (Memref.whole cc0_scratch0) (Memref.isWhole_whole _) (Memref.whole cc0_scratch1) (Memref.isWhole_whole _)
    (Memref.whole cc0_scratch2) (Memref.isWhole_whole _)
    (iblk m c 0 t) (iblk m c 1 t) (iblk m c 2 t) (iblk m c 3 t) (iblk m c 4 t) (iblk m c 5 t) (iblk m c 6 t) (iblk
    m c 7 t) (iblk m c 8 t) (iblk m c 9 t) (iblk m c 10 t) (iblk m c 11 t) (iblk m c 12 t) (iblk m c 13 t) (iblk m
    c 14 t)

/-- What output 20's block holds after grid point `t`. -/
def outAt20 (c : Dev nD) (t : Fin cfg0.N) : Vec F S512x256 .bf16 :=
  out0_A_20 c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast
    nbuf0_2)) (win0_3.stage (cfg0.slots t 3)) (hstage0_3 ((cfg0.slots t 3).cast nbuf0_3)) (win0_4.stage (cfg0.slots
    t 4)) (hstage0_4 ((cfg0.slots t 4).cast nbuf0_4)) (win0_5.stage (cfg0.slots t 5)) (hstage0_5 ((cfg0.slots t
    5).cast nbuf0_5)) (win0_6.stage (cfg0.slots t 6)) (hstage0_6 ((cfg0.slots t 6).cast nbuf0_6)) (win0_7.stage
    (cfg0.slots t 7)) (hstage0_7 ((cfg0.slots t 7).cast nbuf0_7)) (win0_8.stage (cfg0.slots t 8)) (hstage0_8
    ((cfg0.slots t 8).cast nbuf0_8)) (win0_9.stage (cfg0.slots t 9)) (hstage0_9 ((cfg0.slots t 9).cast nbuf0_9))
    (win0_10.stage (cfg0.slots t 10)) (hstage0_10 ((cfg0.slots t 10).cast nbuf0_10)) (win0_11.stage (cfg0.slots t
    11)) (hstage0_11 ((cfg0.slots t 11).cast nbuf0_11)) (win0_12.stage (cfg0.slots t 12)) (hstage0_12 ((cfg0.slots
    t 12).cast nbuf0_12)) (win0_13.stage (cfg0.slots t 13)) (hstage0_13 ((cfg0.slots t 13).cast nbuf0_13))
    (win0_14.stage (cfg0.slots t 14)) (hstage0_14 ((cfg0.slots t 14).cast nbuf0_14)) (win0_15.stage (cfg0.slots t
    15)) (hstage0_15 ((cfg0.slots t 15).cast nbuf0_15)) (win0_16.stage (cfg0.slots t 16)) (hstage0_16 ((cfg0.slots
    t 16).cast nbuf0_16)) (win0_17.stage (cfg0.slots t 17)) (hstage0_17 ((cfg0.slots t 17).cast nbuf0_17))
    (win0_18.stage (cfg0.slots t 18)) (hstage0_18 ((cfg0.slots t 18).cast nbuf0_18)) (win0_19.stage (cfg0.slots t
    19)) (hstage0_19 ((cfg0.slots t 19).cast nbuf0_19)) (win0_20.stage (cfg0.slots t 20)) (hstage0_20 ((cfg0.slots
    t 20).cast nbuf0_20)) (win0_21.stage (cfg0.slots t 21)) (hstage0_21 ((cfg0.slots t 21).cast nbuf0_21))
    (win0_22.stage (cfg0.slots t 22)) (hstage0_22 ((cfg0.slots t 22).cast nbuf0_22)) (win0_23.stage (cfg0.slots t
    23)) (hstage0_23 ((cfg0.slots t 23).cast nbuf0_23)) (win0_24.stage (cfg0.slots t 24)) (hstage0_24 ((cfg0.slots
    t 24).cast nbuf0_24)) (win0_25.stage (cfg0.slots t 25)) (hstage0_25 ((cfg0.slots t 25).cast nbuf0_25))
    (Memref.whole cc0_scratch0) (Memref.isWhole_whole _) (Memref.whole cc0_scratch1) (Memref.isWhole_whole _)
    (Memref.whole cc0_scratch2) (Memref.isWhole_whole _)
    (iblk m c 0 t) (iblk m c 1 t) (iblk m c 2 t) (iblk m c 3 t) (iblk m c 4 t) (iblk m c 5 t) (iblk m c 6 t) (iblk
    m c 7 t) (iblk m c 8 t) (iblk m c 9 t) (iblk m c 10 t) (iblk m c 11 t) (iblk m c 12 t) (iblk m c 13 t) (iblk m
    c 14 t)

/-- What output 21's block holds after grid point `t`. -/
def outAt21 (c : Dev nD) (t : Fin cfg0.N) : Vec F S512x1024 .bf16 :=
  out0_A_21 c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast
    nbuf0_2)) (win0_3.stage (cfg0.slots t 3)) (hstage0_3 ((cfg0.slots t 3).cast nbuf0_3)) (win0_4.stage (cfg0.slots
    t 4)) (hstage0_4 ((cfg0.slots t 4).cast nbuf0_4)) (win0_5.stage (cfg0.slots t 5)) (hstage0_5 ((cfg0.slots t
    5).cast nbuf0_5)) (win0_6.stage (cfg0.slots t 6)) (hstage0_6 ((cfg0.slots t 6).cast nbuf0_6)) (win0_7.stage
    (cfg0.slots t 7)) (hstage0_7 ((cfg0.slots t 7).cast nbuf0_7)) (win0_8.stage (cfg0.slots t 8)) (hstage0_8
    ((cfg0.slots t 8).cast nbuf0_8)) (win0_9.stage (cfg0.slots t 9)) (hstage0_9 ((cfg0.slots t 9).cast nbuf0_9))
    (win0_10.stage (cfg0.slots t 10)) (hstage0_10 ((cfg0.slots t 10).cast nbuf0_10)) (win0_11.stage (cfg0.slots t
    11)) (hstage0_11 ((cfg0.slots t 11).cast nbuf0_11)) (win0_12.stage (cfg0.slots t 12)) (hstage0_12 ((cfg0.slots
    t 12).cast nbuf0_12)) (win0_13.stage (cfg0.slots t 13)) (hstage0_13 ((cfg0.slots t 13).cast nbuf0_13))
    (win0_14.stage (cfg0.slots t 14)) (hstage0_14 ((cfg0.slots t 14).cast nbuf0_14)) (win0_15.stage (cfg0.slots t
    15)) (hstage0_15 ((cfg0.slots t 15).cast nbuf0_15)) (win0_16.stage (cfg0.slots t 16)) (hstage0_16 ((cfg0.slots
    t 16).cast nbuf0_16)) (win0_17.stage (cfg0.slots t 17)) (hstage0_17 ((cfg0.slots t 17).cast nbuf0_17))
    (win0_18.stage (cfg0.slots t 18)) (hstage0_18 ((cfg0.slots t 18).cast nbuf0_18)) (win0_19.stage (cfg0.slots t
    19)) (hstage0_19 ((cfg0.slots t 19).cast nbuf0_19)) (win0_20.stage (cfg0.slots t 20)) (hstage0_20 ((cfg0.slots
    t 20).cast nbuf0_20)) (win0_21.stage (cfg0.slots t 21)) (hstage0_21 ((cfg0.slots t 21).cast nbuf0_21))
    (win0_22.stage (cfg0.slots t 22)) (hstage0_22 ((cfg0.slots t 22).cast nbuf0_22)) (win0_23.stage (cfg0.slots t
    23)) (hstage0_23 ((cfg0.slots t 23).cast nbuf0_23)) (win0_24.stage (cfg0.slots t 24)) (hstage0_24 ((cfg0.slots
    t 24).cast nbuf0_24)) (win0_25.stage (cfg0.slots t 25)) (hstage0_25 ((cfg0.slots t 25).cast nbuf0_25))
    (Memref.whole cc0_scratch0) (Memref.isWhole_whole _) (Memref.whole cc0_scratch1) (Memref.isWhole_whole _)
    (Memref.whole cc0_scratch2) (Memref.isWhole_whole _)
    (iblk m c 0 t) (iblk m c 1 t) (iblk m c 2 t) (iblk m c 3 t) (iblk m c 4 t) (iblk m c 5 t) (iblk m c 6 t) (iblk
    m c 7 t) (iblk m c 8 t) (iblk m c 9 t) (iblk m c 10 t) (iblk m c 11 t) (iblk m c 12 t) (iblk m c 13 t) (iblk m
    c 14 t)

/-- What output 22's block holds after grid point `t`. -/
def outAt22 (c : Dev nD) (t : Fin cfg0.N) : Vec F S512x1024 .bf16 :=
  out0_A_22 c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast
    nbuf0_2)) (win0_3.stage (cfg0.slots t 3)) (hstage0_3 ((cfg0.slots t 3).cast nbuf0_3)) (win0_4.stage (cfg0.slots
    t 4)) (hstage0_4 ((cfg0.slots t 4).cast nbuf0_4)) (win0_5.stage (cfg0.slots t 5)) (hstage0_5 ((cfg0.slots t
    5).cast nbuf0_5)) (win0_6.stage (cfg0.slots t 6)) (hstage0_6 ((cfg0.slots t 6).cast nbuf0_6)) (win0_7.stage
    (cfg0.slots t 7)) (hstage0_7 ((cfg0.slots t 7).cast nbuf0_7)) (win0_8.stage (cfg0.slots t 8)) (hstage0_8
    ((cfg0.slots t 8).cast nbuf0_8)) (win0_9.stage (cfg0.slots t 9)) (hstage0_9 ((cfg0.slots t 9).cast nbuf0_9))
    (win0_10.stage (cfg0.slots t 10)) (hstage0_10 ((cfg0.slots t 10).cast nbuf0_10)) (win0_11.stage (cfg0.slots t
    11)) (hstage0_11 ((cfg0.slots t 11).cast nbuf0_11)) (win0_12.stage (cfg0.slots t 12)) (hstage0_12 ((cfg0.slots
    t 12).cast nbuf0_12)) (win0_13.stage (cfg0.slots t 13)) (hstage0_13 ((cfg0.slots t 13).cast nbuf0_13))
    (win0_14.stage (cfg0.slots t 14)) (hstage0_14 ((cfg0.slots t 14).cast nbuf0_14)) (win0_15.stage (cfg0.slots t
    15)) (hstage0_15 ((cfg0.slots t 15).cast nbuf0_15)) (win0_16.stage (cfg0.slots t 16)) (hstage0_16 ((cfg0.slots
    t 16).cast nbuf0_16)) (win0_17.stage (cfg0.slots t 17)) (hstage0_17 ((cfg0.slots t 17).cast nbuf0_17))
    (win0_18.stage (cfg0.slots t 18)) (hstage0_18 ((cfg0.slots t 18).cast nbuf0_18)) (win0_19.stage (cfg0.slots t
    19)) (hstage0_19 ((cfg0.slots t 19).cast nbuf0_19)) (win0_20.stage (cfg0.slots t 20)) (hstage0_20 ((cfg0.slots
    t 20).cast nbuf0_20)) (win0_21.stage (cfg0.slots t 21)) (hstage0_21 ((cfg0.slots t 21).cast nbuf0_21))
    (win0_22.stage (cfg0.slots t 22)) (hstage0_22 ((cfg0.slots t 22).cast nbuf0_22)) (win0_23.stage (cfg0.slots t
    23)) (hstage0_23 ((cfg0.slots t 23).cast nbuf0_23)) (win0_24.stage (cfg0.slots t 24)) (hstage0_24 ((cfg0.slots
    t 24).cast nbuf0_24)) (win0_25.stage (cfg0.slots t 25)) (hstage0_25 ((cfg0.slots t 25).cast nbuf0_25))
    (Memref.whole cc0_scratch0) (Memref.isWhole_whole _) (Memref.whole cc0_scratch1) (Memref.isWhole_whole _)
    (Memref.whole cc0_scratch2) (Memref.isWhole_whole _)
    (iblk m c 0 t) (iblk m c 1 t) (iblk m c 2 t) (iblk m c 3 t) (iblk m c 4 t) (iblk m c 5 t) (iblk m c 6 t) (iblk
    m c 7 t) (iblk m c 8 t) (iblk m c 9 t) (iblk m c 10 t) (iblk m c 11 t) (iblk m c 12 t) (iblk m c 13 t) (iblk m
    c 14 t)

/-- What output 23's block holds after grid point `t`. -/
def outAt23 (c : Dev nD) (t : Fin cfg0.N) : Vec F S1x512x512 .bf16 :=
  out0_A_23 c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast
    nbuf0_2)) (win0_3.stage (cfg0.slots t 3)) (hstage0_3 ((cfg0.slots t 3).cast nbuf0_3)) (win0_4.stage (cfg0.slots
    t 4)) (hstage0_4 ((cfg0.slots t 4).cast nbuf0_4)) (win0_5.stage (cfg0.slots t 5)) (hstage0_5 ((cfg0.slots t
    5).cast nbuf0_5)) (win0_6.stage (cfg0.slots t 6)) (hstage0_6 ((cfg0.slots t 6).cast nbuf0_6)) (win0_7.stage
    (cfg0.slots t 7)) (hstage0_7 ((cfg0.slots t 7).cast nbuf0_7)) (win0_8.stage (cfg0.slots t 8)) (hstage0_8
    ((cfg0.slots t 8).cast nbuf0_8)) (win0_9.stage (cfg0.slots t 9)) (hstage0_9 ((cfg0.slots t 9).cast nbuf0_9))
    (win0_10.stage (cfg0.slots t 10)) (hstage0_10 ((cfg0.slots t 10).cast nbuf0_10)) (win0_11.stage (cfg0.slots t
    11)) (hstage0_11 ((cfg0.slots t 11).cast nbuf0_11)) (win0_12.stage (cfg0.slots t 12)) (hstage0_12 ((cfg0.slots
    t 12).cast nbuf0_12)) (win0_13.stage (cfg0.slots t 13)) (hstage0_13 ((cfg0.slots t 13).cast nbuf0_13))
    (win0_14.stage (cfg0.slots t 14)) (hstage0_14 ((cfg0.slots t 14).cast nbuf0_14)) (win0_15.stage (cfg0.slots t
    15)) (hstage0_15 ((cfg0.slots t 15).cast nbuf0_15)) (win0_16.stage (cfg0.slots t 16)) (hstage0_16 ((cfg0.slots
    t 16).cast nbuf0_16)) (win0_17.stage (cfg0.slots t 17)) (hstage0_17 ((cfg0.slots t 17).cast nbuf0_17))
    (win0_18.stage (cfg0.slots t 18)) (hstage0_18 ((cfg0.slots t 18).cast nbuf0_18)) (win0_19.stage (cfg0.slots t
    19)) (hstage0_19 ((cfg0.slots t 19).cast nbuf0_19)) (win0_20.stage (cfg0.slots t 20)) (hstage0_20 ((cfg0.slots
    t 20).cast nbuf0_20)) (win0_21.stage (cfg0.slots t 21)) (hstage0_21 ((cfg0.slots t 21).cast nbuf0_21))
    (win0_22.stage (cfg0.slots t 22)) (hstage0_22 ((cfg0.slots t 22).cast nbuf0_22)) (win0_23.stage (cfg0.slots t
    23)) (hstage0_23 ((cfg0.slots t 23).cast nbuf0_23)) (win0_24.stage (cfg0.slots t 24)) (hstage0_24 ((cfg0.slots
    t 24).cast nbuf0_24)) (win0_25.stage (cfg0.slots t 25)) (hstage0_25 ((cfg0.slots t 25).cast nbuf0_25))
    (Memref.whole cc0_scratch0) (Memref.isWhole_whole _) (Memref.whole cc0_scratch1) (Memref.isWhole_whole _)
    (Memref.whole cc0_scratch2) (Memref.isWhole_whole _)
    (iblk m c 0 t) (iblk m c 1 t) (iblk m c 2 t) (iblk m c 3 t) (iblk m c 4 t) (iblk m c 5 t) (iblk m c 6 t) (iblk
    m c 7 t) (iblk m c 8 t) (iblk m c 9 t) (iblk m c 10 t) (iblk m c 11 t) (iblk m c 12 t) (iblk m c 13 t) (iblk m
    c 14 t)

/-- What output 24's block holds after grid point `t`. -/
def outAt24 (c : Dev nD) (t : Fin cfg0.N) : Vec F S1x512x512 .bf16 :=
  out0_A_24 c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast
    nbuf0_2)) (win0_3.stage (cfg0.slots t 3)) (hstage0_3 ((cfg0.slots t 3).cast nbuf0_3)) (win0_4.stage (cfg0.slots
    t 4)) (hstage0_4 ((cfg0.slots t 4).cast nbuf0_4)) (win0_5.stage (cfg0.slots t 5)) (hstage0_5 ((cfg0.slots t
    5).cast nbuf0_5)) (win0_6.stage (cfg0.slots t 6)) (hstage0_6 ((cfg0.slots t 6).cast nbuf0_6)) (win0_7.stage
    (cfg0.slots t 7)) (hstage0_7 ((cfg0.slots t 7).cast nbuf0_7)) (win0_8.stage (cfg0.slots t 8)) (hstage0_8
    ((cfg0.slots t 8).cast nbuf0_8)) (win0_9.stage (cfg0.slots t 9)) (hstage0_9 ((cfg0.slots t 9).cast nbuf0_9))
    (win0_10.stage (cfg0.slots t 10)) (hstage0_10 ((cfg0.slots t 10).cast nbuf0_10)) (win0_11.stage (cfg0.slots t
    11)) (hstage0_11 ((cfg0.slots t 11).cast nbuf0_11)) (win0_12.stage (cfg0.slots t 12)) (hstage0_12 ((cfg0.slots
    t 12).cast nbuf0_12)) (win0_13.stage (cfg0.slots t 13)) (hstage0_13 ((cfg0.slots t 13).cast nbuf0_13))
    (win0_14.stage (cfg0.slots t 14)) (hstage0_14 ((cfg0.slots t 14).cast nbuf0_14)) (win0_15.stage (cfg0.slots t
    15)) (hstage0_15 ((cfg0.slots t 15).cast nbuf0_15)) (win0_16.stage (cfg0.slots t 16)) (hstage0_16 ((cfg0.slots
    t 16).cast nbuf0_16)) (win0_17.stage (cfg0.slots t 17)) (hstage0_17 ((cfg0.slots t 17).cast nbuf0_17))
    (win0_18.stage (cfg0.slots t 18)) (hstage0_18 ((cfg0.slots t 18).cast nbuf0_18)) (win0_19.stage (cfg0.slots t
    19)) (hstage0_19 ((cfg0.slots t 19).cast nbuf0_19)) (win0_20.stage (cfg0.slots t 20)) (hstage0_20 ((cfg0.slots
    t 20).cast nbuf0_20)) (win0_21.stage (cfg0.slots t 21)) (hstage0_21 ((cfg0.slots t 21).cast nbuf0_21))
    (win0_22.stage (cfg0.slots t 22)) (hstage0_22 ((cfg0.slots t 22).cast nbuf0_22)) (win0_23.stage (cfg0.slots t
    23)) (hstage0_23 ((cfg0.slots t 23).cast nbuf0_23)) (win0_24.stage (cfg0.slots t 24)) (hstage0_24 ((cfg0.slots
    t 24).cast nbuf0_24)) (win0_25.stage (cfg0.slots t 25)) (hstage0_25 ((cfg0.slots t 25).cast nbuf0_25))
    (Memref.whole cc0_scratch0) (Memref.isWhole_whole _) (Memref.whole cc0_scratch1) (Memref.isWhole_whole _)
    (Memref.whole cc0_scratch2) (Memref.isWhole_whole _)
    (iblk m c 0 t) (iblk m c 1 t) (iblk m c 2 t) (iblk m c 3 t) (iblk m c 4 t) (iblk m c 5 t) (iblk m c 6 t) (iblk
    m c 7 t) (iblk m c 8 t) (iblk m c 9 t) (iblk m c 10 t) (iblk m c 11 t) (iblk m c 12 t) (iblk m c 13 t) (iblk m
    c 14 t)

/-- The proof data: the arrays as the grid is entered; after each grid point the inputs' blocks as they were and the
    outputs spoken of as computed; the other outputs are not spoken of. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt15 m c t
    | ⟨16, _⟩ => outAt16 m c t
    | ⟨17, _⟩ => outAt17 m c t
    | ⟨18, _⟩ => outAt18 m c t
    | ⟨19, _⟩ => outAt19 m c t
    | ⟨20, _⟩ => outAt20 m c t
    | ⟨21, _⟩ => outAt21 m c t
    | ⟨22, _⟩ => outAt22 m c t
    | ⟨23, _⟩ => outAt23 m c t
    | ⟨24, _⟩ => outAt24 m c t
    | ⟨25, _⟩ => Dat.unnamed 25 t
    | ⟨_ + 26, h⟩ => absurd h (Nat.not_lt.2 (Nat.le_add_left _ _))
  Φ _ := Pipeline.ΦA spec0 c
  q _ := fullShare
  owed _ := 0

/-- The outputs not spoken of. -/
def unsaid (w : Fin cfg0.W) : Bool := decide (15 ≤ w.val ∧ w.val ∉ ([15, 16, 17, 18, 19, 20, 21, 22, 23, 24] : List ℕ))

/-- The arrays of the proof data are those at the grid's entry. -/
theorem A_eq (c : Dev nD) (w : Fin cfg0.W) : (dats m 0 c).A w = V m c (Pipeline.arrRef spec0 w) := by
  dsimp only [dats]

/-- Output 15 after a grid point. -/
theorem after0_15 (c : Dev nD) (t : Fin cfg0.N) : (dats m 0 c).after 15 t = outAt15 m c t := by dsimp only [dats]

/-- Output 16 after a grid point. -/
theorem after0_16 (c : Dev nD) (t : Fin cfg0.N) : (dats m 0 c).after 16 t = outAt16 m c t := by dsimp only [dats]

/-- Output 17 after a grid point. -/
theorem after0_17 (c : Dev nD) (t : Fin cfg0.N) : (dats m 0 c).after 17 t = outAt17 m c t := by dsimp only [dats]

/-- Output 18 after a grid point. -/
theorem after0_18 (c : Dev nD) (t : Fin cfg0.N) : (dats m 0 c).after 18 t = outAt18 m c t := by dsimp only [dats]

/-- Output 19 after a grid point. -/
theorem after0_19 (c : Dev nD) (t : Fin cfg0.N) : (dats m 0 c).after 19 t = outAt19 m c t := by dsimp only [dats]

/-- Output 20 after a grid point. -/
theorem after0_20 (c : Dev nD) (t : Fin cfg0.N) : (dats m 0 c).after 20 t = outAt20 m c t := by dsimp only [dats]

/-- Output 21 after a grid point. -/
theorem after0_21 (c : Dev nD) (t : Fin cfg0.N) : (dats m 0 c).after 21 t = outAt21 m c t := by dsimp only [dats]

/-- Output 22 after a grid point. -/
theorem after0_22 (c : Dev nD) (t : Fin cfg0.N) : (dats m 0 c).after 22 t = outAt22 m c t := by dsimp only [dats]

/-- Output 23 after a grid point. -/
theorem after0_23 (c : Dev nD) (t : Fin cfg0.N) : (dats m 0 c).after 23 t = outAt23 m c t := by dsimp only [dats]

/-- Output 24 after a grid point. -/
theorem after0_24 (c : Dev nD) (t : Fin cfg0.N) : (dats m 0 c).after 24 t = outAt24 m c t := by dsimp only [dats]

/-- What the body finds at grid point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d))
    ∗ (∃ d, owns (c : Thread nD τ) (win0_22.stage (cfg0.slots t 22)) fullShare ((dats m 0 c).before 22 t d))
    ∗ (∃ d, owns (c : Thread nD τ) (win0_23.stage (cfg0.slots t 23)) fullShare ((dats m 0 c).before 23 t d))
    ∗ (∃ d, owns (c : Thread nD τ) (win0_24.stage (cfg0.slots t 24)) fullShare ((dats m 0 c).before 24 t d))
    ∗ (∃ X, owns (c : Thread nD τ) (win0_25.stage (cfg0.slots t 25)) fullShare X))

/-- What it leaves. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t)
    ∗ owns (c : Thread nD τ) (win0_20.stage (cfg0.slots t 20)) fullShare ((dats m 0 c).after 20 t)
    ∗ owns (c : Thread nD τ) (win0_21.stage (cfg0.slots t 21)) fullShare ((dats m 0 c).after 21 t)
    ∗ owns (c : Thread nD τ) (win0_22.stage (cfg0.slots t 22)) fullShare ((dats m 0 c).after 22 t)
    ∗ owns (c : Thread nD τ) (win0_23.stage (cfg0.slots t 23)) fullShare ((dats m 0 c).after 23 t)
    ∗ owns (c : Thread nD τ) (win0_24.stage (cfg0.slots t 24)) fullShare ((dats m 0 c).after 24 t)
    ∗ (∃ X, owns (c : Thread nD τ) (win0_25.stage (cfg0.slots t 25)) fullShare X))

/-- The scratch buffers and the generator's register, as memory owned at some contents. -/
theorem scratch_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

set_option maxHeartbeats 4000000 in
/-- The body at a grid point. -/
theorem sound_body (c : Dev nD) (t : Fin cfg0.N) :
    bodyPre m c t ⊢ wp frame (wpE (defs₀ (F := F)) Variants.none c none) Set.univ (bodyAt0 t) (fun _ => bodyPost m c t) := by
  have b0 : ∀ d, (dats m 0 c).before 0 t d = iblk m c 0 t :=
    before0_0_of m (dats m 0 c) (A_eq m c 0) (fun _ => by dsimp only [dats]) t
  have b1 : ∀ d, (dats m 0 c).before 1 t d = iblk m c 1 t :=
    before0_1_of m (dats m 0 c) (A_eq m c 1) (fun _ => by dsimp only [dats]) t
  have b2 : ∀ d, (dats m 0 c).before 2 t d = iblk m c 2 t :=
    before0_2_of m (dats m 0 c) (A_eq m c 2) (fun _ => by dsimp only [dats]) t
  have b3 : ∀ d, (dats m 0 c).before 3 t d = iblk m c 3 t :=
    before0_3_of m (dats m 0 c) (A_eq m c 3) (fun _ => by dsimp only [dats]) t
  have b4 : ∀ d, (dats m 0 c).before 4 t d = iblk m c 4 t :=
    before0_4_of m (dats m 0 c) (A_eq m c 4) (fun _ => by dsimp only [dats]) t
  have b5 : ∀ d, (dats m 0 c).before 5 t d = iblk m c 5 t :=
    before0_5_of m (dats m 0 c) (A_eq m c 5) (fun _ => by dsimp only [dats]) t
  have b6 : ∀ d, (dats m 0 c).before 6 t d = iblk m c 6 t :=
    before0_6_of m (dats m 0 c) (A_eq m c 6) (fun _ => by dsimp only [dats]) t
  have b7 : ∀ d, (dats m 0 c).before 7 t d = iblk m c 7 t :=
    before0_7_of m (dats m 0 c) (A_eq m c 7) (fun _ => by dsimp only [dats]) t
  have b8 : ∀ d, (dats m 0 c).before 8 t d = iblk m c 8 t :=
    before0_8_of m (dats m 0 c) (A_eq m c 8) (fun _ => by dsimp only [dats]) t
  have b9 : ∀ d, (dats m 0 c).before 9 t d = iblk m c 9 t :=
    before0_9_of m (dats m 0 c) (A_eq m c 9) (fun _ => by dsimp only [dats]) t
  have b10 : ∀ d, (dats m 0 c).before 10 t d = iblk m c 10 t :=
    before0_10_of m (dats m 0 c) (A_eq m c 10) (fun _ => by dsimp only [dats]) t
  have b11 : ∀ d, (dats m 0 c).before 11 t d = iblk m c 11 t :=
    before0_11_of m (dats m 0 c) (A_eq m c 11) (fun _ => by dsimp only [dats]) t
  have b12 : ∀ d, (dats m 0 c).before 12 t d = iblk m c 12 t :=
    before0_12_of m (dats m 0 c) (A_eq m c 12) (fun _ => by dsimp only [dats]) t
  have b13 : ∀ d, (dats m 0 c).before 13 t d = iblk m c 13 t :=
    before0_13_of m (dats m 0 c) (A_eq m c 13) (fun _ => by dsimp only [dats]) t
  have b14 : ∀ d, (dats m 0 c).before 14 t d = iblk m c 14 t :=
    before0_14_of m (dats m 0 c) (A_eq m c 14) (fun _ => by dsimp only [dats]) t
  unfold bodyPre bodyPost bodyAt0
  simp only [b0, b1, b2, b3, b4, b5, b6, b7, b8, b9, b10, b11, b12, b13, b14]
  rw [show (dats m 0 c).Φ t.succ = (dats m 0 c).Φ t.castSucc from rfl,
    show (dats m 0 c).owesAt () t.succ = (dats m 0 c).owesAt () t.castSucc from rfl,
    show (dats m 0 c).after 0 t = iblk m c 0 t from by dsimp only [dats], show (dats m 0 c).after 1 t = iblk m c 1
    t from by dsimp only [dats], show (dats m 0 c).after 2 t = iblk m c 2 t from by dsimp only [dats], show (dats m
    0 c).after 3 t = iblk m c 3 t from by dsimp only [dats], show (dats m 0 c).after 4 t = iblk m c 4 t from by
    dsimp only [dats], show (dats m 0 c).after 5 t = iblk m c 5 t from by dsimp only [dats], show (dats m 0
    c).after 6 t = iblk m c 6 t from by dsimp only [dats], show (dats m 0 c).after 7 t = iblk m c 7 t from by dsimp
    only [dats], show (dats m 0 c).after 8 t = iblk m c 8 t from by dsimp only [dats], show (dats m 0 c).after 9 t
    = iblk m c 9 t from by dsimp only [dats], show (dats m 0 c).after 10 t = iblk m c 10 t from by dsimp only
    [dats], show (dats m 0 c).after 11 t = iblk m c 11 t from by dsimp only [dats], show (dats m 0 c).after 12 t =
    iblk m c 12 t from by dsimp only [dats], show (dats m 0 c).after 13 t = iblk m c 13 t from by dsimp only
    [dats], show (dats m 0 c).after 14 t = iblk m c 14 t from by dsimp only [dats],
    after0_15, after0_16, after0_17, after0_18, after0_19, after0_20, after0_21, after0_22, after0_23, after0_24]
  rw [show (dats m 0 c).Φ t.castSucc = Pipeline.ΦA spec0 c from rfl, scratch_eq]
  unfold outAt15 out0_A_15 outAt16 out0_A_16 outAt17 out0_A_17 outAt18 out0_A_18 outAt19 out0_A_19 outAt20 out0_A_20 outAt21 out0_A_21 outAt22 out0_A_22 outAt23 out0_A_23 outAt24 out0_A_24
  iintro ⟨⟨⟨S0, S1, S2⟩, Hg⟩, Ho,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩,
    ⟨%d15, H15⟩, ⟨%d16, H16⟩, ⟨%d17, H17⟩, ⟨%d18, H18⟩, ⟨%d19, H19⟩, ⟨%d20, H20⟩, ⟨%d21, H21⟩, ⟨%d22, H22⟩, ⟨%d23,
    H23⟩, ⟨%d24, H24⟩, H25⟩
  iapply ((premixRun c (grid0.coords t) _ _ _ _ _ _ _ _ _ _ _ _ _ _ _ _ _ _ _ _ _ _ _ _ _ _ _ _ _ _ _ _ _ _ _ _ _ _ _ _ _ _ _ _ _ _ _ _ _ _ _ _ _ _ _ _
    _ _
    (iblk m c 0 t) (iblk m c 1 t) (iblk m c 2 t) (iblk m c 3 t) (iblk m c 4 t) (iblk m c 5 t) (iblk m c 6 t) (iblk
    m c 7 t) (iblk m c 8 t) (iblk m c 9 t) (iblk m c 10 t) (iblk m c 11 t) (iblk m c 12 t) (iblk m c 13 t) (iblk m
    c 14 t)).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexact H25
  isplitl [S0]; · iexact S0
  isplitl [S1]; · iexact S1
  isplitl [S2]; · iexact S2
  iintro ⟨H0, H1, H2, H3, H4, H5, H6, H7, H8, H9, H10, H11, H12, H13, H14, ⟨%e15, H15⟩, ⟨%e16, H16⟩, ⟨%e17, H17⟩, ⟨%e18,
    H18⟩, ⟨%e19, H19⟩, ⟨%e20, H20⟩, ⟨%e21, H21⟩, ⟨%e22, H22⟩, ⟨%e23, H23⟩, ⟨%e24, H24⟩, H25, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover _ _ _ _ _ (cover15 c _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _)
  isplitl [H16]
  · unfold owns; iexists _; isplitr
    swap; · iexact H16
    ipureintro; exact View.read_writes_of_cover _ _ _ _ _ (cover16 c _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _)
  isplitl [H17]
  · unfold owns; iexists _; isplitr
    swap; · iexact H17
    ipureintro; exact View.read_writes_of_cover _ _ _ _ _ (cover17 c _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _)
  isplitl [H18]
  · unfold owns; iexists _; isplitr
    swap; · iexact H18
    ipureintro; exact View.read_writes_of_cover _ _ _ _ _ (cover18 c _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _)
  isplitl [H19]
  · unfold owns; iexists _; isplitr
    swap; · iexact H19
    ipureintro; exact View.read_writes_of_cover _ _ _ _ _ (cover19 c _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _)
  isplitl [H20]
  · unfold owns; iexists _; isplitr
    swap; · iexact H20
    ipureintro; exact View.read_writes_of_cover _ _ _ _ _ (cover20 c _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _)
  isplitl [H21]
  · unfold owns; iexists _; isplitr
    swap; · iexact H21
    ipureintro; exact View.read_writes_of_cover _ _ _ _ _ (cover21 c _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _)
  isplitl [H22]
  · unfold owns; iexists _; isplitr
    swap; · iexact H22
    ipureintro; exact View.read_writes_of_cover _ _ _ _ _ (cover22 c _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _)
  isplitl [H23]
  · unfold owns; iexists _; isplitr
    swap; · iexact H23
    ipureintro; exact View.read_writes_of_cover _ _ _ _ _ (cover23 c _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _)
  isplitl [H24]
  · unfold owns; iexists _; isplitr
    swap; · iexact H24
    ipureintro; exact View.read_writes_of_cover _ _ _ _ _ (cover24 c _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _)
  iexact H25

/-- The body's row in the table of procedures. -/
theorem body_row (t : Fin cfg0.N) :
    defs₀ (F := F) .tc cfg0.body (cfg0.bodyArgs t (cfg0.slots t)) = bodyAt0 t := by
  unfold defs₀; rw [Defs.onTc_tc]

set_option maxHeartbeats 4000000 in
/-- The body meets its obligation at every grid point. -/
theorem obligation (c : Dev nD) :
    BodyObligation (dats (F := F) m 0 c) (defs₀ (F := F)) Variants.none () Set.univ unsaid := fun t => by
  rw [bigSep_W0, bigSep_W0, body_row]
  exact triple_restated (sound_body m c t) rfl .rfl fun _ => .rfl

/-- What is said of the final states: the arrays at contents the proof data allows, the rest untouched. -/
def Ends : PUnit × MemSt nD τ sig (Elt F) → Prop :=
  RDat.FramePost cfg0 (fun c => (dats m 0 c).toRForget unsaid) (V m)

set_option backward.isDefEq.respectTransparency.types false in
/-- Every run ends in such a state, its counters at zero. -/
theorem run_ends : θ_run defs (onTc (τ := τ) (main (F := F))) (s₀ m ρ) (fun r => Ends m r ∧ r.2.sem = fun _ => 0) :=
  Pipeline.θ_run_frame_forget (Q' := fun r => Ends m r ∧ r.2.sem = fun _ => 0) cfgs (dats m) (0 : Fin 1) launch0 defs₀
    Variants.none unsaid m ρ main
    (hbody := fun c => (obligation m c).loose) (hshare := fun c => (dats m 0 c).share_full fun _ => rfl)
    (howed := fun _ _ => rfl) (V := V m) (hmain := hmain m Variants.none) (hA := A_eq m) (hΦ := fun _ _ => rfl)
    (hQ' := fun _ h => h)

/-- Every run ends with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ hr => ⟨fun c => by
    have h := hr.1
    exact ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((congrFun (RDat.ArrAt_in ((dats m 0 c).toRForget unsaid) 12 rfl cfg0.N) _).mp ((h c).1 12)).trans
        ((A_eq m c 12).trans (V_main_arg14 m c))⟩, hr.2⟩) (run_ends m ρ)

/-- Output 15's array holds what the grid points left there. -/
theorem ends_15 {r : PUnit × MemSt nD τ sig (Elt F)} (h : Ends m r) (c : Dev nD) :
    r.2.mem ((cfg0.spec 15).arr.view.loc (c.tc : Thread nD τ)) = (dats m 0 c).arrAt 15 cfg0.N :=
  ((dats m 0 c).toRForget_arrAt_iff (by decide) _ _).mp ((h c).1 15)

/-- Output 16's array holds what the grid points left there. -/
theorem ends_16 {r : PUnit × MemSt nD τ sig (Elt F)} (h : Ends m r) (c : Dev nD) :
    r.2.mem ((cfg0.spec 16).arr.view.loc (c.tc : Thread nD τ)) = (dats m 0 c).arrAt 16 cfg0.N :=
  ((dats m 0 c).toRForget_arrAt_iff (by decide) _ _).mp ((h c).1 16)

/-- Output 17's array holds what the grid points left there. -/
theorem ends_17 {r : PUnit × MemSt nD τ sig (Elt F)} (h : Ends m r) (c : Dev nD) :
    r.2.mem ((cfg0.spec 17).arr.view.loc (c.tc : Thread nD τ)) = (dats m 0 c).arrAt 17 cfg0.N :=
  ((dats m 0 c).toRForget_arrAt_iff (by decide) _ _).mp ((h c).1 17)

/-- Output 18's array holds what the grid points left there. -/
theorem ends_18 {r : PUnit × MemSt nD τ sig (Elt F)} (h : Ends m r) (c : Dev nD) :
    r.2.mem ((cfg0.spec 18).arr.view.loc (c.tc : Thread nD τ)) = (dats m 0 c).arrAt 18 cfg0.N :=
  ((dats m 0 c).toRForget_arrAt_iff (by decide) _ _).mp ((h c).1 18)

/-- Output 19's array holds what the grid points left there. -/
theorem ends_19 {r : PUnit × MemSt nD τ sig (Elt F)} (h : Ends m r) (c : Dev nD) :
    r.2.mem ((cfg0.spec 19).arr.view.loc (c.tc : Thread nD τ)) = (dats m 0 c).arrAt 19 cfg0.N :=
  ((dats m 0 c).toRForget_arrAt_iff (by decide) _ _).mp ((h c).1 19)

/-- Output 20's array holds what the grid points left there. -/
theorem ends_20 {r : PUnit × MemSt nD τ sig (Elt F)} (h : Ends m r) (c : Dev nD) :
    r.2.mem ((cfg0.spec 20).arr.view.loc (c.tc : Thread nD τ)) = (dats m 0 c).arrAt 20 cfg0.N :=
  ((dats m 0 c).toRForget_arrAt_iff (by decide) _ _).mp ((h c).1 20)

/-- Output 21's array holds what the grid points left there. -/
theorem ends_21 {r : PUnit × MemSt nD τ sig (Elt F)} (h : Ends m r) (c : Dev nD) :
    r.2.mem ((cfg0.spec 21).arr.view.loc (c.tc : Thread nD τ)) = (dats m 0 c).arrAt 21 cfg0.N :=
  ((dats m 0 c).toRForget_arrAt_iff (by decide) _ _).mp ((h c).1 21)

/-- Output 22's array holds what the grid points left there. -/
theorem ends_22 {r : PUnit × MemSt nD τ sig (Elt F)} (h : Ends m r) (c : Dev nD) :
    r.2.mem ((cfg0.spec 22).arr.view.loc (c.tc : Thread nD τ)) = (dats m 0 c).arrAt 22 cfg0.N :=
  ((dats m 0 c).toRForget_arrAt_iff (by decide) _ _).mp ((h c).1 22)

/-- Output 23's array holds what the grid points left there. -/
theorem ends_23 {r : PUnit × MemSt nD τ sig (Elt F)} (h : Ends m r) (c : Dev nD) :
    r.2.mem ((cfg0.spec 23).arr.view.loc (c.tc : Thread nD τ)) = (dats m 0 c).arrAt 23 cfg0.N :=
  ((dats m 0 c).toRForget_arrAt_iff (by decide) _ _).mp ((h c).1 23)

/-- Output 24's array holds what the grid points left there. -/
theorem ends_24 {r : PUnit × MemSt nD τ sig (Elt F)} (h : Ends m r) (c : Dev nD) :
    r.2.mem ((cfg0.spec 24).arr.view.loc (c.tc : Thread nD τ)) = (dats m 0 c).arrAt 24 cfg0.N :=
  ((dats m 0 c).toRForget_arrAt_iff (by decide) _ _).mp ((h c).1 24)

end Cert.Kernel3Ideal.Gen

end
-- ==== Proof.PreBits.lean ====
/- The kernel of the layer's first part ends with its arguments unchanged, over the machine's floats: the printed program is the
   idealized one, no operation of it being rewritten. -/
module

public import proofs.«01_k».proof.Defs
public import proofs.«01_k».proof.Proof.Gen.Kernel3
public import proofs.«01_k».proof.Proof.PreFrame

@[expose] public section

set_option maxRecDepth 16384

noncomputable section

namespace Cert.Kernel3.Gen

open Idealize.ShloMosaic Idealize.ShloMosaic.TcCoe Idealize.SL.Sem

/-- The idealized program, run over the machine's floats, leaves its arguments and its counters as they were. -/
def IdealOnBits : Prop :=
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

/-- The printed program's claim is the idealized program's, over the machine's floats. -/
theorem quiescent_same : Cert.quiescent_Kernel3 = IdealOnBits := by sl_kernel_rfl

/-- The printed program leaves its arguments and its counters as they were. -/
theorem frame : Cert.quiescent_Kernel3 :=
  quiescent_same.mpr fun m ρ _ => Cert.Kernel3Ideal.Gen.frame (F := Bits) m ρ

end Cert.Kernel3.Gen

end
-- ==== Proof.PreBody.lean ====
/- What one grid point of the layer's first kernel leaves in its first output block: the block after the feed-forward
   network, which is the function of rows the last kernel's network is too, at this kernel's weights. -/
module

public import proofs.«01_k».proof.Proof.PreFrame
public import proofs.«01_k».proof.Proof.PostBody

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Kernel2Ideal.Value (rmsBlk chunkBlk ffnBlk blk2 blk2_apply)

/-- The norm before the network, as printed. -/
theorem first_norm (x : Vec Ideal S512x1024 .f32) (g : Vec Ideal S1x1x1024 .f32) :
    k0_pay5 x g = truncf .bf16 (rmsBlk x g) bitsLt_bf16_f32 := by
  simp only [k0_pay5, k0_pay3, shapeCast_self]
  rfl

/-- The first chunk, as printed, starts the sum. -/
theorem first_chunk (h : Vec Ideal S512x1024 .bf16) (wg wu : Vec Ideal S1x1024x256 .bf16) (wd : Vec Ideal S1x256x1024 .bf16) :
    k0_pay7 (k0_pay6 h wg wu) wd = chunkBlk h wg wu wd := by
  simp only [k0_pay7, shapeCast_self]
  rfl

/-- Each later chunk, as printed, adds its contribution. -/
theorem later_chunks (h : Vec Ideal S512x1024 .bf16) (wg wu : Vec Ideal S1x1024x256 .bf16) (wd : Vec Ideal S1x256x1024 .bf16)
    (acc : Vec Ideal S512x1024 .f32) :
    k0_pay8 h wg wu wd acc = addf acc (chunkBlk h wg wu wd)
    ∧ k0_pay10 h (k0_pay9 h wg) wu wd acc = addf acc (chunkBlk h wg wu wd)
    ∧ k0_pay12 (k0_pay11 h wg wu wd acc) = addf acc (chunkBlk h wg wu wd)
    ∧ k0_pay13 h wg wu wd acc = addf acc (chunkBlk h wg wu wd)
    ∧ k0_pay16 (k0_pay14 h wg) (k0_pay15 h wu) wd acc = addf acc (chunkBlk h wg wu wd)
    ∧ k0_pay17 h wg wu wd acc = addf acc (chunkBlk h wg wu wd)
    ∧ k0_pay18 h wg wu wd acc = addf acc (chunkBlk h wg wu wd)
    ∧ k0_pay20 (k0_pay19 h wg wu) wd acc = addf acc (chunkBlk h wg wu wd)
    ∧ k0_pay21 h wg wu wd acc = addf acc (chunkBlk h wg wu wd)
    ∧ k0_pay22 h wg wu wd acc = addf acc (chunkBlk h wg wu wd) := by
  simp only [k0_pay8, k0_pay10, k0_pay12, k0_pay11, k0_pay13, k0_pay16, k0_pay17, k0_pay18, k0_pay20, k0_pay21, k0_pay22,
    shapeCast_self]
  exact ⟨rfl, rfl, rfl, rfl, rfl, rfl, rfl, rfl, rfl, rfl⟩

/-- The half step along the network's normed output, as printed. -/
theorem half_step (x y : Vec Ideal S512x1024 .f32) (g : Vec Ideal S1x1x1024 .f32) :
    k0_pay23 (k0_pay3 x) (k0_pay4 g) y
      = addf x (mulf (broadcast S512x1024 (Scalar.ofBits .f32 0x3F000000#32)) (rmsBlk y g)) := by
  simp only [k0_pay23, k0_pay3, shapeCast_self]
  rfl

variable (c : Dev nD) (i : grid0.Coords)
  (arg1 : Memref sig .tc .vmem S512x1024 .f32) (harg1 : arg1.IsWhole)
  (arg2 : Memref sig .tc .vmem S1x1x1024 .f32) (harg2 : arg2.IsWhole)
  (arg3 : Memref sig .tc .vmem S1x1024x2816 .bf16) (harg3 : arg3.IsWhole)
  (arg4 : Memref sig .tc .vmem S1x1024x2816 .bf16) (harg4 : arg4.IsWhole)
  (arg5 : Memref sig .tc .vmem S1x2816x1024 .bf16) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1024x2304 .bf16) (harg8 : arg8.IsWhole)
  (arg9 : Memref sig .tc .vmem S1x1x384 .f32) (harg9 : arg9.IsWhole)
  (arg10 : Memref sig .tc .vmem S1x384x1024 .bf16) (harg10 : arg10.IsWhole)
  (arg11 : Memref sig .tc .vmem S1x1x256 .f32) (harg11 : arg11.IsWhole)
  (arg12 : Memref sig .tc .vmem S1x256x1536 .bf16) (harg12 : arg12.IsWhole)
  (arg13 : Memref sig .tc .vmem S1x3x256 .f32) (harg13 : arg13.IsWhole)
  (arg14 : Memref sig .tc .vmem S512x128 .f32) (harg14 : arg14.IsWhole)
  (arg15 : Memref sig .tc .vmem S512x128 .f32) (harg15 : arg15.IsWhole)
  (arg16 : Memref sig .tc .vmem S512x1024 .f32) (harg16 : arg16.IsWhole)
  (arg17 : Memref sig .tc .vmem S512x256 .bf16) (harg17 : arg17.IsWhole)
  (arg18 : Memref sig .tc .vmem S512x256 .bf16) (harg18 : arg18.IsWhole)
  (arg19 : Memref sig .tc .vmem S512x256 .bf16) (harg19 : arg19.IsWhole)
  (arg20 : Memref sig .tc .vmem S512x256 .bf16) (harg20 : arg20.IsWhole)
  (arg21 : Memref sig .tc .vmem S512x256 .bf16) (harg21 : arg21.IsWhole)
  (arg22 : Memref sig .tc .vmem S512x1024 .bf16) (harg22 : arg22.IsWhole)
  (arg23 : Memref sig .tc .vmem S512x1024 .bf16) (harg23 : arg23.IsWhole)
  (arg24 : Memref sig .tc .vmem S1x512x512 .bf16) (harg24 : arg24.IsWhole)
  (arg25 : Memref sig .tc .vmem S1x512x512 .bf16) (harg25 : arg25.IsWhole)
  (arg26 : Memref sig .tc .vmem S512x256 .bf16) (harg26 : arg26.IsWhole)
  (arg27 : Memref sig .tc .vmem S512x1024 .bf16) (harg27 : arg27.IsWhole)
  (arg28 : Memref sig .tc .vmem S512x1024 .f32) (harg28 : arg28.IsWhole)
  (arg29 : Memref sig .tc .vmem S8x256 .f32) (harg29 : arg29.IsWhole)
  (x0 : Vec Ideal S512x1024 .f32) (x1 : Vec Ideal S1x1x1024 .f32) (x2 : Vec Ideal S1x1024x2816 .bf16) (x3 : Vec Ideal S1x1024x2816 .bf16)
  (x4 : Vec Ideal S1x2816x1024 .bf16) (x5 : Vec Ideal S1x1x1024 .f32) (x6 : Vec Ideal S1x1x1024 .f32) (x7 : Vec Ideal S1x1024x2304 .bf16)
  (x8 : Vec Ideal S1x1x384 .f32) (x9 : Vec Ideal S1x384x1024 .bf16) (x10 : Vec Ideal S1x1x256 .f32) (x11 : Vec Ideal S1x256x1536 .bf16)
  (x12 : Vec Ideal S1x3x256 .f32) (x13 : Vec Ideal S512x128 .f32) (x14 : Vec Ideal S512x128 .f32)

set_option maxHeartbeats 4000000 in
/-- What the body leaves in its first output: the block after the feed-forward network. -/
theorem out15_eq :
    out0_A_15 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14 = blk2 x1 x2 x3 x4 x5 x0 := by
  funext y
  frame_out
  rw [half_step]
  simp only [first_norm, first_chunk, later_chunks]
  refine (congrFun (View.canon_cons_unit_lit (S := S512x1024) _ _ _ (by decide)) y).trans ?_
  rfl

end Cert.Kernel3Ideal.Value

end
-- ==== Proof.PreRow.lean ====
/- The projections the first part of the layer makes of a token's row, on extended reals. -/
module

public import proofs.«01_k».proof.Proof.PostRow

@[expose] public section

noncomputable section

namespace Cert.Pre

open Idealize.ShloMosaic

/-- The root-mean-square norm of a row of the 256 shared latent features, scaled by `g`. -/
def rms (x g : Fin 256 → EReal) (j : Fin 256) : EReal :=
  x j * Ideal.rsqrt (Ideal.div (∑ k, x k * x k) (Ideal.ofBits .f32 0x43800000#32) + Ideal.ofBits .f32 0x358637BD#32) * g j

/-- A normed row times one column of weights. -/
def proj (x g : Fin 1024 → EReal) (w : Fin 1024 → EReal) : EReal := ∑ k, Post.rms x g k * w k

/-- One value of the latent attention: the shared latent features, normed, times one column of weights. -/
def latent (x g : Fin 1024 → EReal) (W : Fin 1024 → Fin 256 → EReal) (gkv u : Fin 256 → EReal) : EReal :=
  ∑ q, rms (fun q => proj x g fun k => W k q) gkv q * u q

/-- `x` on the lanes of the heads of even number, zero on the others: a head has 64 lanes. -/
def lo (l : ℕ) (x : EReal) : EReal := if l % 128 < 64 then x else 0

/-- `x` on the lanes of the heads of odd number, zero on the others. -/
def hi (l : ℕ) (x : EReal) : EReal := if l % 128 < 64 then 0 else x

/-- A selection by a head's parity keeps one of the two. -/
theorem select_even (l : ℕ) (x y : EReal) :
    Scalar.select (if l % 128 < 64 then 1#1 else 0#1) x y = if l % 128 < 64 then x else y := by
  by_cases h : l % 128 < 64
  · rw [if_pos h, if_pos h]; rfl
  · rw [if_neg h, if_neg h]; rfl

/-- The word zero stands for zero. -/
theorem zero_word {S : Shape} (i : S.Idx) : constant (F := Ideal) S .f32 0x00000000#32 i = (0 : EReal) :=
  Ideal.ofBits_zero .f32

end Cert.Pre

end
-- ==== Proof.PreMix.lean ====
/- What one grid point of the layer's first kernel leaves in the blocks of keys and values: the stream's block, normed and
   projected, and the values' lanes kept head by head. -/
module

public import proofs.«01_k».proof.Proof.PreBody
public import proofs.«01_k».proof.Proof.PreRow

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Kernel2Ideal.Value (rmsBlk chunkBlk ffnBlk blk2 blk2_apply)

/-- The first 768 columns of the input weights' block. -/
def headCols (w : Vec Ideal S1x1024x2304 .bf16) : Vec Ideal S1x1024x768 .bf16 :=
  View.ld w (Rect.unit ![0, 0, 0] ![1, 1024, 768] inb_S1x1024x2304_S1x1024x768_0_0_0)

/-- The 256 columns of the input weights' block that give the shared latent features. -/
def latentCols (w : Vec Ideal S1x1024x2304 .bf16) : Vec Ideal S1x1024x256 .bf16 :=
  View.ld w (Rect.unit ![0, 0, 1152] ![1, 1024, 256] inb_S1x1024x2304_S1x1024x256_0_0_1152)

/-- The printed mask along the 256 lanes of the stick-breaking heads. -/
theorem sb_mask : ∀ l : Fin 256, k0_pay28 (ix2 0 l) = if l.val % 128 < 64 then 1#1 else 0#1 := by decide +kernel

/-- The printed mask along the 512 features of the latent heads. -/
theorem latent_mask : ∀ l : Fin 512, k0_pay65 (ix2 l 0) = if l.val % 128 < 64 then 1#1 else 0#1 := by decide +kernel

section
variable (s : Vec Ideal S512x1024 .f32) (g : Vec Ideal S1x1x1024 .f32) (w : Vec Ideal S1x1024x2304 .bf16)

/-- The block of projections, as printed. -/
def projBlk : FVec Ideal S512x768 .f32 := k0_pay27 s g (headCols w)

/-- An entry of the block of projections. -/
theorem projBlk_apply (r : Fin 512) (l : Fin 768) : projBlk s g w (ix2 r l)
    = Pre.proj (fun k => s (ix2 r k)) (fun k => g (ix3 0 0 k)) fun k => w (ix3 0 k ⟨l, by omega⟩) := by
  pointwise [projBlk, k0_pay27, k0_pay24, Pre.proj, Post.rms, headCols]

/-- An entry of the block of keys. -/
theorem keys_apply (r : Fin 512) (l : Fin 256) : k0_pay32 (projBlk s g w) (ix2 r l)
    = Pre.proj (fun k => s (ix2 r k)) (fun k => g (ix3 0 0 k)) fun k => w (ix3 0 k ⟨256 + l, by omega⟩) := by
  pointwise [k0_pay32, projBlk_apply]

/-- An entry of the block of values on the even heads' lanes. -/
theorem values_lo_apply (r : Fin 512) (l : Fin 256) : k0_pay34 (projBlk s g w) k0_pay28 (ix2 r l)
    = Pre.lo l (Pre.proj (fun k => s (ix2 r k)) (fun k => g (ix3 0 0 k)) fun k => w (ix3 0 k ⟨512 + l, by omega⟩)) := by
  pointwise [k0_pay34, k0_pay33, projBlk_apply, sb_mask, Pre.select_even]
  rfl

/-- An entry of the block of values on the odd heads' lanes. -/
theorem values_hi_apply (r : Fin 512) (l : Fin 256) : k0_pay35 (projBlk s g w) k0_pay28 (ix2 r l)
    = Pre.hi l (Pre.proj (fun k => s (ix2 r k)) (fun k => g (ix3 0 0 k)) fun k => w (ix3 0 k ⟨512 + l, by omega⟩)) := by
  pointwise [k0_pay35, k0_pay33, projBlk_apply, sb_mask, Pre.select_even]
  rfl

variable (gkv : Vec Ideal S1x1x256 .f32) (u : Vec Ideal S1x256x1536 .bf16)

/-- The block of the latent attention's keys and values, as printed. -/
def latentBlk : FVec Ideal S512x1536 .f32 := k0_pay53 (k0_pay24 s g) (latentCols w) gkv u

/-- An entry of that block. -/
theorem latentBlk_apply (r : Fin 512) (n : Fin 1536) : latentBlk s g w gkv u (ix2 r n)
    = Pre.latent (fun k => s (ix2 r k)) (fun k => g (ix3 0 0 k)) (fun k q => w (ix3 0 k ⟨1152 + q, by omega⟩))
      (fun q => gkv (ix3 0 0 q)) (fun q => u (ix3 0 q n)) := by
  pointwise [latentBlk, k0_pay53, k0_pay24, Pre.latent, Pre.rms, Pre.proj, Post.rms, latentCols]

/-- An entry of the block of transposed values on the even heads' features. -/
theorem latent_lo_apply (r : Fin 512) (n : Fin 512) : k0_pay66 (latentBlk s g w gkv u) (ix3 0 n r)
    = Pre.lo n (latentBlk s g w gkv u (ix2 r ⟨1024 + n, by omega⟩)) := by
  pointwise [k0_pay66, k0_pay64, latent_mask, Pre.select_even]
  rfl

/-- An entry of the block of transposed values on the odd heads' features. -/
theorem latent_hi_apply (r : Fin 512) (n : Fin 512) : k0_pay68 (k0_pay67 (latentBlk s g w gkv u)) (ix3 0 n r)
    = Pre.hi n (latentBlk s g w gkv u (ix2 r ⟨1024 + n, by omega⟩)) := by
  pointwise [k0_pay68, k0_pay67, k0_pay64, latent_mask, Pre.select_even]
  rfl
end

variable (c : Dev nD) (i : grid0.Coords)
  (arg1 : Memref sig .tc .vmem S512x1024 .f32) (harg1 : arg1.IsWhole)
  (arg2 : Memref sig .tc .vmem S1x1x1024 .f32) (harg2 : arg2.IsWhole)
  (arg3 : Memref sig .tc .vmem S1x1024x2816 .bf16) (harg3 : arg3.IsWhole)
  (arg4 : Memref sig .tc .vmem S1x1024x2816 .bf16) (harg4 : arg4.IsWhole)
  (arg5 : Memref sig .tc .vmem S1x2816x1024 .bf16) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1024x2304 .bf16) (harg8 : arg8.IsWhole)
  (arg9 : Memref sig .tc .vmem S1x1x384 .f32) (harg9 : arg9.IsWhole)
  (arg10 : Memref sig .tc .vmem S1x384x1024 .bf16) (harg10 : arg10.IsWhole)
  (arg11 : Memref sig .tc .vmem S1x1x256 .f32) (harg11 : arg11.IsWhole)
  (arg12 : Memref sig .tc .vmem S1x256x1536 .bf16) (harg12 : arg12.IsWhole)
  (arg13 : Memref sig .tc .vmem S1x3x256 .f32) (harg13 : arg13.IsWhole)
  (arg14 : Memref sig .tc .vmem S512x128 .f32) (harg14 : arg14.IsWhole)
  (arg15 : Memref sig .tc .vmem S512x128 .f32) (harg15 : arg15.IsWhole)
  (arg16 : Memref sig .tc .vmem S512x1024 .f32) (harg16 : arg16.IsWhole)
  (arg17 : Memref sig .tc .vmem S512x256 .bf16) (harg17 : arg17.IsWhole)
  (arg18 : Memref sig .tc .vmem S512x256 .bf16) (harg18 : arg18.IsWhole)
  (arg19 : Memref sig .tc .vmem S512x256 .bf16) (harg19 : arg19.IsWhole)
  (arg20 : Memref sig .tc .vmem S512x256 .bf16) (harg20 : arg20.IsWhole)
  (arg21 : Memref sig .tc .vmem S512x256 .bf16) (harg21 : arg21.IsWhole)
  (arg22 : Memref sig .tc .vmem S512x1024 .bf16) (harg22 : arg22.IsWhole)
  (arg23 : Memref sig .tc .vmem S512x1024 .bf16) (harg23 : arg23.IsWhole)
  (arg24 : Memref sig .tc .vmem S1x512x512 .bf16) (harg24 : arg24.IsWhole)
  (arg25 : Memref sig .tc .vmem S1x512x512 .bf16) (harg25 : arg25.IsWhole)
  (arg26 : Memref sig .tc .vmem S512x256 .bf16) (harg26 : arg26.IsWhole)
  (arg27 : Memref sig .tc .vmem S512x1024 .bf16) (harg27 : arg27.IsWhole)
  (arg28 : Memref sig .tc .vmem S512x1024 .f32) (harg28 : arg28.IsWhole)
  (arg29 : Memref sig .tc .vmem S8x256 .f32) (harg29 : arg29.IsWhole)
  (x0 : Vec Ideal S512x1024 .f32) (x1 : Vec Ideal S1x1x1024 .f32) (x2 : Vec Ideal S1x1024x2816 .bf16) (x3 : Vec Ideal S1x1024x2816 .bf16)
  (x4 : Vec Ideal S1x2816x1024 .bf16) (x5 : Vec Ideal S1x1x1024 .f32) (x6 : Vec Ideal S1x1x1024 .f32) (x7 : Vec Ideal S1x1024x2304 .bf16)
  (x8 : Vec Ideal S1x1x384 .f32) (x9 : Vec Ideal S1x384x1024 .bf16) (x10 : Vec Ideal S1x1x256 .f32) (x11 : Vec Ideal S1x256x1536 .bf16)
  (x12 : Vec Ideal S1x3x256 .f32) (x13 : Vec Ideal S512x128 .f32) (x14 : Vec Ideal S512x128 .f32)

set_option maxHeartbeats 4000000 in
/-- What the body leaves in its output 18: the keys. -/
theorem out18_eq :
    out0_A_18 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14 = k0_pay32 (projBlk (blk2 x1 x2 x3 x4 x5 x0) x6 x7) := by
  funext y
  frame_out
  rw [half_step]
  simp only [first_norm, first_chunk, later_chunks]
  refine (congrFun (View.canon_cons_unit_lit (S := S512x256) _ _ _ (by decide)) y).trans ?_
  rfl

set_option maxHeartbeats 4000000 in
/-- What the body leaves in its output 19: the values on the even heads' lanes. -/
theorem out19_eq :
    out0_A_19 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14 = k0_pay34 (projBlk (blk2 x1 x2 x3 x4 x5 x0) x6 x7) k0_pay28 := by
  funext y
  frame_out
  rw [half_step]
  simp only [first_norm, first_chunk, later_chunks]
  refine (congrFun (View.canon_cons_unit_lit (S := S512x256) _ _ _ (by decide)) y).trans ?_
  rfl

set_option maxHeartbeats 4000000 in
/-- What the body leaves in its output 20: the values on the odd heads' lanes. -/
theorem out20_eq :
    out0_A_20 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14 = k0_pay35 (projBlk (blk2 x1 x2 x3 x4 x5 x0) x6 x7) k0_pay28 := by
  funext y
  frame_out
  rw [half_step]
  simp only [first_norm, first_chunk, later_chunks]
  refine (congrFun (View.canon_cons_unit_lit (S := S512x256) _ _ _ (by decide)) y).trans ?_
  rfl

set_option maxHeartbeats 4000000 in
/-- What the body leaves in its output 23: the latent values on the even heads' features. -/
theorem out23_eq :
    out0_A_23 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14 = k0_pay66 (latentBlk (blk2 x1 x2 x3 x4 x5 x0) x6 x7 x10 x11) := by
  funext y
  frame_out
  rw [half_step]
  simp only [first_norm, first_chunk, later_chunks]
  refine (congrFun (View.canon_cons_unit_lit (S := S1x512x512) _ _ _ (by decide)) y).trans ?_
  rfl

set_option maxHeartbeats 4000000 in
/-- What the body leaves in its output 24: the latent values on the odd heads' features. -/
theorem out24_eq :
    out0_A_24 (F := Ideal) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27
      arg28 harg28 arg29 harg29
      x0 x1 x2 x3 x4 x5 x6 x7 x8 x9 x10 x11 x12 x13 x14 = k0_pay68 (k0_pay67 (latentBlk (blk2 x1 x2 x3 x4 x5 x0) x6 x7 x10 x11)) := by
  funext y
  frame_out
  rw [half_step]
  simp only [first_norm, first_chunk, later_chunks]
  refine (congrFun (View.canon_cons_unit_lit (S := S1x512x512) _ _ _ (by decide)) y).trans ?_
  rfl

end Cert.Kernel3Ideal.Value

end
-- ==== Proof.PreReads.lean ====
/- What the blocks of the layer's first kernel hold, as its grid points are given them, in terms of the arguments. -/
module

public import proofs.«01_k».proof.Proof.Gen.Kernel3Ideal
public import proofs.«01_k».proof.Proof.PreFrame
public import Idealize.ShloMosaic.Lib.Pipeline.ValueKit
public import Idealize.ShloMosaic.Lib.Pointwise

@[expose] public section

set_option maxRecDepth 16384

noncomputable section

namespace Cert.Kernel3Ideal.Value

open Cert.Kernel3Ideal Cert.Kernel3Ideal.Gen Idealize.ShloMosaic.StableHlo Idealize.ShloMosaic Idealize.ShloMosaic.TcCoe Idealize.SL.Sem

variable (m : (ℓ : Loc nD τ sig) → Buf (Elt Ideal) ℓ)

/-- The row blocks at grid point `t`. -/
theorem index_rows : ∀ t : Fin grid0.N, win0_15.index t = ![t.val, 0] ∧ win0_0.index t = ![t.val, 0] := by decide +kernel
/-- The weights' blocks are the second layer's. -/
theorem index_weights : ∀ t : Fin grid0.N, win0_1.index t = ![1, 0, 0] ∧ win0_2.index t = ![1, 0, 0] ∧ win0_3.index t = ![1, 0, 0]
    ∧ win0_4.index t = ![1, 0, 0] ∧ win0_5.index t = ![1, 0, 0] := by decide +kernel

set_option maxHeartbeats 4000000 in
/-- An entry of the residual stream as the kernel is given it. -/
theorem read0 (c : Dev nD) (t : Fin cfg0.N) (r : Fin 512) (k : Fin 1024) (hb : (t.val * 512 + r.val) / 2048 < 8)
    (hr : (t.val * 512 + r.val) % 2048 < 2048) : iblk m c 0 t (ix2 r k)
      = m ((c : Thread nD τ).loc main_arg0) (ix3 ⟨(t.val * 512 + r.val) / 2048, hb⟩ ⟨(t.val * 512 + r.val) % 2048, hr⟩ k) := by
  blk_simp [iblk]
  unfold V
  simp only [hostOps0, hostOps0_1, hostOps0_2, hostOps0_3, hostOps0_4, hostOps0_5, hostOps0_6, List.flatten_cons,
    List.flatten_nil, List.cons_append, List.nil_append, List.append_nil]
  entry_read
  pointwise
  blk_ext! [(index_rows t).2]

set_option maxHeartbeats 4000000 in
/-- An entry of the network's first gain as the kernel is given it. -/
theorem read1 (c : Dev nD) (t : Fin cfg0.N) (k : Fin 1024) :
    iblk m c 1 t (ix3 0 0 k) = m ((c : Thread nD τ).loc main_arg3) (ix2 1 k) := by
  blk_simp [iblk]
  unfold V
  simp only [hostOps0, hostOps0_1, hostOps0_2, hostOps0_3, hostOps0_4, hostOps0_5, hostOps0_6, List.flatten_cons,
    List.flatten_nil, List.cons_append, List.nil_append, List.append_nil]
  entry_read
  pointwise
  blk_ext! [(index_weights t).1]

/-- An entry of the gate weights as the kernel is given it. -/
theorem read2 (c : Dev nD) (t : Fin cfg0.N) (k : Fin 1024) (n : Fin 2816) :
    iblk m c 2 t (ix3 0 k n) = m ((c : Thread nD τ).loc main_arg4) (ix3 1 k n) := by
  blk_simp [iblk]
  entry_read
  pointwise
  blk_ext! [(index_weights t).2.1]

/-- An entry of the up weights as the kernel is given it. -/
theorem read3 (c : Dev nD) (t : Fin cfg0.N) (k : Fin 1024) (n : Fin 2816) :
    iblk m c 3 t (ix3 0 k n) = m ((c : Thread nD τ).loc main_arg5) (ix3 1 k n) := by
  blk_simp [iblk]
  entry_read
  pointwise
  blk_ext! [(index_weights t).2.2.1]

/-- An entry of the down weights as the kernel is given it. -/
theorem read4 (c : Dev nD) (t : Fin cfg0.N) (k : Fin 2816) (n : Fin 1024) :
    iblk m c 4 t (ix3 0 k n) = m ((c : Thread nD τ).loc main_arg6) (ix3 1 k n) := by
  blk_simp [iblk]
  entry_read
  pointwise
  blk_ext! [(index_weights t).2.2.2.1]

set_option maxHeartbeats 4000000 in
/-- An entry of the network's last gain as the kernel is given it. -/
theorem read5 (c : Dev nD) (t : Fin cfg0.N) (k : Fin 1024) :
    iblk m c 5 t (ix3 0 0 k) = m ((c : Thread nD τ).loc main_arg7) (ix2 1 k) := by
  blk_simp [iblk]
  unfold V
  simp only [hostOps0, hostOps0_1, hostOps0_2, hostOps0_3, hostOps0_4, hostOps0_5, hostOps0_6, List.flatten_cons,
    List.flatten_nil, List.cons_append, List.nil_append, List.append_nil]
  entry_read
  pointwise
  blk_ext! [(index_weights t).2.2.2.2]

end Cert.Kernel3Ideal.Value

end
-- ==== Proof.PreMixReads.lean ====
/- What the blocks of the layer's first kernel hold of the weights of the projections, in terms of the arguments. -/
module

public import proofs.«01_k».proof.Proof.PreReads

@[expose] public section

set_option maxRecDepth 16384

noncomputable section

namespace Cert.Kernel3Ideal.Value

open Cert.Kernel3Ideal Cert.Kernel3Ideal.Gen Idealize.ShloMosaic.StableHlo Idealize.ShloMosaic Idealize.ShloMosaic.TcCoe Idealize.SL.Sem

variable (m : (ℓ : Loc nD τ sig) → Buf (Elt Ideal) ℓ)

/-- The blocks of the projections' weights are the second layer's. -/
theorem index_mix : ∀ t : Fin grid0.N, win0_6.index t = ![1, 0, 0] ∧ win0_7.index t = ![1, 0, 0] ∧ win0_10.index t = ![1, 0, 0]
    ∧ win0_11.index t = ![1, 0, 0] := by decide +kernel
/-- The row blocks of the keys and values at grid point `t`. -/
theorem index_heads : ∀ t : Fin grid0.N, win0_18.index t = ![t.val, 0] ∧ win0_19.index t = ![t.val, 0]
    ∧ win0_20.index t = ![t.val, 0] := by decide +kernel
/-- The blocks of the transposed values at grid point `t`: four to a batch. -/
theorem index_latent : ∀ t : Fin grid0.N, win0_23.index t = ![t.val / 4, 0, t.val % 4]
    ∧ win0_24.index t = ![t.val / 4, 0, t.val % 4] := by decide +kernel

set_option maxHeartbeats 4000000 in
/-- An entry of the projections' gain as the kernel is given it. -/
theorem read6 (c : Dev nD) (t : Fin cfg0.N) (k : Fin 1024) :
    iblk m c 6 t (ix3 0 0 k) = m ((c : Thread nD τ).loc main_arg8) (ix2 1 k) := by
  blk_simp [iblk]
  unfold V
  simp only [hostOps0, hostOps0_1, hostOps0_2, hostOps0_3, hostOps0_4, hostOps0_5, hostOps0_6, List.flatten_cons,
    List.flatten_nil, List.cons_append, List.nil_append, List.append_nil]
  entry_read
  pointwise
  blk_ext! [(index_mix t).1]

set_option maxHeartbeats 4000000 in
/-- An entry of the gain of the shared latent features as the kernel is given it. -/
theorem read10 (c : Dev nD) (t : Fin cfg0.N) (k : Fin 256) :
    iblk m c 10 t (ix3 0 0 k) = m ((c : Thread nD τ).loc main_arg12) (ix2 1 k) := by
  blk_simp [iblk]
  unfold V
  simp only [hostOps0, hostOps0_1, hostOps0_2, hostOps0_3, hostOps0_4, hostOps0_5, hostOps0_6, List.flatten_cons,
    List.flatten_nil, List.cons_append, List.nil_append, List.append_nil]
  entry_read
  pointwise
  blk_ext! [(index_mix t).2.2.1]

/-- Operations one after the other. -/
theorem after_append (A B : List (HloOp τ sig (Elt Ideal))) (W : Valuation τ sig (Elt Ideal)) :
    after (A ++ B) W = after B (after A W) := by
  induction A generalizing W with
  | nil => rfl
  | cons o A ih => exact ih _

/-- The operations before the input weights are packed leave the weights alone. -/
theorem weights_before (W : Valuation τ sig (Elt Ideal)) :
    after (hostOps0 ++ hostOps0_1) W (Proc.devRef .tc main_arg9) = W (Proc.devRef .tc main_arg9) :=
  after_of_forall_not_mem _ _ (List.forall_iff_forall_mem.mp (by
    simp only [hostOps0, hostOps0_1, List.cons_append, List.nil_append, List.Forall, nullary_writes, unary_writes, binary_writes,
      reshape_writes, nary_writes, Finset.mem_singleton]
    repeat' apply And.intro
    all_goals exact devRef_ne_of_ne (by decide)))

/-- The operations after the input weights are packed leave the packed weights alone. -/
theorem packed_after (W : Valuation τ sig (Elt Ideal)) :
    after (hostOps0_3 ++ (hostOps0_4 ++ (hostOps0_5 ++ hostOps0_6))) W (Proc.devRef .tc main_v19) = W (Proc.devRef .tc main_v19) :=
  after_of_forall_not_mem _ _ (List.forall_iff_forall_mem.mp (by
    simp only [hostOps0_3, hostOps0_4, hostOps0_5, hostOps0_6, List.cons_append, List.nil_append, List.Forall, nullary_writes,
      unary_writes, binary_writes, reshape_writes, Finset.mem_singleton]
    repeat' apply And.intro
    all_goals exact devRef_ne_of_ne (by decide)))

/-- The first piece of the packed input weights. -/
theorem first_columns (x : FVec Ideal S2x1024x1408 .f32) (y : FVec Ideal S2x1024x768 .f32) (z : FVec Ideal S2x1024x128 .f32)
    (k : Fin 1024) (n : ℕ) (hn : n < 1408) (h1 : n < 2304) :
    concatenate S2x1024x2304 2 [⟨S2x1024x1408, x⟩, ⟨S2x1024x768, y⟩, ⟨S2x1024x128, z⟩]
      concatenates_S2x1024x1408_S2x1024x768_S2x1024x128_S2x1024x2304_d2 (ix3 1 k ⟨n, h1⟩) = x (ix3 1 k ⟨n, hn⟩) := by
  pointwise
  exact dif_pos hn

set_option maxHeartbeats 4000000 in
/-- The packed input weights' first 1408 columns are the weights' own. -/
theorem packed (W : Valuation τ sig (Elt Ideal)) (k : Fin 1024) (n : ℕ) (hn : n < 1408) (h1 : n < 2304) (h2 : n < 2208) :
    (after hostOps0_2 W (Proc.devRef .tc main_v19) : FVec Ideal S2x1024x2304 .bf16) (ix3 1 k ⟨n, h1⟩)
      = (W (Proc.devRef .tc main_arg9) : FVec Ideal S2x1024x2208 .f32) (ix3 1 k ⟨n, h2⟩) := by
  simp only [hostOps0_2, after_cons, after_nil]
  after_results_simp
  refine (first_columns _ _ _ k n hn h1).trans ?_
  refine (congrFun ((unary_result_ne _ _ _ _ _ _ (r := main_v16) (by decide)).trans (unary_result _ _ _ _ _ _)) _).trans ?_
  pointwise

/-- An entry of the packed input weights as the kernel is given it: the first 1408 columns stay where they are. -/
theorem read7 (c : Dev nD) (t : Fin cfg0.N) (k : Fin 1024) (n : ℕ) (hn : n < 1408) (h1 : n < 2304) (h2 : n < 2208) :
    iblk m c 7 t (ix3 0 k ⟨n, h1⟩) = m ((c : Thread nD τ).loc main_arg9) (ix3 1 k ⟨n, h2⟩) := by
  have e : (win0_7.blk t).view.emb (ix3 0 k ⟨n, h1⟩) = ix3 1 k ⟨n, h1⟩ := by blk_ext! [(index_mix t).2.1]
  have f : [hostOps0 (F := Ideal), hostOps0_1, hostOps0_2, hostOps0_3, hostOps0_4, hostOps0_5, hostOps0_6].flatten
      = (hostOps0 ++ hostOps0_1) ++ (hostOps0_2 ++ (hostOps0_3 ++ (hostOps0_4 ++ (hostOps0_5 ++ hostOps0_6)))) := by
    simp only [List.flatten_cons, List.flatten_nil, List.append_nil, List.append_assoc]
  blk_simp [iblk]
  rw [e]
  unfold V
  rw [f, after_append, after_append, packed_after, packed _ _ _ hn h1 h2, weights_before]

set_option maxHeartbeats 4000000 in
/-- An entry of the packed weights of the latent values as the kernel is given it. -/
theorem read11 (c : Dev nD) (t : Fin cfg0.N) (q : Fin 256) (n : Fin 512) (h1 : 1024 + n.val < 1536)
    (h2 : n.val / 64 * 128 + (64 + n.val % 64) < 1024) :
    iblk m c 11 t (ix3 0 q ⟨1024 + n, h1⟩)
      = m ((c : Thread nD τ).loc main_arg13) (ix3 1 q ⟨n.val / 64 * 128 + (64 + n.val % 64), h2⟩) := by
  have e : (win0_11.blk t).view.emb (ix3 0 q ⟨1024 + n, h1⟩) = ix3 1 q ⟨1024 + n, h1⟩ := by blk_ext! [(index_mix t).2.2.2]
  blk_simp [iblk]
  rw [e]
  unfold V
  simp only [hostOps0, hostOps0_1, hostOps0_2, hostOps0_3, hostOps0_4, hostOps0_5, hostOps0_6, List.flatten_cons,
    List.flatten_nil, List.cons_append, List.nil_append, List.append_nil]
  entry_read
  pointwise

end Cert.Kernel3Ideal.Value

end
-- ==== Proof.PreRef.lean ====
/- The reference of the layer's first feed-forward network, read at a token and a feature: `Post.row2`. -/
module

public import proofs.«01_k».proof.Proof.Gen.Reference3Ideal.Read
public import proofs.«01_k».proof.Proof.PostRow
public import Idealize.ShloMosaic.Lib.Pipeline.ValueKit
public import Idealize.ShloMosaic.Lib.Pointwise

@[expose] public section

set_option maxRecDepth 16384

noncomputable section

namespace Cert.Reference3Ideal.Read

open Cert.Reference3Ideal Cert.Reference3Ideal.Gen Idealize.ShloMosaic Idealize.ShloMosaic.TcCoe Idealize.SL.Sem

variable (x0 : FVec Ideal S8x2048x1024 .f32) (x3 : FVec Ideal S2x1024 .f32) (x4 x5 : FVec Ideal S2x1024x2816 .f32)
  (x6 : FVec Ideal S2x2816x1024 .f32) (x7 : FVec Ideal S2x1024 .f32) (b : Fin 8) (r : Fin 2048)

/-- An entry of the network's normalised input. -/
theorem v14_row (j : Fin 1024) :
    val_main_v14 (F := Ideal) x0 x3 (ix3 b r j) = Post.rms (fun k => x0 (ix3 b r k)) (fun k => x3 (ix2 1 k)) j := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, Post.rms]

/-- An entry of the gated product. -/
theorem v24_row (n : Fin 2816) :
    val_main_v24 (F := Ideal) x0 x3 x4 x5 (ix3 b r n) = Post.unit
      (fun k => val_main_v14 (F := Ideal) x0 x3 (ix3 b r k)) (fun k n => x4 (ix3 1 k n)) (fun k n => x5 (ix3 1 k n)) n := by
  pointwise [val_main_v24, val_main_v23, val_main_v22, val_main_v21, val_main_v18, val_main_v17, val_main_v16, val_main_v15,
    val_main_call0_v5, val_main_call0_v4, val_main_call0_v3, val_main_call0_v2, val_main_call0_v1, val_main_call0_v0,
    val_main_call0_cst, val_main_call0_cst_0, Post.unit, Ideal.logistic]

/-- An entry of the network's output. -/
theorem v25_row (j : Fin 1024) :
    val_main_v25 (F := Ideal) x0 x3 x4 x5 x6 (ix3 b r j) = Post.ffn
      (fun k => val_main_v14 (F := Ideal) x0 x3 (ix3 b r k)) (fun k n => x4 (ix3 1 k n)) (fun k n => x5 (ix3 1 k n))
      (fun n k => x6 (ix3 1 n k)) j := by
  pointwise [val_main_v25, val_main_v20, val_main_v19, v24_row, Post.ffn]

/-- An entry of the network's normalised output. -/
theorem v40_row (j : Fin 1024) :
    val_main_v40 (F := Ideal) x0 x3 x4 x5 x6 x7 (ix3 b r j) = Post.rms
      (fun k => val_main_v25 (F := Ideal) x0 x3 x4 x5 x6 (ix3 b r k)) (fun k => x7 (ix2 1 k)) j := by
  pointwise [val_main_v40, val_main_v39, val_main_v38, val_main_v37, val_main_v36, val_main_v35, val_main_v34, val_main_v33,
    val_main_v32, val_main_v31, val_main_v30, val_main_v29, val_main_v28, val_main_v27, val_main_v26, val_main_cst_2,
    val_main_cst_3, val_main_cst_4, Post.rms]

/-- An entry of the stream after the network. -/
theorem v43_row (j : Fin 1024) :
    val_main_v43 (F := Ideal) x0 x3 x4 x5 x6 x7 (ix3 b r j) = Post.row2 (fun k => x0 (ix3 b r k)) (fun k => x3 (ix2 1 k))
      (fun k n => x4 (ix3 1 k n)) (fun k n => x5 (ix3 1 k n)) (fun n k => x6 (ix3 1 n k)) (fun k => x7 (ix2 1 k)) j := by
  have h14 : (fun k => val_main_v14 (F := Ideal) x0 x3 (ix3 b r k)) = Post.rms _ _ := funext fun k => v14_row x0 x3 b r k
  have h25 : (fun k => val_main_v25 (F := Ideal) x0 x3 x4 x5 x6 (ix3 b r k)) = Post.ffn _ _ _ _ :=
    funext fun k => v25_row x0 x3 x4 x5 x6 b r k
  rw [Post.row2, ← h14, ← h25, ← v40_row]
  pointwise [val_main_v43, val_main_v42, val_main_v41, val_main_cst_5]

/-- The reference's result at token `R` of the flattened batch. -/
theorem stream_row (R : Fin 16384) (j : Fin 1024) (hb : R.val / 2048 < 8) (hr : R.val % 2048 < 2048) :
    val_main_v101 (F := Ideal) x0 x3 x4 x5 x6 x7 (ix2 R j) =
      Post.row2 (fun k => x0 (ix3 ⟨R.val / 2048, hb⟩ ⟨R.val % 2048, hr⟩ k)) (fun k => x3 (ix2 1 k))
        (fun k n => x4 (ix3 1 k n)) (fun k n => x5 (ix3 1 k n)) (fun n k => x6 (ix3 1 n k)) (fun k => x7 (ix2 1 k)) j := by
  have h : val_main_v101 (F := Ideal) x0 x3 x4 x5 x6 x7 (ix2 R j) =
      val_main_v43 (F := Ideal) x0 x3 x4 x5 x6 x7 (ix3 ⟨R.val / 2048, hb⟩ ⟨R.val % 2048, hr⟩ j) := by
    pointwise [val_main_v101]
  rw [h, v43_row]

end Cert.Reference3Ideal.Read

end
-- ==== Proof.PreMixRef.lean ====
/- The reference of the layer's first part: its projections, read at a token and a feature. -/
module

public import proofs.«01_k».proof.Proof.PreRef
public import proofs.«01_k».proof.Proof.PreRow

@[expose] public section

set_option maxRecDepth 16384

noncomputable section

namespace Cert.Reference3Ideal.Read

open Cert.Reference3Ideal Cert.Reference3Ideal.Gen Idealize.ShloMosaic Idealize.ShloMosaic.TcCoe Idealize.SL.Sem

variable (x0 : FVec Ideal S8x2048x1024 .f32) (x3 : FVec Ideal S2x1024 .f32) (x4 x5 : FVec Ideal S2x1024x2816 .f32)
  (x6 : FVec Ideal S2x2816x1024 .f32) (x7 x8 : FVec Ideal S2x1024 .f32) (x9 : FVec Ideal S2x1024x2208 .f32)
  (x12 : FVec Ideal S2x256 .f32) (x13 : FVec Ideal S2x256x1024 .f32) (b : Fin 8) (r : Fin 2048)

/-- An entry of the projections' normalised input. -/
theorem v58_row (j : Fin 1024) : val_main_v58 (F := Ideal) x0 x3 x4 x5 x6 x7 x8 (ix3 b r j)
    = Post.rms (fun k => val_main_v43 (F := Ideal) x0 x3 x4 x5 x6 x7 (ix3 b r k)) (fun k => x8 (ix2 1 k)) j := by
  pointwise [val_main_v58, val_main_v57, val_main_v56, val_main_v55, val_main_v54, val_main_v53, val_main_v52, val_main_v51,
    val_main_v50, val_main_v49, val_main_v48, val_main_v47, val_main_v46, val_main_v45, val_main_v44, val_main_cst_6,
    val_main_cst_7, val_main_cst_8, Post.rms]

/-- An entry of the projections. -/
theorem v61_row (n : Fin 2208) : val_main_v61 (F := Ideal) x0 x3 x4 x5 x6 x7 x8 x9 (ix3 b r n)
    = Pre.proj (fun k => val_main_v43 (F := Ideal) x0 x3 x4 x5 x6 x7 (ix3 b r k)) (fun k => x8 (ix2 1 k))
      fun k => x9 (ix3 1 k n) := by
  pointwise [val_main_v61, val_main_v60, val_main_v59, v58_row, Pre.proj]

/-- An entry of the shared latent features. -/
theorem v66_row (q : Fin 256) : val_main_v66 (F := Ideal) x0 x3 x4 x5 x6 x7 x8 x9 (ix3 b r q)
    = Pre.proj (fun k => val_main_v43 (F := Ideal) x0 x3 x4 x5 x6 x7 (ix3 b r k)) (fun k => x8 (ix2 1 k))
      fun k => x9 (ix3 1 k ⟨1152 + q, by omega⟩) := by
  pointwise [val_main_v66, v61_row]

/-- An entry of the shared latent features, normalised. -/
theorem v82_row (q : Fin 256) : val_main_v82 (F := Ideal) x0 x3 x4 x5 x6 x7 x8 x9 x12 (ix3 b r q)
    = Pre.rms (fun q => val_main_v66 (F := Ideal) x0 x3 x4 x5 x6 x7 x8 x9 (ix3 b r q)) (fun q => x12 (ix2 1 q)) q := by
  pointwise [val_main_v82, val_main_v81, val_main_v80, val_main_v79, val_main_v78, val_main_v77, val_main_v76, val_main_v75,
    val_main_v74, val_main_v73, val_main_v72, val_main_v71, val_main_v70, val_main_v69, val_main_v68, val_main_cst_9,
    val_main_cst_10, val_main_cst_11, Pre.rms]

/-- An entry of the latent attention's keys and values. -/
theorem v85_row (n : Fin 1024) : val_main_v85 (F := Ideal) x0 x3 x4 x5 x6 x7 x8 x9 x12 x13 (ix3 b r n)
    = Pre.latent (fun k => val_main_v43 (F := Ideal) x0 x3 x4 x5 x6 x7 (ix3 b r k)) (fun k => x8 (ix2 1 k))
      (fun k q => x9 (ix3 1 k ⟨1152 + q, by omega⟩)) (fun q => x12 (ix2 1 q)) fun q => x13 (ix3 1 q n) := by
  pointwise [val_main_v85, val_main_v84, val_main_v83, v82_row, v66_row, Pre.latent]

/-- The lanes of the stick-breaking attention's heads of even number. -/
theorem v94_lane : ∀ l : Fin 256, val_main_v94 (F := Ideal) (ix1 l) = if l.val % 128 < 64 then 1#1 else 0#1 := by
  decide +kernel

/-- The features of the latent attention's heads of even number. -/
theorem v99_lane : ∀ l : Fin 512, val_main_v99 (F := Ideal) (ix1 l) = if l.val % 128 < 64 then 1#1 else 0#1 := by
  decide +kernel

section
variable (R : Fin 16384) (l : Fin 256) (hb : R.val / 2048 < 8) (hr : R.val % 2048 < 2048)

/-- The keys at token `R` of the flattened batch. -/
theorem keys_row : val_main_v103 (F := Ideal) x0 x3 x4 x5 x6 x7 x8 x9 (ix2 R l)
    = Pre.proj (fun k => val_main_v43 (F := Ideal) x0 x3 x4 x5 x6 x7 (ix3 ⟨R.val / 2048, hb⟩ ⟨R.val % 2048, hr⟩ k))
      (fun k => x8 (ix2 1 k)) fun k => x9 (ix3 1 k ⟨256 + l, by omega⟩) := by
  pointwise [val_main_v103, val_main_v102, val_main_v63, v61_row]

/-- The values at token `R`, on the even heads' lanes. -/
theorem values_lo_row : val_main_v106 (F := Ideal) x0 x3 x4 x5 x6 x7 x8 x9 (ix2 R l) = Pre.lo l
    (Pre.proj (fun k => val_main_v43 (F := Ideal) x0 x3 x4 x5 x6 x7 (ix3 ⟨R.val / 2048, hb⟩ ⟨R.val % 2048, hr⟩ k))
      (fun k => x8 (ix2 1 k)) fun k => x9 (ix3 1 k ⟨512 + l, by omega⟩)) := by
  pointwise [val_main_v106, val_main_v105, val_main_v104, val_main_call1_v2, val_main_call1_v1, val_main_call1_v0,
    val_main_cst_15, val_main_v64, v61_row, v94_lane, Pre.select_even, Pre.lo]
  split <;> simp only [id, Pre.zero_word]

/-- The values at token `R`, on the odd heads' lanes. -/
theorem values_hi_row : val_main_v109 (F := Ideal) x0 x3 x4 x5 x6 x7 x8 x9 (ix2 R l) = Pre.hi l
    (Pre.proj (fun k => val_main_v43 (F := Ideal) x0 x3 x4 x5 x6 x7 (ix3 ⟨R.val / 2048, hb⟩ ⟨R.val % 2048, hr⟩ k))
      (fun k => x8 (ix2 1 k)) fun k => x9 (ix3 1 k ⟨512 + l, by omega⟩)) := by
  pointwise [val_main_v109, val_main_v108, val_main_v107, val_main_call2_v2, val_main_call2_v1, val_main_call2_v0,
    val_main_cst_16, val_main_v64, v61_row, v94_lane, Pre.select_even, Pre.hi]
  split <;> simp only [id, Pre.zero_word]
end

/-- An entry of the latent attention's values, feature by feature. -/
theorem v89_row (n : Fin 512) : val_main_v89 (F := Ideal) x0 x3 x4 x5 x6 x7 x8 x9 x12 x13 (ix3 b n r)
    = val_main_v85 (F := Ideal) x0 x3 x4 x5 x6 x7 x8 x9 x12 x13 (ix3 b r ⟨n / 64 * 128 + (64 + n % 64), by omega⟩) := by
  pointwise [val_main_v89, val_main_v88, val_main_v87, val_main_v86]

/-- The latent values on the even heads' features. -/
theorem latent_lo_row (n : Fin 512) : val_main_v111 (F := Ideal) x0 x3 x4 x5 x6 x7 x8 x9 x12 x13 (ix3 b n r)
    = Pre.lo n (val_main_v89 (F := Ideal) x0 x3 x4 x5 x6 x7 x8 x9 x12 x13 (ix3 b n r)) := by
  pointwise [val_main_v111, val_main_v110, val_main_call3_v2, val_main_call3_v1, val_main_call3_v0, val_main_cst_17,
    val_main_v100, v99_lane, Pre.select_even, Pre.lo]
  split <;> simp only [id, Pre.zero_word]

/-- The latent values on the odd heads' features. -/
theorem latent_hi_row (n : Fin 512) : val_main_v113 (F := Ideal) x0 x3 x4 x5 x6 x7 x8 x9 x12 x13 (ix3 b n r)
    = Pre.hi n (val_main_v89 (F := Ideal) x0 x3 x4 x5 x6 x7 x8 x9 x12 x13 (ix3 b n r)) := by
  pointwise [val_main_v113, val_main_v112, val_main_call4_v2, val_main_call4_v1, val_main_call4_v0, val_main_cst_18,
    val_main_v100, v99_lane, Pre.select_even, Pre.hi]
  split <;> simp only [id, Pre.zero_word]

end Cert.Reference3Ideal.Read

end
-- ==== Proof.PreArrays.lean ====
/- The result arrays of the layer's first kernel, block by block, against the terms of its reference. -/
module

public import proofs.«01_k».proof.Proof.Gen.Kernel3Ideal
public import proofs.«01_k».proof.Proof.Gen.Reference3Ideal
public import proofs.«01_k».proof.Proof.PreMix
public import proofs.«01_k».proof.Proof.PreMixReads
public import proofs.«01_k».proof.Proof.PreMixRef

@[expose] public section

set_option maxRecDepth 16384

noncomputable section

namespace Cert.Kernel3Ideal.Value

open Cert.Kernel3Ideal Cert.Kernel3Ideal.Gen Idealize.ShloMosaic.StableHlo Idealize.ShloMosaic Idealize.ShloMosaic.TcCoe Idealize.SL.Sem
open Cert.Kernel2Ideal.Value (blk2 blk2_apply)
open Cert.Reference3Ideal.Read

variable (m : (ℓ : Loc nD τ sig) → Buf (Elt Ideal) ℓ)

/-- The stream's block at grid point `t`, as the kernel computes it. -/
abbrev streamAt (c : Dev nD) (t : Fin cfg0.N) : FVec Ideal S512x1024 .f32 :=
  blk2 (iblk m c 1 t) (iblk m c 2 t) (iblk m c 3 t) (iblk m c 4 t) (iblk m c 5 t) (iblk m c 0 t)

/-- The reference's stream at the launch memory's arguments. -/
abbrev refStream (c : Dev nD) : FVec Ideal S8x2048x1024 .f32 := val_main_v43 (F := Ideal)
  (m ((c : Thread nD τ).loc main_arg0)) (m ((c : Thread nD τ).loc main_arg3)) (m ((c : Thread nD τ).loc main_arg4))
  (m ((c : Thread nD τ).loc main_arg5)) (m ((c : Thread nD τ).loc main_arg6)) (m ((c : Thread nD τ).loc main_arg7))

/-- An entry of the kernel's stream is the reference's, at its token. -/
theorem stream_at (c : Dev nD) (t : Fin cfg0.N) (r : Fin 512) (k : Fin 1024) (hb : (t.val * 512 + r.val) / 2048 < 8)
    (hr : (t.val * 512 + r.val) % 2048 < 2048) : streamAt m c t (ix2 r k)
      = refStream m c (ix3 ⟨(t.val * 512 + r.val) / 2048, hb⟩ ⟨(t.val * 512 + r.val) % 2048, hr⟩ k) := by
  rw [streamAt, refStream, blk2_apply, v43_row]
  simp only [read0 m c t _ _ hb hr, read1, read2, read3, read4, read5]

/-- The kernel's first result array: the reference's term at the launch memory's arguments. -/
theorem arr15 (c : Dev nD) : (dats m 0 c).arrAt 15 cfg0.N = val_main_v101 (F := Ideal)
    (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7)) := by
  refine (dats m 0 c).arrAt_eq_of_covers 15 _ (by decide +kernel) fun t hf y => ?_
  blk_simp
  rw [after0_15, outAt15, out15_eq]
  idx_vars y
  have ht : t.val < 32 := t.isLt
  have hb : (t.val * 512 + y0.val) / 2048 < 8 := by omega
  have hr : (t.val * 512 + y0.val) % 2048 < 2048 := by omega
  have e : ((View.whole main_v36_0).slice (win0_15.rect t)).emb (ix2 y0 y1) = ix2 ⟨t.val * 512 + y0.val, by omega⟩ y1 := by
    blk_ext! [(index_rows t).1]
  rw [e, stream_row _ _ _ _ _ _ _ _ hb hr, blk2_apply]
  simp only [read0 m c t _ _ hb hr, read1, read2, read3, read4, read5]

/-- The keys' array: the reference's term at the launch memory's arguments. -/
theorem arr18 (c : Dev nD) : (dats m 0 c).arrAt 18 cfg0.N = val_main_v103 (F := Ideal)
    (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) := by
  refine (dats m 0 c).arrAt_eq_of_covers 18 _ (by decide +kernel) fun t hf y => ?_
  blk_simp
  rw [after0_18, outAt18, out18_eq]
  idx_vars y
  have ht : t.val < 32 := t.isLt
  have hb : (t.val * 512 + y0.val) / 2048 < 8 := by omega
  have hr : (t.val * 512 + y0.val) % 2048 < 2048 := by omega
  have e : ((View.whole main_v36_3).slice (win0_18.rect t)).emb (ix2 y0 y1) = ix2 ⟨t.val * 512 + y0.val, by omega⟩ y1 := by
    blk_ext! [(index_heads t).1]
  rw [e, keys_row _ _ _ _ _ _ _ _ _ _ hb hr, keys_apply]
  have hw : ∀ k, iblk m c 7 t (ix3 0 k ⟨256 + y1, by omega⟩) = m ((c : Thread nD τ).loc main_arg9) (ix3 1 k ⟨256 + y1, by omega⟩) :=
    fun k => read7 m c t k _ (by omega) _ _
  simp only [stream_at m c t _ _ hb hr, hw, read6]

/-- The array of the values on the even heads' lanes. -/
theorem arr19 (c : Dev nD) : (dats m 0 c).arrAt 19 cfg0.N = val_main_v106 (F := Ideal)
    (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) := by
  refine (dats m 0 c).arrAt_eq_of_covers 19 _ (by decide +kernel) fun t hf y => ?_
  blk_simp
  rw [after0_19, outAt19, out19_eq]
  idx_vars y
  have ht : t.val < 32 := t.isLt
  have hb : (t.val * 512 + y0.val) / 2048 < 8 := by omega
  have hr : (t.val * 512 + y0.val) % 2048 < 2048 := by omega
  have e : ((View.whole main_v36_4).slice (win0_19.rect t)).emb (ix2 y0 y1) = ix2 ⟨t.val * 512 + y0.val, by omega⟩ y1 := by
    blk_ext! [(index_heads t).2.1]
  rw [e, values_lo_row _ _ _ _ _ _ _ _ _ _ hb hr, values_lo_apply]
  have hw : ∀ k, iblk m c 7 t (ix3 0 k ⟨512 + y1, by omega⟩) = m ((c : Thread nD τ).loc main_arg9) (ix3 1 k ⟨512 + y1, by omega⟩) :=
    fun k => read7 m c t k _ (by omega) _ _
  simp only [stream_at m c t _ _ hb hr, hw, read6]

/-- The array of the values on the odd heads' lanes. -/
theorem arr20 (c : Dev nD) : (dats m 0 c).arrAt 20 cfg0.N = val_main_v109 (F := Ideal)
    (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) := by
  refine (dats m 0 c).arrAt_eq_of_covers 20 _ (by decide +kernel) fun t hf y => ?_
  blk_simp
  rw [after0_20, outAt20, out20_eq]
  idx_vars y
  have ht : t.val < 32 := t.isLt
  have hb : (t.val * 512 + y0.val) / 2048 < 8 := by omega
  have hr : (t.val * 512 + y0.val) % 2048 < 2048 := by omega
  have e : ((View.whole main_v36_5).slice (win0_20.rect t)).emb (ix2 y0 y1) = ix2 ⟨t.val * 512 + y0.val, by omega⟩ y1 := by
    blk_ext! [(index_heads t).2.2]
  rw [e, values_hi_row _ _ _ _ _ _ _ _ _ _ hb hr, values_hi_apply]
  have hw : ∀ k, iblk m c 7 t (ix3 0 k ⟨512 + y1, by omega⟩) = m ((c : Thread nD τ).loc main_arg9) (ix3 1 k ⟨512 + y1, by omega⟩) :=
    fun k => read7 m c t k _ (by omega) _ _
  simp only [stream_at m c t _ _ hb hr, hw, read6]

/-- An entry of the block of latent values is the reference's, at its token. -/
theorem latent_at (c : Dev nD) (t : Fin cfg0.N) (r n : Fin 512) (b : Fin 8) (hb : t.val / 4 = b.val) (R : Fin 2048)
    (hr : t.val % 4 * 512 + r.val = R.val) :
    latentBlk (streamAt m c t) (iblk m c 6 t) (iblk m c 7 t) (iblk m c 10 t) (iblk m c 11 t) (ix2 r ⟨1024 + n, by omega⟩)
      = val_main_v89 (F := Ideal) (m ((c : Thread nD τ).loc main_arg0)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg12)) (m ((c : Thread nD τ).loc main_arg13)) (ix3 b n R) := by
  have hs : ∀ k, streamAt m c t (ix2 r k) = refStream m c (ix3 b R k) := fun k => by
    rw [stream_at m c t r k (by omega) (by omega)]
    exact congrArg (refStream m c) (by congr 1 <;> ext <;> simp <;> omega)
  have hw : ∀ (k : Fin 1024) (q : Fin 256), iblk m c 7 t (ix3 0 k ⟨1152 + q, by omega⟩)
      = m ((c : Thread nD τ).loc main_arg9) (ix3 1 k ⟨1152 + q, by omega⟩) := fun k q => read7 m c t k _ (by omega) _ _
  have hu : ∀ q : Fin 256, iblk m c 11 t (ix3 0 q ⟨1024 + n, by omega⟩)
      = m ((c : Thread nD τ).loc main_arg13) (ix3 1 q ⟨n / 64 * 128 + (64 + n % 64), by omega⟩) := fun q => read11 m c t q n _ _
  rw [latentBlk_apply, v89_row, v85_row]
  simp only [hs, hw, hu, read6, read10]

/-- The array of the latent values on the even heads' features. -/
theorem arr23 (c : Dev nD) : (dats m 0 c).arrAt 23 cfg0.N = val_main_v111 (F := Ideal)
    (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg12))
    (m ((c : Thread nD τ).loc main_arg13)) := by
  refine (dats m 0 c).arrAt_eq_of_covers 23 _ (by decide +kernel) fun t hf y => ?_
  blk_simp
  rw [after0_23, outAt23, out23_eq]
  idx_vars y
  obtain rfl : y0 = 0 := Subsingleton.elim _ _
  have ht : t.val < 32 := t.isLt
  have e : ((View.whole main_v36_8).slice (win0_23.rect t)).emb (ix3 0 y1 y2)
      = ix3 ⟨t.val / 4, by omega⟩ y1 ⟨t.val % 4 * 512 + y2.val, by omega⟩ := by
    blk_ext! [(index_latent t).1]
  rw [e, latent_lo_row, latent_lo_apply, latent_at m c t y2 y1 ⟨t.val / 4, by omega⟩ rfl
    ⟨t.val % 4 * 512 + y2.val, by omega⟩ rfl]

/-- The array of the latent values on the odd heads' features. -/
theorem arr24 (c : Dev nD) : (dats m 0 c).arrAt 24 cfg0.N = val_main_v113 (F := Ideal)
    (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg12))
    (m ((c : Thread nD τ).loc main_arg13)) := by
  refine (dats m 0 c).arrAt_eq_of_covers 24 _ (by decide +kernel) fun t hf y => ?_
  blk_simp
  rw [after0_24, outAt24, out24_eq]
  idx_vars y
  obtain rfl : y0 = 0 := Subsingleton.elim _ _
  have ht : t.val < 32 := t.isLt
  have e : ((View.whole main_v36_9).slice (win0_24.rect t)).emb (ix3 0 y1 y2)
      = ix3 ⟨t.val / 4, by omega⟩ y1 ⟨t.val % 4 * 512 + y2.val, by omega⟩ := by
    blk_ext! [(index_latent t).2]
  rw [e, latent_hi_row, latent_hi_apply, latent_at m c t y2 y1 ⟨t.val / 4, by omega⟩ rfl
    ⟨t.val % 4 * 512 + y2.val, by omega⟩ rfl]

end Cert.Kernel3Ideal.Value

end
-- ==== Proof.PreFinal.lean ====
/- The kernel of the layer's first part and its reference compute the same stream, the same stick-breaking keys and values
   and the same latent values. -/
module

public import proofs.«01_k».proof.Defs
public import proofs.«01_k».proof.Proof.Gen.Kernel3Ideal
public import proofs.«01_k».proof.Proof.Gen.Reference3Ideal
public import proofs.«01_k».proof.Proof.PreArrays
public import proofs.«01_k».proof.Proof.Gen.Reference3Ideal.Run

@[expose] public section

set_option maxRecDepth 16384

noncomputable section

namespace Cert.Kernel3Ideal.Value

open Cert.Kernel3Ideal Cert.Kernel3Ideal.Gen Idealize.ShloMosaic.StableHlo Idealize.ShloMosaic Idealize.ShloMosaic.TcCoe Idealize.SL.Sem
open Cert.Reference3Ideal.Read

set_option maxHeartbeats 4000000 in
/-- The kernel and the reference of the layer's first part end with equal results, over the extended reals. -/
theorem pre_algebraic : Cert.algebraic_Kernel3Ideal_Reference3Ideal := by
  intro m ρ m' ρ' _ hargs
  refine ⟨fun c => (dats m 0 c).arrAt 15 cfg0.N, fun c => (dats m 0 c).arrAt 18 cfg0.N, fun c => (dats m 0 c).arrAt 19 cfg0.N,
    fun c => (dats m 0 c).arrAt 20 cfg0.N, fun c => (dats m 0 c).arrAt 23 cfg0.N, fun c => (dats m 0 c).arrAt 24 cfg0.N,
    (θ_run defs _ _).mono (fun r h c => ⟨ends_15 m h.2.1 c, ends_18 m h.2.1 c, ends_19 m h.2.1 c, ends_20 m h.2.1 c,
      ends_23 m h.2.1 c, ends_24 m h.2.1 c, h.1.1 c⟩) (θ_run_and (frame m ρ) (run_ends m ρ)), ?_⟩
  refine (θ_run Cert.Reference3Ideal.defs _ _).mono (fun r h c => ?_) (Cert.Reference3Ideal.Value.run m' ρ')
  obtain ⟨h0, -, -, h3, h4, h5, h6, h7, h8, h9, -, -, h12, h13, -⟩ := hargs c
  obtain ⟨e0, e1, e2, e3, e4, e5, ha⟩ := h c
  have r0 := e0.trans (val_main_v101_eq (F := Ideal) (launchContents m' c))
  have r1 := e1.trans (val_main_v103_eq (F := Ideal) (launchContents m' c))
  have r2 := e2.trans (val_main_v106_eq (F := Ideal) (launchContents m' c))
  have r3 := e3.trans (val_main_v109_eq (F := Ideal) (launchContents m' c))
  have r4 := e4.trans (val_main_v111_eq (F := Ideal) (launchContents m' c))
  have r5 := e5.trans (val_main_v113_eq (F := Ideal) (launchContents m' c))
  simp only [launchContents_devRef, h0, h3, h4, h5, h6, h7, h8, h9, h12, h13] at r0 r1 r2 r3 r4 r5
  exact ⟨r0.trans (arr15 m c).symm, r1.trans (arr18 m c).symm, r2.trans (arr19 m c).symm, r3.trans (arr20 m c).symm,
    r4.trans (arr23 m c).symm, r5.trans (arr24 m c).symm, ha⟩

end Cert.Kernel3Ideal.Value

end
-- ==== Proof.SbDefs.lean ====
module
public import proofs.«01_k».proof.Proof.Gen.KernelIdeal.Value
public import Idealize.ShloMosaic.Lib.Pipeline.ValueKit
public import Idealize.ShloMosaic.Lib.Pointwise

/-! The stick-breaking attention kernel, block of keys by block of keys: the formulas of one block in the form the
    program computes them, and the statement that one unrolled block of the program computes them. -/

@[expose] public section

noncomputable section

namespace Cert.KernelIdeal.Sb

open Cert.KernelIdeal Cert.KernelIdeal.Gen Idealize.ShloMosaic

/-- One row of scores: query row `r` against the 256 keys from `b`, over the 128 lanes from `p`. -/
def scores (q k : Vec Ideal S1x2048x256 .bf16) (b p : ℕ) (hb : b + 256 ≤ 2048) (hp : p + 128 ≤ 256) (r : Fin 2048) :
    Fin 256 → EReal :=
  fun j => ∑ l : Fin 128, (q (ix3 0 r ⟨p + l.val, by omega⟩) : EReal) * (k (ix3 0 ⟨b + j.val, by omega⟩ ⟨p + l.val, by omega⟩) : EReal)

/-- Softplus in base two, as the program computes it: `max z 0 + log (1 + 2 ^ -|z|) / log 2`. -/
def sp2 (z : EReal) : EReal :=
  max z 0 + Ideal.log (1 + FloatOps.exp2 (F := Ideal) (φ := .f32) (0 - FloatOps.absf (F := Ideal) (φ := .f32) z))
    * (Named.named (F := Ideal) (φ := .f32) κ "inv_ln2" 1069066811#32 : EReal)

/-- `a` where key `j` of the block comes before query `t` of the block, else zero. -/
def seen (t : ℕ) (j : Fin 256) (a : EReal) : EReal :=
  Scalar.select (IntOp.cmpi CmpIPredicate.slt (BitVec.ofNat 32 j.val) (BitVec.ofNat 32 t)) a 0

/-- `a * -1` where key `x` of the block comes after key `j`, else zero. -/
def after (x j : Fin 256) (a : EReal) : EReal :=
  Scalar.select (IntOp.cmpi CmpIPredicate.sgt (BitVec.ofNat 32 x.val) (BitVec.ofNat 32 j.val))
    (a * Ideal.ofBits FTy.f32 3212836864#32) 0

/-- Minus the sum of the softplus values of the block's keys after `j`, summed as the program does: the leading
    parts, then the remainders of their rounding. -/
def later (z : Fin 256 → EReal) (t : ℕ) (j : Fin 256) : EReal :=
  (∑ x : Fin 256, after x j (seen t x (sp2 (z x))))
    + ∑ x : Fin 256, after x j (seen t x (sp2 (z x)) - seen t x (sp2 (z x)))

/-- What the block adds to the sum carried along a row. -/
def nextCarry (c : EReal) (z : Fin 256 → EReal) (t : ℕ) : EReal :=
  c + (later z t 0 - seen t 0 (sp2 (z 0)))

/-- The weight of key `j` of the block. -/
def weight (c : EReal) (z : Fin 256 → EReal) (t : ℕ) (j : Fin 256) : EReal :=
  seen t j (FloatOps.exp2 (F := Ideal) (φ := .f32) ((z j - sp2 (z j)) + (later z t j + c)))

/-- A sum over the keys of the block of weights times values, for one lane. -/
def mixed (w : Fin 256 → EReal) (v : Vec Ideal S1x2048x256 .bf16) (b p : ℕ) (hb : b + 256 ≤ 2048) (hp : p + 128 ≤ 256)
    (l : Fin 128) : EReal :=
  ∑ x : Fin 256, w x * (v (ix3 0 ⟨b + x.val, by omega⟩ ⟨p + l.val, by omega⟩) : EReal)

/-- One block of keys (from key `b`) done for one pair of heads (the lanes from `p`): the rows before the block stay as
    they were, the others take the block in. -/
structure Step (x0 x1 x2 x3 x4 : Vec Ideal S1x2048x256 .bf16) (b p : ℕ) (hb : b + 256 ≤ 2048) (hp : p + 128 ≤ 256)
    (c1 c2 : FVec Ideal S2048x1 .f32) (a : FVec Ideal S2048x128 .f32)
    (c1' c2' : FVec Ideal S2048x1 .f32) (a' : FVec Ideal S2048x128 .f32) : Prop where
  kept1 : ∀ r : Fin 2048, r.val < b → c1' (ix2 r 0) = c1 (ix2 r 0)
  kept2 : ∀ r : Fin 2048, r.val < b → c2' (ix2 r 0) = c2 (ix2 r 0)
  kept : ∀ (r : Fin 2048) (l : Fin 128), r.val < b → a' (ix2 r l) = a (ix2 r l)
  carry1 : ∀ r : Fin 2048, ¬ r.val < b →
    c1' (ix2 r 0) = nextCarry (c1 (ix2 r 0)) (scores x0 x2 b p hb hp r) (r.val - b)
  carry2 : ∀ r : Fin 2048, ¬ r.val < b →
    c2' (ix2 r 0) = nextCarry (c2 (ix2 r 0)) (scores x1 x2 b p hb hp r) (r.val - b)
  acc : ∀ (r : Fin 2048) (l : Fin 128), ¬ r.val < b →
    a' (ix2 r l) = (a (ix2 r l) : EReal)
      + (mixed (weight (c1 (ix2 r 0)) (scores x0 x2 b p hb hp r) (r.val - b)) x3 b p hb hp l
        + mixed (weight (c2 (ix2 r 0)) (scores x1 x2 b p hb hp r) (r.val - b)) x4 b p hb hp l)

/-- With one block of queries the second grid coordinate is zero. -/
theorem coord_zero (i : grid0.Coords) : (i 1).val = 0 := by
  have h := (i 1).isLt
  have e : grid0.bound 1 = 1 := rfl
  omega

/-- Where the program reads the first pair's keys and values of block `d`. -/
theorem off1_eq (i : grid0.Coords) : ∀ d : Fin 8, k0_off1 i (BitVec.ofNat 32 d) = ![0, 256 * d.val, 0] := by
  have h := coord_zero i
  intro d
  simp only [k0_off1, h]
  revert d
  decide

/-- Where the program reads the second pair's keys and values of block `d`. -/
theorem off2_eq (i : grid0.Coords) : ∀ d : Fin 8, k0_off2 i (BitVec.ofNat 32 d) = ![0, 256 * d.val, 128] := by
  have h := coord_zero i
  intro d
  simp only [k0_off2, h]
  revert d
  decide

end Cert.KernelIdeal.Sb

end
-- ==== Proof.SbMath.lean ====
module
public import proofs.«01_k».proof.Proof.SbDefs
public import Idealize.ShloMosaic.Lib.WordCmp
public import Mathlib.Analysis.SpecialFunctions.Pow.Real

/-! The stick-breaking attention kernel's block formulas over the extended reals: each block step adds the
    block's keys to a row's carried sum and to its weighted values, and all the blocks together give the whole row. The
    scores may be infinite: a sum with a softplus that is infinite is minus infinity, and the weight it goes into zero. -/

@[expose] public section

noncomputable section

namespace Cert.KernelIdeal.Sb

open Cert.KernelIdeal Cert.KernelIdeal.Gen Idealize.ShloMosaic Idealize.ShloMosaic.WordCmp Finset

/-- Softplus in base two of a real number. -/
def S2 (z : ℝ) : ℝ := max z 0 + Real.log (1 + Real.rpow 2 (-|z|)) * (Real.log 2)⁻¹

/-- The larger of two reals, read in the extended reals. -/
theorem coe_max' (a b : ℝ) : max (a : EReal) (b : EReal) = ((max a b : ℝ) : EReal) :=
  (EReal.coe_strictMono.monotone.map_max).symm

/-- The program's softplus of a finite score. -/
theorem sp2_coe (z : ℝ) : sp2 (z : EReal) = ((S2 z : ℝ) : EReal) := by
  have hn : (Named.named (F := Ideal) (φ := .f32) κ "inv_ln2" 1069066811#32 : EReal) = (((Real.log 2)⁻¹ : ℝ) : EReal) :=
    IdealRules.named_const.ideal_named_scalar _ _ _ _ rfl
  have ha : (FloatOps.absf (F := Ideal) (φ := .f32) ((z : ℝ) : EReal) : EReal) = ((|z| : ℝ) : EReal) := by
    show max ((z : ℝ) : EReal) (-((z : ℝ) : EReal)) = _
    rw [← EReal.coe_neg, coe_max']
    rfl
  have hp : (0 : ℝ) < 1 + Real.rpow 2 (-|z|) := by
    have : (0 : ℝ) < Real.rpow 2 (-|z|) := Real.rpow_pos_of_pos (by norm_num) _
    linarith
  have he : (FloatOps.exp2 (F := Ideal) (φ := .f32) (0 - FloatOps.absf (F := Ideal) (φ := .f32) ((z : ℝ) : EReal)) : EReal)
      = ((Real.rpow 2 (-|z|) : ℝ) : EReal) := by
    rw [ha]
    show Ideal.exp2 (0 - ((|z| : ℝ) : EReal)) = _
    rw [zero_sub, ← EReal.coe_neg]
    rfl
  unfold sp2
  rw [hn, he, ← EReal.coe_one, ← EReal.coe_add, Ideal.log_coe, if_neg (not_le.mpr hp), ← EReal.coe_zero, coe_max',
    ← EReal.coe_mul, ← EReal.coe_add]
  rfl

/-- The mask of a block, as a condition on the key's number. -/
theorem seen_eq (t : ℕ) (ht : t < 2048) (j : Fin 256) (a : EReal) : seen t j a = if j.val < t then a else 0 := by
  unfold seen
  rw [cmpi_slt_ofNat (by have := j.isLt; omega) (by omega)]
  by_cases h : j.val < t
  · simp [h, Scalar.select]
  · simp [h, Scalar.select]

/-- The program's softplus of an infinite score. -/
theorem sp2_top : sp2 ⊤ = ⊤ := by
  have hn : (Named.named (F := Ideal) (φ := .f32) κ "inv_ln2" 1069066811#32 : EReal) = (((Real.log 2)⁻¹ : ℝ) : EReal) :=
    IdealRules.named_const.ideal_named_scalar _ _ _ _ rfl
  have he : (FloatOps.exp2 (F := Ideal) (φ := .f32) (0 - FloatOps.absf (F := Ideal) (φ := .f32) ⊤) : EReal) = 0 := by
    show Ideal.exp2 (0 - max ⊤ (-⊤)) = 0
    simp
  unfold sp2
  rw [hn, he, add_zero, ← EReal.coe_one, Ideal.log_coe, if_neg (by norm_num), Real.log_one, EReal.coe_zero, zero_mul]
  simp

/-- The program's softplus of a score that is minus infinity. -/
theorem sp2_bot : sp2 ⊥ = 0 := by
  have hn : (Named.named (F := Ideal) (φ := .f32) κ "inv_ln2" 1069066811#32 : EReal) = (((Real.log 2)⁻¹ : ℝ) : EReal) :=
    IdealRules.named_const.ideal_named_scalar _ _ _ _ rfl
  have he : (FloatOps.exp2 (F := Ideal) (φ := .f32) (0 - FloatOps.absf (F := Ideal) (φ := .f32) ⊥) : EReal) = 0 := by
    show Ideal.exp2 (0 - max ⊥ (-⊥)) = 0
    simp
  unfold sp2
  rw [hn, he, add_zero, ← EReal.coe_one, Ideal.log_coe, if_neg (by norm_num), Real.log_one, EReal.coe_zero, zero_mul]
  simp

/-- The program's softplus is never minus infinity. -/
theorem sp2_ne_bot (z : EReal) : sp2 z ≠ ⊥ := by
  induction z using EReal.rec with
  | bot => rw [sp2_bot]; simp
  | coe z => rw [sp2_coe]; exact EReal.coe_ne_bot _
  | top => rw [sp2_top]; simp

/-- The part of a block after a key, as a condition. -/
theorem after_eq (x j : Fin 256) (a : EReal) : after x j a = if j.val < x.val then -a else 0 := by
  unfold after
  have hm : Ideal.ofBits FTy.f32 3212836864#32 = (-1 : EReal) := by
    have : Ideal.ofBits FTy.f32 3212836864#32 = ((-1 : ℝ) : EReal) := by
      simp [Ideal.ofBits, Ideal.ieee, -EReal.coe_mul, -EReal.coe_neg]; norm_num
    rw [this, EReal.coe_neg, EReal.coe_one]
  rw [cmpi_sgt_ofNat (by have := x.isLt; omega) (by have := j.isLt; omega), hm, mul_neg_one]
  by_cases h : j.val < x.val
  · simp [h, Scalar.select]
  · simp [h, Scalar.select]

/-- What key `s` adds to the sum carried along row `r`: minus its softplus where it comes before the row, else zero. -/
def taken (Z : ℕ → EReal) (r s : ℕ) : EReal := if s < r then -sp2 (Z s) else 0

/-- What a key adds to a row is never infinity. -/
theorem taken_ne_top (Z : ℕ → EReal) (r s : ℕ) : taken Z r s ≠ ⊤ := by
  unfold taken
  split
  · intro h
    exact sp2_ne_bot (Z s) (by rw [← neg_neg (sp2 (Z s)), h]; rfl)
  · simp

/-- The weight of key `s` in row `r`: the part `2 ^ (z - softplus z)` that it takes of what the keys between it and the
    row have left. -/
def share (Z : ℕ → EReal) (r s : ℕ) : EReal :=
  if s < r then Ideal.exp2 ((Z s - sp2 (Z s)) + ∑ x ∈ Ico (s + 1) 2048, taken Z r x) else 0

/-- One over the logarithm of two. -/
def perLog : EReal := ((1 / Real.log 2 : ℝ) : EReal)

/-- A factor that is neither negative nor infinite comes out of a sum. -/
theorem sum_mul_factor {ι : Type} (s : Finset ι) (f : ι → EReal) {c : EReal} (h0 : 0 ≤ c) (ht : c ≠ ⊤) :
    ∑ i ∈ s, f i * c = (∑ i ∈ s, f i) * c := by
  classical
  induction s using Finset.induction_on with
  | empty => simp
  | insert a s ha ih => rw [sum_insert ha, sum_insert ha, ih, EReal.right_distrib_of_nonneg_of_ne_top h0 ht]

/-- Adding what is left of each term once it is taken off itself changes no sum: each remainder is zero, or the sum is
    minus infinity already. -/
theorem add_remainders (f : Fin 256 → EReal) (hf : ∀ x, f x ≠ ⊤) (j : Fin 256) :
    (∑ x : Fin 256, if j.val < x.val then f x else 0) + (∑ x : Fin 256, if j.val < x.val then -(-f x - -f x) else 0)
      = ∑ x : Fin 256, if j.val < x.val then f x else 0 := by
  by_cases h : ∃ x : Fin 256, j.val < x.val ∧ f x = ⊥
  · obtain ⟨x, hx, hb⟩ := h
    have e : (∑ x : Fin 256, if j.val < x.val then f x else 0) = ⊥ := by
      rw [← add_sum_erase univ _ (mem_univ x), if_pos hx, hb, EReal.bot_add]
    rw [e, EReal.bot_add]
  · have e : ∀ x : Fin 256, (if j.val < x.val then -(-f x - -f x) else 0) = 0 := fun x => by
      split
      · next hx =>
        have hb : f x ≠ ⊥ := fun hb => h ⟨x, hx, hb⟩
        rw [← EReal.coe_toReal (hf x) hb, ← EReal.coe_neg, ← EReal.coe_sub, sub_self, EReal.coe_zero, neg_zero]
      · rfl
    rw [sum_congr rfl fun x _ => e x, sum_const_zero, add_zero]

/-- A sum over the keys of a block that come after key `j`. -/
theorem sum_after (f : ℕ → EReal) (b : ℕ) (j : Fin 256) :
    (∑ x : Fin 256, if j.val < x.val then f (b + x.val) else 0) = ∑ s ∈ Ico (b + j.val + 1) (b + 256), f s := by
  rw [Fin.sum_univ_eq_sum_range (fun x => if j.val < x then f (b + x) else 0) 256, ← sum_filter]
  have : (range 256).filter (fun x => j.val < x) = Ico (j.val + 1) 256 := by
    ext x; simp only [mem_filter, mem_range, mem_Ico]; omega
  rw [this, sum_Ico_add f (j.val + 1) 256 b, show j.val + 1 + b = b + j.val + 1 by omega, Nat.add_comm 256 b]

/-- A sum over all the keys of a block. -/
theorem sum_block {M : Type} [AddCommMonoid M] (f : ℕ → M) (b : ℕ) :
    (∑ x : Fin 256, f (b + x.val)) = ∑ s ∈ Ico b (b + 256), f s := by
  rw [Fin.sum_univ_eq_sum_range (fun x => f (b + x)) 256, sum_Ico_eq_sum_range]
  simp

section Block

variable (Z : ℕ → EReal) (r b : ℕ) (hr : r < 2048) (hb : b ≤ r) (z : Fin 256 → EReal) (hz : ∀ j : Fin 256, z j = Z (b + j.val))

include hr hb hz

/-- A key's softplus under the mask is minus what it adds to the row. -/
theorem seen_sp2 (j : Fin 256) : seen (r - b) j (sp2 (z j)) = -taken Z r (b + j.val) := by
  rw [seen_eq _ (by omega), hz]
  unfold taken
  by_cases h : b + j.val < r
  · rw [if_pos h, if_pos (by omega), neg_neg]
  · rw [if_neg h, if_neg (by omega), neg_zero]

/-- The sum the program forms over the keys of a block after one of them. -/
theorem later_eq (j : Fin 256) : later z (r - b) j = ∑ s ∈ Ico (b + j.val + 1) (b + 256), taken Z r s := by
  unfold later
  simp only [seen_sp2 Z r b hr hb z hz, after_eq, neg_neg]
  refine Eq.trans ?_ (sum_after (fun s => taken Z r s) b j)
  exact add_remainders (fun x => taken Z r (b + x.val)) (fun x => taken_ne_top Z r _) j

/-- A block step adds the block's keys to the carried sum. -/
theorem nextCarry_eq (c : EReal) : nextCarry c z (r - b) = c + ∑ s ∈ Ico b (b + 256), taken Z r s := by
  unfold nextCarry
  rw [later_eq Z r b hr hb z hz, seen_sp2 Z r b hr hb z hz, sub_eq_add_neg, neg_neg,
    sum_eq_sum_Ico_succ_bot (show b < b + 256 by omega)]
  simp only [Fin.val_zero, Nat.add_zero]
  rw [add_comm (taken Z r b)]

/-- A block's weights are the row's, where the carried sum is that of the keys after the block. -/
theorem weight_eq (hb' : b + 256 ≤ 2048) (j : Fin 256) :
    weight (∑ s ∈ Ico (b + 256) 2048, taken Z r s) z (r - b) j = share Z r (b + j.val) := by
  unfold weight
  rw [seen_eq _ (by omega), later_eq Z r b hr hb z hz, hz,
    sum_Ico_consecutive _ (show b + j.val + 1 ≤ b + 256 by have := j.isLt; omega) hb']
  unfold share
  by_cases h : b + j.val < r
  · rw [if_pos h, if_pos (by omega)]
    rfl
  · rw [if_neg h, if_neg (by omega)]

end Block

/-- The values of one lane by key number. -/
def value (v : Vec Ideal S1x2048x256 .bf16) (p : ℕ) (hp : p + 128 ≤ 256) (l : Fin 128) (s : ℕ) : EReal :=
  if h : s < 2048 then v (ix3 0 ⟨s, h⟩ ⟨p + l.val, by omega⟩) else 0

/-- The scores of a pair of heads are `Z`. -/
def Scored (q k : Vec Ideal S1x2048x256 .bf16) (p : ℕ) (hp : p + 128 ≤ 256) (Z : Fin 2048 → ℕ → EReal) : Prop :=
  ∀ (b : ℕ) (hb : b + 256 ≤ 2048) (r : Fin 2048) (j : Fin 256), scores q k b p hb hp r j = Z r (b + j.val)

/-- The keys from `b` are done: the carried sums and the accumulated values are those of these keys. -/
structure Done (x3 x4 : Vec Ideal S1x2048x256 .bf16) (p : ℕ) (hp : p + 128 ≤ 256) (Z1 Z2 : Fin 2048 → ℕ → EReal) (b : ℕ)
    (c1 c2 : FVec Ideal S2048x1 .f32) (a : FVec Ideal S2048x128 .f32) : Prop where
  carry1 : ∀ r : Fin 2048, (c1 (ix2 r 0) : EReal) = ∑ s ∈ Ico b 2048, taken (Z1 r) r s
  carry2 : ∀ r : Fin 2048, (c2 (ix2 r 0) : EReal) = ∑ s ∈ Ico b 2048, taken (Z2 r) r s
  acc : ∀ (r : Fin 2048) (l : Fin 128), (a (ix2 r l) : EReal)
    = (∑ s ∈ Ico b 2048, share (Z1 r) r s * value x3 p hp l s)
      + ∑ s ∈ Ico b 2048, share (Z2 r) r s * value x4 p hp l s

/-- A key not before the row adds nothing to it. -/
theorem taken_zero (Z : ℕ → EReal) {r s : ℕ} (h : r ≤ s) : taken Z r s = 0 := if_neg (by omega)

/-- A key not before the row has no weight. -/
theorem share_zero (Z : ℕ → EReal) {r s : ℕ} (h : r ≤ s) : share Z r s = 0 := if_neg (by omega)

/-- The keys after the row add nothing. -/
theorem sum_taken_zero (Z : ℕ → EReal) {r b : ℕ} (h : r ≤ b) : ∑ s ∈ Ico b 2048, taken Z r s = 0 :=
  sum_eq_zero fun s hs => taken_zero Z (h.trans (mem_Ico.mp hs).1)

/-- The keys after the row have no weight. -/
theorem sum_share_zero (Z : ℕ → EReal) {r b : ℕ} (h : r ≤ b) (v : ℕ → EReal) :
    ∑ s ∈ Ico b 2048, share Z r s * v s = 0 :=
  sum_eq_zero fun s hs => by rw [share_zero Z (h.trans (mem_Ico.mp hs).1), zero_mul]

/-- A block's weighted values, by key number. -/
theorem mixed_eq (Z : ℕ → EReal) (r b p : ℕ) (hb : b + 256 ≤ 2048) (hp : p + 128 ≤ 256) (w : Fin 256 → EReal)
    (hw : ∀ j : Fin 256, w j = share Z r (b + j.val)) (v : Vec Ideal S1x2048x256 .bf16) (l : Fin 128) :
    mixed w v b p hb hp l = ∑ s ∈ Ico b (b + 256), share Z r s * value v p hp l s := by
  rw [← sum_block]
  unfold mixed
  refine sum_congr rfl fun x _ => ?_
  rw [hw, value, dif_pos (show b + x.val < 2048 by have := x.isLt; omega)]

/-- One block step carries the statement on to the block's keys. -/
theorem Step.done {x0 x1 x2 x3 x4 : Vec Ideal S1x2048x256 .bf16} {b p : ℕ} {hb : b + 256 ≤ 2048} {hp : p + 128 ≤ 256}
    {c1 c2 : FVec Ideal S2048x1 .f32} {a : FVec Ideal S2048x128 .f32}
    {c1' c2' : FVec Ideal S2048x1 .f32} {a' : FVec Ideal S2048x128 .f32} {Z1 Z2 : Fin 2048 → ℕ → EReal}
    (h : Step x0 x1 x2 x3 x4 b p hb hp c1 c2 a c1' c2' a') (h1 : Scored x0 x2 p hp Z1) (h2 : Scored x1 x2 p hp Z2)
    (hd : Done x3 x4 p hp Z1 Z2 (b + 256) c1 c2 a) : Done x3 x4 p hp Z1 Z2 b c1' c2' a' := by
  refine ⟨fun r => ?_, fun r => ?_, fun r l => ?_⟩
  · by_cases hr : r.val < b
    · rw [h.kept1 r hr, hd.carry1, sum_taken_zero _ (by omega), sum_taken_zero _ (by omega)]
    · rw [h.carry1 r hr, hd.carry1, nextCarry_eq (Z1 r) r.val b r.isLt (by omega) _ (h1 b hb r),
        ← sum_Ico_consecutive _ (show b ≤ b + 256 by omega) hb]
      exact add_comm _ _
  · by_cases hr : r.val < b
    · rw [h.kept2 r hr, hd.carry2, sum_taken_zero _ (by omega), sum_taken_zero _ (by omega)]
    · rw [h.carry2 r hr, hd.carry2, nextCarry_eq (Z2 r) r.val b r.isLt (by omega) _ (h2 b hb r),
        ← sum_Ico_consecutive _ (show b ≤ b + 256 by omega) hb]
      exact add_comm _ _
  · by_cases hr : r.val < b
    · rw [h.kept r l hr, hd.acc, sum_share_zero _ (by omega), sum_share_zero _ (by omega), sum_share_zero _ (by omega),
        sum_share_zero _ (by omega)]
    · rw [h.acc r l hr, hd.acc, hd.carry1, hd.carry2,
        mixed_eq (Z1 r) r.val b p hb hp _ (weight_eq (Z1 r) r.val b r.isLt (by omega) _ (h1 b hb r) hb),
        mixed_eq (Z2 r) r.val b p hb hp _ (weight_eq (Z2 r) r.val b r.isLt (by omega) _ (h2 b hb r) hb),
        ← sum_Ico_consecutive (fun s => share (Z1 r) r s * value x3 p hp l s) (show b ≤ b + 256 by omega) hb,
        ← sum_Ico_consecutive (fun s => share (Z2 r) r s * value x4 p hp l s) (show b ≤ b + 256 by omega) hb]
      abel

/-- Before the first block nothing is done. -/
theorem done_start (x3 x4 : Vec Ideal S1x2048x256 .bf16) (p : ℕ) (hp : p + 128 ≤ 256) (Z1 Z2 : Fin 2048 → ℕ → EReal)
    {c1 c2 : FVec Ideal S2048x1 .f32} {a : FVec Ideal S2048x128 .f32} (h1 : ∀ r, (c1 (ix2 r 0) : EReal) = 0)
    (h2 : ∀ r, (c2 (ix2 r 0) : EReal) = 0) (ha : ∀ r l, (a (ix2 r l) : EReal) = 0) :
    Done x3 x4 p hp Z1 Z2 2048 c1 c2 a := by
  refine ⟨fun r => ?_, fun r => ?_, fun r l => ?_⟩
  · rw [h1]; simp
  · rw [h2]; simp
  · rw [ha]; simp

end Cert.KernelIdeal.Sb

end
-- ==== Proof.SbStep7.lean ====
module
public import proofs.«01_k».proof.Proof.SbDefs
/-! Blocks 7 and 6 of the keys in the stick-breaking attention kernel: what the unrolled program computes for each pair
    of heads is one `Step`. -/

@[expose] public section
set_option maxRecDepth 16384
noncomputable section
namespace Cert.KernelIdeal.Sb
open Cert.KernelIdeal Cert.KernelIdeal.Gen Idealize.ShloMosaic

variable (c : Dev nD) (i : grid0.Coords)
  (arg2 : Memref sig .tc .vmem S1x2048x256 .bf16) (harg2 : arg2.IsWhole) (arg3 : Memref sig .tc .vmem S1x2048x256 .bf16) (harg3 : arg3.IsWhole)
  (arg4 : Memref sig .tc .vmem S1x2048x256 .bf16) (harg4 : arg4.IsWhole) (arg5 : Memref sig .tc .vmem S1x2048x256 .bf16) (harg5 : arg5.IsWhole)
  (arg6 : Memref sig .tc .vmem S1x2048x256 .bf16) (harg6 : arg6.IsWhole)
  (x0 x1 x2 x3 x4 : Vec Ideal S1x2048x256 .bf16)

set_option maxHeartbeats 4000000 in
/-- Block 7 of the keys, first pair of heads. -/
theorem step7_a : Step x0 x1 x2 x3 x4 1792 0 (by decide) (by decide)
    (k0_pay37 (F := Ideal)) (k0_pay38 (F := Ideal)) (k0_pay41 (F := Ideal)) (kernelRun0_A.sl.r_3 (F := Ideal) c i arg2 harg2 arg4 harg4 x0 x2) (kernelRun0_A.sl.v108 (F := Ideal) c i arg3 harg3 arg4 harg4 x1 x2) (kernelRun0_A.sl.v121 (F := Ideal) c i arg2 harg2 arg3 harg3 arg4 harg4 arg5 harg5 arg6 harg6 x0 x1 x2 x3 x4) := by
  have ho : k0_off1 i 7#32 = ![0, 1792, 0] := off1_eq i 7
  have h0 : k0_off1 i 7#32 0 = 0 := by rw [ho]; rfl
  have h1 : k0_off1 i 7#32 1 = 1792 := by rw [ho]; rfl
  have h2 : k0_off1 i 7#32 2 = 0 := by rw [ho]; rfl
  have hb : (1792 : Fin 2048) = ⟨1792, by decide⟩ := rfl
  refine ⟨fun r h => ?_, fun r h => ?_, fun r l h => ?_, fun r h => ?_, fun r h => ?_, fun r l h => ?_⟩
  case' refine_1 | refine_2 | refine_3 | refine_4 | refine_5 | refine_6 =>
    simp only [kernelRun0_A.sl.cst_29, kernelRun0_A.sl.cst_30, kernelRun0_A.sl.cst_35, kernelRun0_A.sl.r, kernelRun0_A.sl.r_1, kernelRun0_A.sl.r_2, kernelRun0_A.sl.r_3, kernelRun0_A.sl.r_4, kernelRun0_A.sl.r_5, kernelRun0_A.sl.v35, kernelRun0_A.sl.v36, kernelRun0_A.sl.v84, kernelRun0_A.sl.v85, kernelRun0_A.sl.v86, kernelRun0_A.sl.v87, kernelRun0_A.sl.v88, kernelRun0_A.sl.v89, kernelRun0_A.sl.v90, kernelRun0_A.sl.v91, kernelRun0_A.sl.v92, kernelRun0_A.sl.v93, kernelRun0_A.sl.v94, kernelRun0_A.sl.v95, kernelRun0_A.sl.v96, kernelRun0_A.sl.v97, kernelRun0_A.sl.v98, kernelRun0_A.sl.v100, kernelRun0_A.sl.v102, kernelRun0_A.sl.v103, kernelRun0_A.sl.v104, kernelRun0_A.sl.v105, kernelRun0_A.sl.v106, kernelRun0_A.sl.v107, kernelRun0_A.sl.v108, kernelRun0_A.sl.v109, kernelRun0_A.sl.v112, kernelRun0_A.sl.v113, kernelRun0_A.sl.v116, kernelRun0_A.sl.v117, kernelRun0_A.sl.v118, kernelRun0_A.sl.v119, kernelRun0_A.sl.v120, kernelRun0_A.sl.v121, View.readAt_eq_ld, Memref.IsWhole.read_unread, ho]
    pointwise [k0_pay49, k0_pay47, k0_pay46, k0_pay45, k0_pay36, k0_pay44, k0_pay43, k0_pay48, k0_pay51, k0_pay50]
  case refine_1 | refine_2 | refine_3 => exact dif_pos h
  all_goals
    rw [dif_neg h]
    simp only [nextCarry, mixed, weight, later, after, seen, sp2, scores]
    pointwise []
    simp only [Nat.add_sub_of_le (not_lt.mp h), Fin.eta, h0, h1, h2, hb, Nat.zero_add, Fin.mk_zero]

set_option maxHeartbeats 4000000 in
/-- Block 7 of the keys, second pair of heads. -/
theorem step7_b : Step x0 x1 x2 x3 x4 1792 128 (by decide) (by decide)
    (k0_pay39 (F := Ideal)) (k0_pay40 (F := Ideal)) (k0_pay42 (F := Ideal)) (kernelRun0_A.sl.r_7 (F := Ideal) c i arg2 harg2 arg4 harg4 x0 x2) (kernelRun0_A.sl.r_11 (F := Ideal) c i arg3 harg3 arg4 harg4 x1 x2) (kernelRun0_A.sl.r_14 (F := Ideal) c i arg2 harg2 arg3 harg3 arg4 harg4 arg5 harg5 arg6 harg6 x0 x1 x2 x3 x4) := by
  have ho : k0_off2 i 7#32 = ![0, 1792, 128] := off2_eq i 7
  have h0 : k0_off2 i 7#32 0 = 0 := by rw [ho]; rfl
  have h1 : k0_off2 i 7#32 1 = 1792 := by rw [ho]; rfl
  have h2 : k0_off2 i 7#32 2 = 128 := by rw [ho]; rfl
  have hb : (1792 : Fin 2048) = ⟨1792, by decide⟩ := rfl
  refine ⟨fun r h => ?_, fun r h => ?_, fun r l h => ?_, fun r h => ?_, fun r h => ?_, fun r l h => ?_⟩
  case' refine_1 | refine_2 | refine_3 | refine_4 | refine_5 | refine_6 =>
    simp only [kernelRun0_A.sl.cst_30, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.v123, kernelRun0_A.sl.v126, View.readAt_eq_ld, Memref.IsWhole.read_unread, ho]
    pointwise [k0_pay65, k0_pay63, k0_pay62, k0_pay61, k0_pay60, k0_pay59, k0_pay36, k0_pay74, k0_pay72, k0_pay71, k0_pay70, k0_pay69, k0_pay68, k0_pay77, k0_pay66, k0_pay67, k0_pay73, k0_pay75, k0_pay76, k0_pay64]
  case refine_1 | refine_2 | refine_3 => exact dif_pos h
  all_goals
    rw [dif_neg h]
    simp only [nextCarry, mixed, weight, later, after, seen, sp2, scores]
    pointwise []
    simp only [Nat.add_sub_of_le (not_lt.mp h), Fin.eta, h0, h1, h2, hb, Nat.zero_add, Fin.mk_zero]

set_option maxHeartbeats 4000000 in
/-- Block 6 of the keys, first pair of heads. -/
theorem step6_a : Step x0 x1 x2 x3 x4 1536 0 (by decide) (by decide)
    (kernelRun0_A.sl.r_3 (F := Ideal) c i arg2 harg2 arg4 harg4 x0 x2) (kernelRun0_A.sl.v108 (F := Ideal) c i arg3 harg3 arg4 harg4 x1 x2) (kernelRun0_A.sl.v121 (F := Ideal) c i arg2 harg2 arg3 harg3 arg4 harg4 arg5 harg5 arg6 harg6 x0 x1 x2 x3 x4) (kernelRun0_A.sl.r_20 (F := Ideal) c i arg2 harg2 arg4 harg4 x0 x2) (kernelRun0_A.sl.r_25 (F := Ideal) c i arg3 harg3 arg4 harg4 x1 x2) (kernelRun0_A.sl.r_26 (F := Ideal) c i arg2 harg2 arg3 harg3 arg4 harg4 arg5 harg5 arg6 harg6 x0 x1 x2 x3 x4) := by
  have ho : k0_off1 i 6#32 = ![0, 1536, 0] := off1_eq i 6
  have h0 : k0_off1 i 6#32 0 = 0 := by rw [ho]; rfl
  have h1 : k0_off1 i 6#32 1 = 1536 := by rw [ho]; rfl
  have h2 : k0_off1 i 6#32 2 = 0 := by rw [ho]; rfl
  have hb : (1536 : Fin 2048) = ⟨1536, by decide⟩ := rfl
  refine ⟨fun r h => ?_, fun r h => ?_, fun r l h => ?_, fun r h => ?_, fun r h => ?_, fun r l h => ?_⟩
  case' refine_1 | refine_2 | refine_3 | refine_4 | refine_5 | refine_6 =>
    simp only [kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, View.readAt_eq_ld, Memref.IsWhole.read_unread, ho]
    pointwise [k0_pay86, k0_pay94, k0_pay95, k0_pay89, k0_pay81, k0_pay80, k0_pay79, k0_pay78, k0_pay82, k0_pay36, k0_pay90, k0_pay88, k0_pay87, k0_pay91, k0_pay85, k0_pay92, k0_pay93, k0_pay83, k0_pay84]
  case refine_1 | refine_2 | refine_3 => exact dif_pos h
  all_goals
    rw [dif_neg h]
    simp only [nextCarry, mixed, weight, later, after, seen, sp2, scores]
    pointwise []
    simp only [Nat.add_sub_of_le (not_lt.mp h), Fin.eta, h0, h1, h2, hb, Nat.zero_add, Fin.mk_zero]

set_option maxHeartbeats 4000000 in
/-- Block 6 of the keys, second pair of heads. -/
theorem step6_b : Step x0 x1 x2 x3 x4 1536 128 (by decide) (by decide)
    (kernelRun0_A.sl.r_7 (F := Ideal) c i arg2 harg2 arg4 harg4 x0 x2) (kernelRun0_A.sl.r_11 (F := Ideal) c i arg3 harg3 arg4 harg4 x1 x2) (kernelRun0_A.sl.r_14 (F := Ideal) c i arg2 harg2 arg3 harg3 arg4 harg4 arg5 harg5 arg6 harg6 x0 x1 x2 x3 x4) (kernelRun0_A.sl.r_31 (F := Ideal) c i arg2 harg2 arg4 harg4 x0 x2) (kernelRun0_A.sl.v427 (F := Ideal) c i arg3 harg3 arg4 harg4 x1 x2) (kernelRun0_A.sl.v440 (F := Ideal) c i arg2 harg2 arg3 harg3 arg4 harg4 arg5 harg5 arg6 harg6 x0 x1 x2 x3 x4) := by
  have ho : k0_off2 i 6#32 = ![0, 1536, 128] := off2_eq i 6
  have h0 : k0_off2 i 6#32 0 = 0 := by rw [ho]; rfl
  have h1 : k0_off2 i 6#32 1 = 1536 := by rw [ho]; rfl
  have h2 : k0_off2 i 6#32 2 = 128 := by rw [ho]; rfl
  have hb : (1536 : Fin 2048) = ⟨1536, by decide⟩ := rfl
  refine ⟨fun r h => ?_, fun r h => ?_, fun r l h => ?_, fun r h => ?_, fun r h => ?_, fun r l h => ?_⟩
  case' refine_1 | refine_2 | refine_3 | refine_4 | refine_5 | refine_6 =>
    simp only [kernelRun0_A.sl.cst_29, kernelRun0_A.sl.cst_132, kernelRun0_A.sl.cst_137, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.v398, kernelRun0_A.sl.v399, kernelRun0_A.sl.v400, kernelRun0_A.sl.v401, kernelRun0_A.sl.v403, kernelRun0_A.sl.v404, kernelRun0_A.sl.v405, kernelRun0_A.sl.v406, kernelRun0_A.sl.v407, kernelRun0_A.sl.v408, kernelRun0_A.sl.v409, kernelRun0_A.sl.v410, kernelRun0_A.sl.v411, kernelRun0_A.sl.v412, kernelRun0_A.sl.v413, kernelRun0_A.sl.v414, kernelRun0_A.sl.v415, kernelRun0_A.sl.v416, kernelRun0_A.sl.v417, kernelRun0_A.sl.v419, kernelRun0_A.sl.v421, kernelRun0_A.sl.v422, kernelRun0_A.sl.v423, kernelRun0_A.sl.v424, kernelRun0_A.sl.v425, kernelRun0_A.sl.v426, kernelRun0_A.sl.v427, kernelRun0_A.sl.v428, kernelRun0_A.sl.v431, kernelRun0_A.sl.v432, kernelRun0_A.sl.v435, kernelRun0_A.sl.v436, kernelRun0_A.sl.v437, kernelRun0_A.sl.v438, kernelRun0_A.sl.v439, kernelRun0_A.sl.v440, View.readAt_eq_ld, Memref.IsWhole.read_unread, ho]
    pointwise [k0_pay105, k0_pay103, k0_pay102, k0_pay101, k0_pay100, k0_pay36, k0_pay99, k0_pay97, k0_pay96, k0_pay98, k0_pay104, k0_pay107, k0_pay106, k0_pay109, k0_pay108]
  case refine_1 | refine_2 | refine_3 => exact dif_pos h
  all_goals
    rw [dif_neg h]
    simp only [nextCarry, mixed, weight, later, after, seen, sp2, scores]
    pointwise []
    simp only [Nat.add_sub_of_le (not_lt.mp h), Fin.eta, h0, h1, h2, hb, Nat.zero_add, Fin.mk_zero]

end Cert.KernelIdeal.Sb

end
-- ==== Proof.SbStep5.lean ====
module
public import proofs.«01_k».proof.Proof.SbDefs
/-! Blocks 5 and 4 of the keys in the stick-breaking attention kernel: what the unrolled program computes for each pair
    of heads is one `Step`. -/

@[expose] public section
set_option maxRecDepth 16384
noncomputable section
namespace Cert.KernelIdeal.Sb
open Cert.KernelIdeal Cert.KernelIdeal.Gen Idealize.ShloMosaic

variable (c : Dev nD) (i : grid0.Coords)
  (arg2 : Memref sig .tc .vmem S1x2048x256 .bf16) (harg2 : arg2.IsWhole) (arg3 : Memref sig .tc .vmem S1x2048x256 .bf16) (harg3 : arg3.IsWhole)
  (arg4 : Memref sig .tc .vmem S1x2048x256 .bf16) (harg4 : arg4.IsWhole) (arg5 : Memref sig .tc .vmem S1x2048x256 .bf16) (harg5 : arg5.IsWhole)
  (arg6 : Memref sig .tc .vmem S1x2048x256 .bf16) (harg6 : arg6.IsWhole)
  (x0 x1 x2 x3 x4 : Vec Ideal S1x2048x256 .bf16)

set_option maxHeartbeats 4000000 in
/-- Block 5 of the keys, first pair of heads. -/
theorem step5_a : Step x0 x1 x2 x3 x4 1280 0 (by decide) (by decide)
    (kernelRun0_A.sl.r_20 (F := Ideal) c i arg2 harg2 arg4 harg4 x0 x2) (kernelRun0_A.sl.r_25 (F := Ideal) c i arg3 harg3 arg4 harg4 x1 x2) (kernelRun0_A.sl.r_26 (F := Ideal) c i arg2 harg2 arg3 harg3 arg4 harg4 arg5 harg5 arg6 harg6 x0 x1 x2 x3 x4) (kernelRun0_A.sl.r_36 (F := Ideal) c i arg2 harg2 arg4 harg4 x0 x2) (kernelRun0_A.sl.r_38 (F := Ideal) c i arg3 harg3 arg4 harg4 x1 x2) (kernelRun0_A.sl.r_39 (F := Ideal) c i arg2 harg2 arg3 harg3 arg4 harg4 arg5 harg5 arg6 harg6 x0 x1 x2 x3 x4) := by
  have ho : k0_off1 i 5#32 = ![0, 1280, 0] := off1_eq i 5
  have h0 : k0_off1 i 5#32 0 = 0 := by rw [ho]; rfl
  have h1 : k0_off1 i 5#32 1 = 1280 := by rw [ho]; rfl
  have h2 : k0_off1 i 5#32 2 = 0 := by rw [ho]; rfl
  have hb : (1280 : Fin 2048) = ⟨1280, by decide⟩ := rfl
  refine ⟨fun r h => ?_, fun r h => ?_, fun r l h => ?_, fun r h => ?_, fun r h => ?_, fun r l h => ?_⟩
  case' refine_1 | refine_2 | refine_3 | refine_4 | refine_5 | refine_6 =>
    simp only [kernelRun0_A.sl.r_35, kernelRun0_A.sl.r_36, kernelRun0_A.sl.r_37, kernelRun0_A.sl.r_38, kernelRun0_A.sl.r_39, View.readAt_eq_ld, Memref.IsWhole.read_unread, ho]
    pointwise [k0_pay122, k0_pay120, k0_pay119, k0_pay118, k0_pay117, k0_pay116, k0_pay36, k0_pay129, k0_pay127, k0_pay126, k0_pay125, k0_pay124, k0_pay123, k0_pay130, k0_pay121, k0_pay128]
  case refine_1 | refine_2 | refine_3 => exact dif_pos h
  all_goals
    rw [dif_neg h]
    simp only [nextCarry, mixed, weight, later, after, seen, sp2, scores]
    pointwise []
    simp only [Nat.add_sub_of_le (not_lt.mp h), Fin.eta, h0, h1, h2, hb, Nat.zero_add, Fin.mk_zero]

set_option maxHeartbeats 4000000 in
/-- Block 5 of the keys, second pair of heads. -/
theorem step5_b : Step x0 x1 x2 x3 x4 1280 128 (by decide) (by decide)
    (kernelRun0_A.sl.r_31 (F := Ideal) c i arg2 harg2 arg4 harg4 x0 x2) (kernelRun0_A.sl.v427 (F := Ideal) c i arg3 harg3 arg4 harg4 x1 x2) (kernelRun0_A.sl.v440 (F := Ideal) c i arg2 harg2 arg3 harg3 arg4 harg4 arg5 harg5 arg6 harg6 x0 x1 x2 x3 x4) (kernelRun0_A.sl.r_46 (F := Ideal) c i arg2 harg2 arg4 harg4 x0 x2) (kernelRun0_A.sl.v641 (F := Ideal) c i arg3 harg3 arg4 harg4 x1 x2) (kernelRun0_A.sl.v654 (F := Ideal) c i arg2 harg2 arg3 harg3 arg4 harg4 arg5 harg5 arg6 harg6 x0 x1 x2 x3 x4) := by
  have ho : k0_off2 i 5#32 = ![0, 1280, 128] := off2_eq i 5
  have h0 : k0_off2 i 5#32 0 = 0 := by rw [ho]; rfl
  have h1 : k0_off2 i 5#32 1 = 1280 := by rw [ho]; rfl
  have h2 : k0_off2 i 5#32 2 = 128 := by rw [ho]; rfl
  have hb : (1280 : Fin 2048) = ⟨1280, by decide⟩ := rfl
  refine ⟨fun r h => ?_, fun r h => ?_, fun r l h => ?_, fun r h => ?_, fun r h => ?_, fun r l h => ?_⟩
  case' refine_1 | refine_2 | refine_3 | refine_4 | refine_5 | refine_6 =>
    simp only [kernelRun0_A.sl.cst_29, kernelRun0_A.sl.cst_188, kernelRun0_A.sl.cst_206, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.v624, kernelRun0_A.sl.v625, kernelRun0_A.sl.v626, kernelRun0_A.sl.v627, kernelRun0_A.sl.v628, kernelRun0_A.sl.v629, kernelRun0_A.sl.v630, kernelRun0_A.sl.v631, kernelRun0_A.sl.v632, kernelRun0_A.sl.v633, kernelRun0_A.sl.v635, kernelRun0_A.sl.v636, kernelRun0_A.sl.v637, kernelRun0_A.sl.v638, kernelRun0_A.sl.v639, kernelRun0_A.sl.v640, kernelRun0_A.sl.v641, kernelRun0_A.sl.v642, kernelRun0_A.sl.v645, kernelRun0_A.sl.v646, kernelRun0_A.sl.v649, kernelRun0_A.sl.v650, kernelRun0_A.sl.v651, kernelRun0_A.sl.v652, kernelRun0_A.sl.v653, kernelRun0_A.sl.v654, View.readAt_eq_ld, Memref.IsWhole.read_unread, ho]
    pointwise [k0_pay140, k0_pay138, k0_pay36, k0_pay134, k0_pay133, k0_pay132, k0_pay131, k0_pay136, k0_pay135, k0_pay137, k0_pay144, k0_pay143, k0_pay142, k0_pay141, k0_pay139, k0_pay147, k0_pay145, k0_pay146]
  case refine_1 | refine_2 | refine_3 => exact dif_pos h
  all_goals
    rw [dif_neg h]
    simp only [nextCarry, mixed, weight, later, after, seen, sp2, scores]
    pointwise []
    simp only [Nat.add_sub_of_le (not_lt.mp h), Fin.eta, h0, h1, h2, hb, Nat.zero_add, Fin.mk_zero]

set_option maxHeartbeats 4000000 in
/-- Block 4 of the keys, first pair of heads. -/
theorem step4_a : Step x0 x1 x2 x3 x4 1024 0 (by decide) (by decide)
    (kernelRun0_A.sl.r_36 (F := Ideal) c i arg2 harg2 arg4 harg4 x0 x2) (kernelRun0_A.sl.r_38 (F := Ideal) c i arg3 harg3 arg4 harg4 x1 x2) (kernelRun0_A.sl.r_39 (F := Ideal) c i arg2 harg2 arg3 harg3 arg4 harg4 arg5 harg5 arg6 harg6 x0 x1 x2 x3 x4) (kernelRun0_A.sl.r_53 (F := Ideal) c i arg2 harg2 arg4 harg4 x0 x2) (kernelRun0_A.sl.r_56 (F := Ideal) c i arg3 harg3 arg4 harg4 x1 x2) (kernelRun0_A.sl.r_60 (F := Ideal) c i arg2 harg2 arg3 harg3 arg4 harg4 arg5 harg5 arg6 harg6 x0 x1 x2 x3 x4) := by
  have ho : k0_off1 i 4#32 = ![0, 1024, 0] := off1_eq i 4
  have h0 : k0_off1 i 4#32 0 = 0 := by rw [ho]; rfl
  have h1 : k0_off1 i 4#32 1 = 1024 := by rw [ho]; rfl
  have h2 : k0_off1 i 4#32 2 = 0 := by rw [ho]; rfl
  have hb : (1024 : Fin 2048) = ⟨1024, by decide⟩ := rfl
  refine ⟨fun r h => ?_, fun r h => ?_, fun r l h => ?_, fun r h => ?_, fun r h => ?_, fun r l h => ?_⟩
  case' refine_1 | refine_2 | refine_3 | refine_4 | refine_5 | refine_6 =>
    simp only [kernelRun0_A.sl.cst_29, kernelRun0_A.sl.cst_216, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.v660, kernelRun0_A.sl.v663, kernelRun0_A.sl.v664, kernelRun0_A.sl.v665, kernelRun0_A.sl.v666, View.readAt_eq_ld, Memref.IsWhole.read_unread, ho]
    pointwise [k0_pay158, k0_pay156, k0_pay155, k0_pay154, k0_pay153, k0_pay36, k0_pay165, k0_pay164, k0_pay163, k0_pay162, k0_pay161, k0_pay169, k0_pay159, k0_pay160, k0_pay166, k0_pay167, k0_pay168, k0_pay157]
  case refine_1 | refine_2 | refine_3 => exact dif_pos h
  all_goals
    rw [dif_neg h]
    simp only [nextCarry, mixed, weight, later, after, seen, sp2, scores]
    pointwise []
    simp only [Nat.add_sub_of_le (not_lt.mp h), Fin.eta, h0, h1, h2, hb, Nat.zero_add, Fin.mk_zero]

set_option maxHeartbeats 4000000 in
/-- Block 4 of the keys, second pair of heads. -/
theorem step4_b : Step x0 x1 x2 x3 x4 1024 128 (by decide) (by decide)
    (kernelRun0_A.sl.r_46 (F := Ideal) c i arg2 harg2 arg4 harg4 x0 x2) (kernelRun0_A.sl.v641 (F := Ideal) c i arg3 harg3 arg4 harg4 x1 x2) (kernelRun0_A.sl.v654 (F := Ideal) c i arg2 harg2 arg3 harg3 arg4 harg4 arg5 harg5 arg6 harg6 x0 x1 x2 x3 x4) (kernelRun0_A.sl.r_65 (F := Ideal) c i arg2 harg2 arg4 harg4 x0 x2) (kernelRun0_A.sl.r_69 (F := Ideal) c i arg3 harg3 arg4 harg4 x1 x2) (kernelRun0_A.sl.r_70 (F := Ideal) c i arg2 harg2 arg3 harg3 arg4 harg4 arg5 harg5 arg6 harg6 x0 x1 x2 x3 x4) := by
  have ho : k0_off2 i 4#32 = ![0, 1024, 128] := off2_eq i 4
  have h0 : k0_off2 i 4#32 0 = 0 := by rw [ho]; rfl
  have h1 : k0_off2 i 4#32 1 = 1024 := by rw [ho]; rfl
  have h2 : k0_off2 i 4#32 2 = 128 := by rw [ho]; rfl
  have hb : (1024 : Fin 2048) = ⟨1024, by decide⟩ := rfl
  refine ⟨fun r h => ?_, fun r h => ?_, fun r l h => ?_, fun r h => ?_, fun r h => ?_, fun r l h => ?_⟩
  case' refine_1 | refine_2 | refine_3 | refine_4 | refine_5 | refine_6 =>
    simp only [kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, View.readAt_eq_ld, Memref.IsWhole.read_unread, ho]
    pointwise [k0_pay179, k0_pay188, k0_pay189, k0_pay176, k0_pay177, k0_pay174, k0_pay173, k0_pay172, k0_pay171, k0_pay170, k0_pay36, k0_pay186, k0_pay187, k0_pay184, k0_pay183, k0_pay182, k0_pay181, k0_pay180, k0_pay178, k0_pay185, k0_pay175]
  case refine_1 | refine_2 | refine_3 => exact dif_pos h
  all_goals
    rw [dif_neg h]
    simp only [nextCarry, mixed, weight, later, after, seen, sp2, scores]
    pointwise []
    simp only [Nat.add_sub_of_le (not_lt.mp h), Fin.eta, h0, h1, h2, hb, Nat.zero_add, Fin.mk_zero]

end Cert.KernelIdeal.Sb

end
-- ==== Proof.SbStep3.lean ====
module
public import proofs.«01_k».proof.Proof.SbDefs
/-! Blocks 3 and 2 of the keys in the stick-breaking attention kernel: what the unrolled program computes for each pair
    of heads is one `Step`. -/

@[expose] public section
set_option maxRecDepth 16384
noncomputable section
namespace Cert.KernelIdeal.Sb
open Cert.KernelIdeal Cert.KernelIdeal.Gen Idealize.ShloMosaic

variable (c : Dev nD) (i : grid0.Coords)
  (arg2 : Memref sig .tc .vmem S1x2048x256 .bf16) (harg2 : arg2.IsWhole) (arg3 : Memref sig .tc .vmem S1x2048x256 .bf16) (harg3 : arg3.IsWhole)
  (arg4 : Memref sig .tc .vmem S1x2048x256 .bf16) (harg4 : arg4.IsWhole) (arg5 : Memref sig .tc .vmem S1x2048x256 .bf16) (harg5 : arg5.IsWhole)
  (arg6 : Memref sig .tc .vmem S1x2048x256 .bf16) (harg6 : arg6.IsWhole)
  (x0 x1 x2 x3 x4 : Vec Ideal S1x2048x256 .bf16)

set_option maxHeartbeats 4000000 in
/-- Block 3 of the keys, first pair of heads. -/
theorem step3_a : Step x0 x1 x2 x3 x4 768 0 (by decide) (by decide)
    (kernelRun0_A.sl.r_53 (F := Ideal) c i arg2 harg2 arg4 harg4 x0 x2) (kernelRun0_A.sl.r_56 (F := Ideal) c i arg3 harg3 arg4 harg4 x1 x2) (kernelRun0_A.sl.r_60 (F := Ideal) c i arg2 harg2 arg3 harg3 arg4 harg4 arg5 harg5 arg6 harg6 x0 x1 x2 x3 x4) (kernelRun0_A.sl.r_74 (F := Ideal) c i arg2 harg2 arg4 harg4 x0 x2) (kernelRun0_A.sl.v964 (F := Ideal) c i arg3 harg3 arg4 harg4 x1 x2) (kernelRun0_A.sl.v977 (F := Ideal) c i arg2 harg2 arg3 harg3 arg4 harg4 arg5 harg5 arg6 harg6 x0 x1 x2 x3 x4) := by
  have ho : k0_off1 i 3#32 = ![0, 768, 0] := off1_eq i 3
  have h0 : k0_off1 i 3#32 0 = 0 := by rw [ho]; rfl
  have h1 : k0_off1 i 3#32 1 = 768 := by rw [ho]; rfl
  have h2 : k0_off1 i 3#32 2 = 0 := by rw [ho]; rfl
  have hb : (768 : Fin 2048) = ⟨768, by decide⟩ := rfl
  refine ⟨fun r h => ?_, fun r h => ?_, fun r l h => ?_, fun r h => ?_, fun r h => ?_, fun r l h => ?_⟩
  case' refine_1 | refine_2 | refine_3 | refine_4 | refine_5 | refine_6 =>
    simp only [kernelRun0_A.sl.cst_29, kernelRun0_A.sl.cst_305, kernelRun0_A.sl.cst_310, kernelRun0_A.sl.r_71, kernelRun0_A.sl.r_72, kernelRun0_A.sl.r_73, kernelRun0_A.sl.r_74, kernelRun0_A.sl.r_75, kernelRun0_A.sl.r_76, kernelRun0_A.sl.v891, kernelRun0_A.sl.v892, kernelRun0_A.sl.v940, kernelRun0_A.sl.v941, kernelRun0_A.sl.v942, kernelRun0_A.sl.v943, kernelRun0_A.sl.v944, kernelRun0_A.sl.v945, kernelRun0_A.sl.v946, kernelRun0_A.sl.v947, kernelRun0_A.sl.v948, kernelRun0_A.sl.v949, kernelRun0_A.sl.v950, kernelRun0_A.sl.v951, kernelRun0_A.sl.v952, kernelRun0_A.sl.v953, kernelRun0_A.sl.v954, kernelRun0_A.sl.v956, kernelRun0_A.sl.v958, kernelRun0_A.sl.v959, kernelRun0_A.sl.v960, kernelRun0_A.sl.v961, kernelRun0_A.sl.v962, kernelRun0_A.sl.v963, kernelRun0_A.sl.v964, kernelRun0_A.sl.v965, kernelRun0_A.sl.v968, kernelRun0_A.sl.v969, kernelRun0_A.sl.v972, kernelRun0_A.sl.v973, kernelRun0_A.sl.v974, kernelRun0_A.sl.v975, kernelRun0_A.sl.v976, kernelRun0_A.sl.v977, View.readAt_eq_ld, Memref.IsWhole.read_unread, ho]
    pointwise [k0_pay196, k0_pay194, k0_pay193, k0_pay192, k0_pay36, k0_pay191, k0_pay190, k0_pay195, k0_pay198, k0_pay197]
  case refine_1 | refine_2 | refine_3 => exact dif_pos h
  all_goals
    rw [dif_neg h]
    simp only [nextCarry, mixed, weight, later, after, seen, sp2, scores]
    pointwise []
    simp only [Nat.add_sub_of_le (not_lt.mp h), Fin.eta, h0, h1, h2, hb, Nat.zero_add, Fin.mk_zero]

set_option maxHeartbeats 4000000 in
/-- Block 3 of the keys, second pair of heads. -/
theorem step3_b : Step x0 x1 x2 x3 x4 768 128 (by decide) (by decide)
    (kernelRun0_A.sl.r_65 (F := Ideal) c i arg2 harg2 arg4 harg4 x0 x2) (kernelRun0_A.sl.r_69 (F := Ideal) c i arg3 harg3 arg4 harg4 x1 x2) (kernelRun0_A.sl.r_70 (F := Ideal) c i arg2 harg2 arg3 harg3 arg4 harg4 arg5 harg5 arg6 harg6 x0 x1 x2 x3 x4) (kernelRun0_A.sl.r_78 (F := Ideal) c i arg2 harg2 arg4 harg4 x0 x2) (kernelRun0_A.sl.r_82 (F := Ideal) c i arg3 harg3 arg4 harg4 x1 x2) (kernelRun0_A.sl.r_85 (F := Ideal) c i arg2 harg2 arg3 harg3 arg4 harg4 arg5 harg5 arg6 harg6 x0 x1 x2 x3 x4) := by
  have ho : k0_off2 i 3#32 = ![0, 768, 128] := off2_eq i 3
  have h0 : k0_off2 i 3#32 0 = 0 := by rw [ho]; rfl
  have h1 : k0_off2 i 3#32 1 = 768 := by rw [ho]; rfl
  have h2 : k0_off2 i 3#32 2 = 128 := by rw [ho]; rfl
  have hb : (768 : Fin 2048) = ⟨768, by decide⟩ := rfl
  refine ⟨fun r h => ?_, fun r h => ?_, fun r l h => ?_, fun r h => ?_, fun r h => ?_, fun r l h => ?_⟩
  case' refine_1 | refine_2 | refine_3 | refine_4 | refine_5 | refine_6 =>
    simp only [kernelRun0_A.sl.cst_305, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.v979, kernelRun0_A.sl.v982, View.readAt_eq_ld, Memref.IsWhole.read_unread, ho]
    pointwise [k0_pay212, k0_pay210, k0_pay209, k0_pay208, k0_pay207, k0_pay206, k0_pay36, k0_pay221, k0_pay219, k0_pay218, k0_pay217, k0_pay216, k0_pay215, k0_pay224, k0_pay213, k0_pay214, k0_pay220, k0_pay222, k0_pay223, k0_pay211]
  case refine_1 | refine_2 | refine_3 => exact dif_pos h
  all_goals
    rw [dif_neg h]
    simp only [nextCarry, mixed, weight, later, after, seen, sp2, scores]
    pointwise []
    simp only [Nat.add_sub_of_le (not_lt.mp h), Fin.eta, h0, h1, h2, hb, Nat.zero_add, Fin.mk_zero]

set_option maxHeartbeats 4000000 in
/-- Block 2 of the keys, first pair of heads. -/
theorem step2_a : Step x0 x1 x2 x3 x4 512 0 (by decide) (by decide)
    (kernelRun0_A.sl.r_74 (F := Ideal) c i arg2 harg2 arg4 harg4 x0 x2) (kernelRun0_A.sl.v964 (F := Ideal) c i arg3 harg3 arg4 harg4 x1 x2) (kernelRun0_A.sl.v977 (F := Ideal) c i arg2 harg2 arg3 harg3 arg4 harg4 arg5 harg5 arg6 harg6 x0 x1 x2 x3 x4) (kernelRun0_A.sl.r_91 (F := Ideal) c i arg2 harg2 arg4 harg4 x0 x2) (kernelRun0_A.sl.r_96 (F := Ideal) c i arg3 harg3 arg4 harg4 x1 x2) (kernelRun0_A.sl.r_97 (F := Ideal) c i arg2 harg2 arg3 harg3 arg4 harg4 arg5 harg5 arg6 harg6 x0 x1 x2 x3 x4) := by
  have ho : k0_off1 i 2#32 = ![0, 512, 0] := off1_eq i 2
  have h0 : k0_off1 i 2#32 0 = 0 := by rw [ho]; rfl
  have h1 : k0_off1 i 2#32 1 = 512 := by rw [ho]; rfl
  have h2 : k0_off1 i 2#32 2 = 0 := by rw [ho]; rfl
  have hb : (512 : Fin 2048) = ⟨512, by decide⟩ := rfl
  refine ⟨fun r h => ?_, fun r h => ?_, fun r l h => ?_, fun r h => ?_, fun r h => ?_, fun r l h => ?_⟩
  case' refine_1 | refine_2 | refine_3 | refine_4 | refine_5 | refine_6 =>
    simp only [kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, View.readAt_eq_ld, Memref.IsWhole.read_unread, ho]
    pointwise [k0_pay233, k0_pay241, k0_pay242, k0_pay236, k0_pay228, k0_pay227, k0_pay226, k0_pay225, k0_pay229, k0_pay36, k0_pay237, k0_pay235, k0_pay234, k0_pay238, k0_pay232, k0_pay239, k0_pay240, k0_pay230, k0_pay231]
  case refine_1 | refine_2 | refine_3 => exact dif_pos h
  all_goals
    rw [dif_neg h]
    simp only [nextCarry, mixed, weight, later, after, seen, sp2, scores]
    pointwise []
    simp only [Nat.add_sub_of_le (not_lt.mp h), Fin.eta, h0, h1, h2, hb, Nat.zero_add, Fin.mk_zero]

set_option maxHeartbeats 4000000 in
/-- Block 2 of the keys, second pair of heads. -/
theorem step2_b : Step x0 x1 x2 x3 x4 512 128 (by decide) (by decide)
    (kernelRun0_A.sl.r_78 (F := Ideal) c i arg2 harg2 arg4 harg4 x0 x2) (kernelRun0_A.sl.r_82 (F := Ideal) c i arg3 harg3 arg4 harg4 x1 x2) (kernelRun0_A.sl.r_85 (F := Ideal) c i arg2 harg2 arg3 harg3 arg4 harg4 arg5 harg5 arg6 harg6 x0 x1 x2 x3 x4) (kernelRun0_A.sl.r_102 (F := Ideal) c i arg2 harg2 arg4 harg4 x0 x2) (kernelRun0_A.sl.v1283 (F := Ideal) c i arg3 harg3 arg4 harg4 x1 x2) (kernelRun0_A.sl.v1296 (F := Ideal) c i arg2 harg2 arg3 harg3 arg4 harg4 arg5 harg5 arg6 harg6 x0 x1 x2 x3 x4) := by
  have ho : k0_off2 i 2#32 = ![0, 512, 128] := off2_eq i 2
  have h0 : k0_off2 i 2#32 0 = 0 := by rw [ho]; rfl
  have h1 : k0_off2 i 2#32 1 = 512 := by rw [ho]; rfl
  have h2 : k0_off2 i 2#32 2 = 128 := by rw [ho]; rfl
  have hb : (512 : Fin 2048) = ⟨512, by decide⟩ := rfl
  refine ⟨fun r h => ?_, fun r h => ?_, fun r l h => ?_, fun r h => ?_, fun r h => ?_, fun r l h => ?_⟩
  case' refine_1 | refine_2 | refine_3 | refine_4 | refine_5 | refine_6 =>
    simp only [kernelRun0_A.sl.cst_29, kernelRun0_A.sl.cst_408, kernelRun0_A.sl.cst_413, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.v1254, kernelRun0_A.sl.v1255, kernelRun0_A.sl.v1256, kernelRun0_A.sl.v1257, kernelRun0_A.sl.v1259, kernelRun0_A.sl.v1260, kernelRun0_A.sl.v1261, kernelRun0_A.sl.v1262, kernelRun0_A.sl.v1263, kernelRun0_A.sl.v1264, kernelRun0_A.sl.v1265, kernelRun0_A.sl.v1266, kernelRun0_A.sl.v1267, kernelRun0_A.sl.v1268, kernelRun0_A.sl.v1269, kernelRun0_A.sl.v1270, kernelRun0_A.sl.v1271, kernelRun0_A.sl.v1272, kernelRun0_A.sl.v1273, kernelRun0_A.sl.v1275, kernelRun0_A.sl.v1277, kernelRun0_A.sl.v1278, kernelRun0_A.sl.v1279, kernelRun0_A.sl.v1280, kernelRun0_A.sl.v1281, kernelRun0_A.sl.v1282, kernelRun0_A.sl.v1283, kernelRun0_A.sl.v1284, kernelRun0_A.sl.v1287, kernelRun0_A.sl.v1288, kernelRun0_A.sl.v1291, kernelRun0_A.sl.v1292, kernelRun0_A.sl.v1293, kernelRun0_A.sl.v1294, kernelRun0_A.sl.v1295, kernelRun0_A.sl.v1296, View.readAt_eq_ld, Memref.IsWhole.read_unread, ho]
    pointwise [k0_pay252, k0_pay250, k0_pay249, k0_pay248, k0_pay247, k0_pay36, k0_pay246, k0_pay244, k0_pay243, k0_pay245, k0_pay251, k0_pay254, k0_pay253, k0_pay256, k0_pay255]
  case refine_1 | refine_2 | refine_3 => exact dif_pos h
  all_goals
    rw [dif_neg h]
    simp only [nextCarry, mixed, weight, later, after, seen, sp2, scores]
    pointwise []
    simp only [Nat.add_sub_of_le (not_lt.mp h), Fin.eta, h0, h1, h2, hb, Nat.zero_add, Fin.mk_zero]

end Cert.KernelIdeal.Sb

end
-- ==== Proof.SbStep1.lean ====
module
public import proofs.«01_k».proof.Proof.SbDefs
/-! Blocks 1 and 0 of the keys in the stick-breaking attention kernel: what the unrolled program computes for each pair
    of heads is one `Step`. -/

@[expose] public section
set_option maxRecDepth 16384
noncomputable section
namespace Cert.KernelIdeal.Sb
open Cert.KernelIdeal Cert.KernelIdeal.Gen Idealize.ShloMosaic

variable (c : Dev nD) (i : grid0.Coords)
  (arg2 : Memref sig .tc .vmem S1x2048x256 .bf16) (harg2 : arg2.IsWhole) (arg3 : Memref sig .tc .vmem S1x2048x256 .bf16) (harg3 : arg3.IsWhole)
  (arg4 : Memref sig .tc .vmem S1x2048x256 .bf16) (harg4 : arg4.IsWhole) (arg5 : Memref sig .tc .vmem S1x2048x256 .bf16) (harg5 : arg5.IsWhole)
  (arg6 : Memref sig .tc .vmem S1x2048x256 .bf16) (harg6 : arg6.IsWhole)
  (x0 x1 x2 x3 x4 : Vec Ideal S1x2048x256 .bf16)

set_option maxHeartbeats 4000000 in
/-- Block 1 of the keys, first pair of heads. -/
theorem step1_a : Step x0 x1 x2 x3 x4 256 0 (by decide) (by decide)
    (kernelRun0_A.sl.r_91 (F := Ideal) c i arg2 harg2 arg4 harg4 x0 x2) (kernelRun0_A.sl.r_96 (F := Ideal) c i arg3 harg3 arg4 harg4 x1 x2) (kernelRun0_A.sl.r_97 (F := Ideal) c i arg2 harg2 arg3 harg3 arg4 harg4 arg5 harg5 arg6 harg6 x0 x1 x2 x3 x4) (kernelRun0_A.sl.r_107 (F := Ideal) c i arg2 harg2 arg4 harg4 x0 x2) (kernelRun0_A.sl.r_109 (F := Ideal) c i arg3 harg3 arg4 harg4 x1 x2) (kernelRun0_A.sl.r_110 (F := Ideal) c i arg2 harg2 arg3 harg3 arg4 harg4 arg5 harg5 arg6 harg6 x0 x1 x2 x3 x4) := by
  have ho : k0_off1 i 1#32 = ![0, 256, 0] := off1_eq i 1
  have h0 : k0_off1 i 1#32 0 = 0 := by rw [ho]; rfl
  have h1 : k0_off1 i 1#32 1 = 256 := by rw [ho]; rfl
  have h2 : k0_off1 i 1#32 2 = 0 := by rw [ho]; rfl
  have hb : (256 : Fin 2048) = ⟨256, by decide⟩ := rfl
  refine ⟨fun r h => ?_, fun r h => ?_, fun r l h => ?_, fun r h => ?_, fun r h => ?_, fun r l h => ?_⟩
  case' refine_1 | refine_2 | refine_3 | refine_4 | refine_5 | refine_6 =>
    simp only [kernelRun0_A.sl.r_106, kernelRun0_A.sl.r_107, kernelRun0_A.sl.r_108, kernelRun0_A.sl.r_109, kernelRun0_A.sl.r_110, View.readAt_eq_ld, Memref.IsWhole.read_unread, ho]
    pointwise [k0_pay269, k0_pay267, k0_pay266, k0_pay265, k0_pay264, k0_pay263, k0_pay36, k0_pay276, k0_pay274, k0_pay273, k0_pay272, k0_pay271, k0_pay270, k0_pay277, k0_pay268, k0_pay275]
  case refine_1 | refine_2 | refine_3 => exact dif_pos h
  all_goals
    rw [dif_neg h]
    simp only [nextCarry, mixed, weight, later, after, seen, sp2, scores]
    pointwise []
    simp only [Nat.add_sub_of_le (not_lt.mp h), Fin.eta, h0, h1, h2, hb, Nat.zero_add, Fin.mk_zero]

set_option maxHeartbeats 4000000 in
/-- Block 1 of the keys, second pair of heads. -/
theorem step1_b : Step x0 x1 x2 x3 x4 256 128 (by decide) (by decide)
    (kernelRun0_A.sl.r_102 (F := Ideal) c i arg2 harg2 arg4 harg4 x0 x2) (kernelRun0_A.sl.v1283 (F := Ideal) c i arg3 harg3 arg4 harg4 x1 x2) (kernelRun0_A.sl.v1296 (F := Ideal) c i arg2 harg2 arg3 harg3 arg4 harg4 arg5 harg5 arg6 harg6 x0 x1 x2 x3 x4) (kernelRun0_A.sl.r_117 (F := Ideal) c i arg2 harg2 arg4 harg4 x0 x2) (kernelRun0_A.sl.v1497 (F := Ideal) c i arg3 harg3 arg4 harg4 x1 x2) (kernelRun0_A.sl.v1510 (F := Ideal) c i arg2 harg2 arg3 harg3 arg4 harg4 arg5 harg5 arg6 harg6 x0 x1 x2 x3 x4) := by
  have ho : k0_off2 i 1#32 = ![0, 256, 128] := off2_eq i 1
  have h0 : k0_off2 i 1#32 0 = 0 := by rw [ho]; rfl
  have h1 : k0_off2 i 1#32 1 = 256 := by rw [ho]; rfl
  have h2 : k0_off2 i 1#32 2 = 128 := by rw [ho]; rfl
  have hb : (256 : Fin 2048) = ⟨256, by decide⟩ := rfl
  refine ⟨fun r h => ?_, fun r h => ?_, fun r l h => ?_, fun r h => ?_, fun r h => ?_, fun r l h => ?_⟩
  case' refine_1 | refine_2 | refine_3 | refine_4 | refine_5 | refine_6 =>
    simp only [kernelRun0_A.sl.cst_29, kernelRun0_A.sl.cst_464, kernelRun0_A.sl.cst_482, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.v1480, kernelRun0_A.sl.v1481, kernelRun0_A.sl.v1482, kernelRun0_A.sl.v1483, kernelRun0_A.sl.v1484, kernelRun0_A.sl.v1485, kernelRun0_A.sl.v1486, kernelRun0_A.sl.v1487, kernelRun0_A.sl.v1488, kernelRun0_A.sl.v1489, kernelRun0_A.sl.v1491, kernelRun0_A.sl.v1492, kernelRun0_A.sl.v1493, kernelRun0_A.sl.v1494, kernelRun0_A.sl.v1495, kernelRun0_A.sl.v1496, kernelRun0_A.sl.v1497, kernelRun0_A.sl.v1498, kernelRun0_A.sl.v1501, kernelRun0_A.sl.v1502, kernelRun0_A.sl.v1505, kernelRun0_A.sl.v1506, kernelRun0_A.sl.v1507, kernelRun0_A.sl.v1508, kernelRun0_A.sl.v1509, kernelRun0_A.sl.v1510, View.readAt_eq_ld, Memref.IsWhole.read_unread, ho]
    pointwise [k0_pay287, k0_pay285, k0_pay36, k0_pay281, k0_pay280, k0_pay279, k0_pay278, k0_pay283, k0_pay282, k0_pay284, k0_pay291, k0_pay290, k0_pay289, k0_pay288, k0_pay286, k0_pay294, k0_pay292, k0_pay293]
  case refine_1 | refine_2 | refine_3 => exact dif_pos h
  all_goals
    rw [dif_neg h]
    simp only [nextCarry, mixed, weight, later, after, seen, sp2, scores]
    pointwise []
    simp only [Nat.add_sub_of_le (not_lt.mp h), Fin.eta, h0, h1, h2, hb, Nat.zero_add, Fin.mk_zero]

set_option maxHeartbeats 4000000 in
/-- Block 0 of the keys, first pair of heads. -/
theorem step0_a : Step x0 x1 x2 x3 x4 0 0 (by decide) (by decide)
    (kernelRun0_A.sl.r_107 (F := Ideal) c i arg2 harg2 arg4 harg4 x0 x2) (kernelRun0_A.sl.r_109 (F := Ideal) c i arg3 harg3 arg4 harg4 x1 x2) (kernelRun0_A.sl.r_110 (F := Ideal) c i arg2 harg2 arg3 harg3 arg4 harg4 arg5 harg5 arg6 harg6 x0 x1 x2 x3 x4) (kernelRun0_A.sl.r_123 (F := Ideal) c i arg2 harg2 arg4 harg4 x0 x2) (kernelRun0_A.sl.r_128 (F := Ideal) c i arg3 harg3 arg4 harg4 x1 x2) (kernelRun0_A.sl.r_129 (F := Ideal) c i arg2 harg2 arg3 harg3 arg4 harg4 arg5 harg5 arg6 harg6 x0 x1 x2 x3 x4) := by
  have ho : k0_off1 i 0#32 = ![0, 0, 0] := off1_eq i 0
  have h0 : k0_off1 i 0#32 0 = 0 := by rw [ho]; rfl
  have h1 : k0_off1 i 0#32 1 = 0 := by rw [ho]; rfl
  have h2 : k0_off1 i 0#32 2 = 0 := by rw [ho]; rfl
  refine ⟨fun r h => ?_, fun r h => ?_, fun r l h => ?_, fun r h => ?_, fun r h => ?_, fun r l h => ?_⟩
  case refine_1 | refine_2 | refine_3 => exact absurd h (Nat.not_lt_zero _)
  all_goals
    simp only [kernelRun0_A.sl.cst_29, kernelRun0_A.sl.cst_493, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.v1516, kernelRun0_A.sl.v1519, kernelRun0_A.sl.v1520, kernelRun0_A.sl.v1521, kernelRun0_A.sl.v1522, View.readAt_eq_ld, Memref.IsWhole.read_unread, ho]
    pointwise [k0_pay304, k0_pay303, k0_pay302, k0_pay301, k0_pay300, k0_pay36, k0_pay313, k0_pay312, k0_pay311, k0_pay310, k0_pay309, k0_pay314, k0_pay307, k0_pay306, k0_pay308, k0_pay305]
    simp only [nextCarry, mixed, weight, later, after, seen, sp2, scores]
    pointwise []
    simp only [Fin.eta, h0, h1, h2, Nat.zero_add, Nat.sub_zero, Fin.mk_zero]

set_option maxHeartbeats 4000000 in
/-- Block 0 of the keys, second pair of heads. -/
theorem step0_b : Step x0 x1 x2 x3 x4 0 128 (by decide) (by decide)
    (kernelRun0_A.sl.r_117 (F := Ideal) c i arg2 harg2 arg4 harg4 x0 x2) (kernelRun0_A.sl.v1497 (F := Ideal) c i arg3 harg3 arg4 harg4 x1 x2) (kernelRun0_A.sl.v1510 (F := Ideal) c i arg2 harg2 arg3 harg3 arg4 harg4 arg5 harg5 arg6 harg6 x0 x1 x2 x3 x4) (kernelRun0_A.sl.r_131 (F := Ideal) c i arg2 harg2 arg4 harg4 x0 x2) (kernelRun0_A.sl.r_135 (F := Ideal) c i arg3 harg3 arg4 harg4 x1 x2) (k0_pay332 (kernelRun0_A.sl.v1510 c i arg2 harg2 arg3 harg3 arg4 harg4 arg5 harg5 arg6 harg6 x0 x1 x2 x3 x4) (kernelRun0_A.sl.r_136 c i arg2 harg2 arg3 harg3 arg4 harg4 arg5 harg5 arg6 harg6 x0 x1 x2 x3 x4)) := by
  have ho : k0_off2 i 0#32 = ![0, 0, 128] := off2_eq i 0
  have h0 : k0_off2 i 0#32 0 = 0 := by rw [ho]; rfl
  have h1 : k0_off2 i 0#32 1 = 0 := by rw [ho]; rfl
  have h2 : k0_off2 i 0#32 2 = 128 := by rw [ho]; rfl
  refine ⟨fun r h => ?_, fun r h => ?_, fun r l h => ?_, fun r h => ?_, fun r h => ?_, fun r l h => ?_⟩
  case refine_1 | refine_2 | refine_3 => exact absurd h (Nat.not_lt_zero _)
  all_goals
    simp only [kernelRun0_A.sl.cst_493, kernelRun0_A.sl.r_130, kernelRun0_A.sl.r_131, kernelRun0_A.sl.r_132, kernelRun0_A.sl.r_133, kernelRun0_A.sl.r_134, kernelRun0_A.sl.r_135, kernelRun0_A.sl.r_136, View.readAt_eq_ld, Memref.IsWhole.read_unread, ho]
    pointwise [k0_pay321, k0_pay320, k0_pay319, k0_pay318, k0_pay317, k0_pay316, k0_pay36, k0_pay330, k0_pay329, k0_pay328, k0_pay327, k0_pay326, k0_pay325, k0_pay332, k0_pay315, k0_pay323, k0_pay324, k0_pay331, k0_pay322]
    simp only [nextCarry, mixed, weight, later, after, seen, sp2, scores]
    pointwise []
    simp only [Fin.eta, h0, h1, h2, Nat.zero_add, Nat.sub_zero, Fin.mk_zero]

end Cert.KernelIdeal.Sb

end
-- ==== Proof.SbRun.lean ====
module
public import proofs.«01_k».proof.Proof.SbMath
public import proofs.«01_k».proof.Proof.SbStep7
public import proofs.«01_k».proof.Proof.SbStep5
public import proofs.«01_k».proof.Proof.SbStep3
public import proofs.«01_k».proof.Proof.SbStep1

/-! The whole run of the stick-breaking attention body on its five blocks: the eight blocks of keys one after the other,
    and the block stored. -/

@[expose] public section

set_option maxRecDepth 16384

noncomputable section

namespace Cert.KernelIdeal.Sb

open Cert.KernelIdeal Cert.KernelIdeal.Gen Idealize.ShloMosaic

/-- The first loop over earlier blocks makes no trip, since there is one block of queries. -/
theorem trips1 (i : grid0.Coords) : Scf.trips (0#32)
    (Scalar.addi (0#32) (Scalar.muli (Scalar.divsi (Scalar.subi (Scalar.muli (BitVec.ofNat 32 (i 1).val) 8#32) 0#32) 1#32) 1#32))
    1#32 = 0 := by
  rw [coord_zero i]; decide

/-- The second loop, over what the first one leaves, makes no trip either. -/
theorem trips2 (i : grid0.Coords) : Scf.trips
    (Scalar.addi (0#32) (Scalar.muli (Scalar.divsi (Scalar.subi (Scalar.muli (BitVec.ofNat 32 (i 1).val) 8#32) 0#32) 1#32) 1#32))
    (Scalar.addi (0#32) (Scalar.subi (Scalar.muli (BitVec.ofNat 32 (i 1).val) 8#32) 0#32)) 1#32 = 0 := by
  rw [coord_zero i]; decide

/-- Two stored halves of a block, read back: the lanes below 128. -/
theorem read_low (P Q : S1x2048x128.Idx → Elt Ideal .bf16) (r : Fin 2048) (l : Fin 128) :
    View.canon (Val := Elt Ideal) [⟨Rect.unit (s := S1x2048x256) ![0, 0, 128] ![1, 2048, 128] inb_S1x2048x256_S1x2048x128_0_0_128, P⟩,
      ⟨Rect.unit (s := S1x2048x256) ![0, 0, 0] ![1, 2048, 128] inb_S1x2048x256_S1x2048x128_0_0_0, Q⟩] (ix3 0 r ⟨l.val, by omega⟩)
      = Q (ix3 0 r l) := by
  refine View.canon_eq_of_allAt _ _ _ (View.cover_of_tiled_head _ _ _ rfl _) (View.allAt_cons_unit _ _ _ _ _ ?_
    (View.allAt_cons_unit _ _ _ _ _ ?_ (View.allAt_nil _ _)))
  · intro x hx
    have := hx 2
    simp at this
    omega
  · intro x hx
    congr 1
    funext a
    have := hx a
    apply Fin.ext
    fin_cases a <;> simpa using this.symm

/-- Two stored halves of a block, read back: the lanes from 128. -/
theorem read_high (P Q : S1x2048x128.Idx → Elt Ideal .bf16) (r : Fin 2048) (l : Fin 128) :
    View.canon (Val := Elt Ideal) [⟨Rect.unit (s := S1x2048x256) ![0, 0, 128] ![1, 2048, 128] inb_S1x2048x256_S1x2048x128_0_0_128, P⟩,
      ⟨Rect.unit (s := S1x2048x256) ![0, 0, 0] ![1, 2048, 128] inb_S1x2048x256_S1x2048x128_0_0_0, Q⟩] (ix3 0 r ⟨128 + l.val, by omega⟩)
      = P (ix3 0 r l) := by
  refine View.canon_eq_of_allAt _ _ _ (View.cover_of_tiled_head _ _ _ rfl _) (View.allAt_cons_unit _ _ _ _ _ ?_
    (View.allAt_cons_unit _ _ _ _ _ ?_ (View.allAt_nil _ _)))
  · intro x hx
    congr 1
    funext a
    have := hx a
    apply Fin.ext
    fin_cases a <;> simpa using this.symm
  · intro x hx
    have := hx 2
    have h2 := (x 2).isLt
    simp at this h2
    omega

variable (c : Dev nD) (i : grid0.Coords)
  (arg2 : Memref sig .tc .vmem S1x2048x256 .bf16) (harg2 : arg2.IsWhole) (arg3 : Memref sig .tc .vmem S1x2048x256 .bf16) (harg3 : arg3.IsWhole)
  (arg4 : Memref sig .tc .vmem S1x2048x256 .bf16) (harg4 : arg4.IsWhole) (arg5 : Memref sig .tc .vmem S1x2048x256 .bf16) (harg5 : arg5.IsWhole)
  (arg6 : Memref sig .tc .vmem S1x2048x256 .bf16) (harg6 : arg6.IsWhole) (arg7 : Memref sig .tc .vmem S1x2048x256 .bf16) (harg7 : arg7.IsWhole)
  (x0 x1 x2 x3 x4 : Vec Ideal S1x2048x256 .bf16)

/-- The lanes below 128 of the block stored are the first pair's accumulator. -/
theorem out_low (r : Fin 2048) (l : Fin 128) :
    out0_A_5 (F := Ideal) c i arg2 harg2 arg3 harg3 arg4 harg4 arg5 harg5 arg6 harg6 arg7 harg7 x0 x1 x2 x3 x4 (ix3 0 r ⟨l.val, by omega⟩)
      = kernelRun0_A.sl.r_129 (F := Ideal) c i arg2 harg2 arg3 harg3 arg4 harg4 arg5 harg5 arg6 harg6 x0 x1 x2 x3 x4 (ix2 r l) := by
  unfold out0_A_5 kernelRun0_A
  dsimp only
  rw [View.read_writes_junk_eq_canon, read_low, trips1, trips2, st_k0_t1_zero]
  rw [st_k0_t2_zero]
  pointwise [k0_pay341]

/-- The lanes from 128 of the block stored are the second pair's accumulator. -/
theorem out_high (r : Fin 2048) (l : Fin 128) :
    out0_A_5 (F := Ideal) c i arg2 harg2 arg3 harg3 arg4 harg4 arg5 harg5 arg6 harg6 arg7 harg7 x0 x1 x2 x3 x4 (ix3 0 r ⟨128 + l.val, by omega⟩)
      = k0_pay332 (kernelRun0_A.sl.v1510 (F := Ideal) c i arg2 harg2 arg3 harg3 arg4 harg4 arg5 harg5 arg6 harg6 x0 x1 x2 x3 x4)
          (kernelRun0_A.sl.r_136 c i arg2 harg2 arg3 harg3 arg4 harg4 arg5 harg5 arg6 harg6 x0 x1 x2 x3 x4) (ix2 r l) := by
  unfold out0_A_5 kernelRun0_A
  dsimp only
  rw [View.read_writes_junk_eq_canon, read_high]
  unfold kernelRun0_A.sl.r_137
  rw [trips1, trips2, st_k0_t1_zero]
  rw [st_k0_t2_zero]
  pointwise [k0_pay1]

/-- All eight blocks of keys, first pair of heads. -/
theorem done_low {Z1 Z2 : Fin 2048 → ℕ → EReal} (h1 : Scored x0 x2 0 (by decide) Z1) (h2 : Scored x1 x2 0 (by decide) Z2) :
    Done x3 x4 0 (by decide) Z1 Z2 0 (kernelRun0_A.sl.r_123 (F := Ideal) c i arg2 harg2 arg4 harg4 x0 x2)
      (kernelRun0_A.sl.r_128 (F := Ideal) c i arg3 harg3 arg4 harg4 x1 x2)
      (kernelRun0_A.sl.r_129 (F := Ideal) c i arg2 harg2 arg3 harg3 arg4 harg4 arg5 harg5 arg6 harg6 x0 x1 x2 x3 x4) :=
  (step0_a c i arg2 harg2 arg3 harg3 arg4 harg4 arg5 harg5 arg6 harg6 x0 x1 x2 x3 x4).done h1 h2 <|
  (step1_a c i arg2 harg2 arg3 harg3 arg4 harg4 arg5 harg5 arg6 harg6 x0 x1 x2 x3 x4).done h1 h2 <|
  (step2_a c i arg2 harg2 arg3 harg3 arg4 harg4 arg5 harg5 arg6 harg6 x0 x1 x2 x3 x4).done h1 h2 <|
  (step3_a c i arg2 harg2 arg3 harg3 arg4 harg4 arg5 harg5 arg6 harg6 x0 x1 x2 x3 x4).done h1 h2 <|
  (step4_a c i arg2 harg2 arg3 harg3 arg4 harg4 arg5 harg5 arg6 harg6 x0 x1 x2 x3 x4).done h1 h2 <|
  (step5_a c i arg2 harg2 arg3 harg3 arg4 harg4 arg5 harg5 arg6 harg6 x0 x1 x2 x3 x4).done h1 h2 <|
  (step6_a c i arg2 harg2 arg3 harg3 arg4 harg4 arg5 harg5 arg6 harg6 x0 x1 x2 x3 x4).done h1 h2 <|
  (step7_a c i arg2 harg2 arg3 harg3 arg4 harg4 arg5 harg5 arg6 harg6 x0 x1 x2 x3 x4).done h1 h2 <|
  done_start x3 x4 0 (by decide) Z1 Z2 (fun r => by pointwise [k0_pay37]) (fun r => by pointwise [k0_pay38])
    (fun r l => by pointwise [k0_pay41])

/-- All eight blocks of keys, second pair of heads. -/
theorem done_high {Z1 Z2 : Fin 2048 → ℕ → EReal} (h1 : Scored x0 x2 128 (by decide) Z1) (h2 : Scored x1 x2 128 (by decide) Z2) :
    Done x3 x4 128 (by decide) Z1 Z2 0 (kernelRun0_A.sl.r_131 (F := Ideal) c i arg2 harg2 arg4 harg4 x0 x2)
      (kernelRun0_A.sl.r_135 (F := Ideal) c i arg3 harg3 arg4 harg4 x1 x2)
      (k0_pay332 (kernelRun0_A.sl.v1510 (F := Ideal) c i arg2 harg2 arg3 harg3 arg4 harg4 arg5 harg5 arg6 harg6 x0 x1 x2 x3 x4)
        (kernelRun0_A.sl.r_136 c i arg2 harg2 arg3 harg3 arg4 harg4 arg5 harg5 arg6 harg6 x0 x1 x2 x3 x4)) :=
  (step0_b c i arg2 harg2 arg3 harg3 arg4 harg4 arg5 harg5 arg6 harg6 x0 x1 x2 x3 x4).done h1 h2 <|
  (step1_b c i arg2 harg2 arg3 harg3 arg4 harg4 arg5 harg5 arg6 harg6 x0 x1 x2 x3 x4).done h1 h2 <|
  (step2_b c i arg2 harg2 arg3 harg3 arg4 harg4 arg5 harg5 arg6 harg6 x0 x1 x2 x3 x4).done h1 h2 <|
  (step3_b c i arg2 harg2 arg3 harg3 arg4 harg4 arg5 harg5 arg6 harg6 x0 x1 x2 x3 x4).done h1 h2 <|
  (step4_b c i arg2 harg2 arg3 harg3 arg4 harg4 arg5 harg5 arg6 harg6 x0 x1 x2 x3 x4).done h1 h2 <|
  (step5_b c i arg2 harg2 arg3 harg3 arg4 harg4 arg5 harg5 arg6 harg6 x0 x1 x2 x3 x4).done h1 h2 <|
  (step6_b c i arg2 harg2 arg3 harg3 arg4 harg4 arg5 harg5 arg6 harg6 x0 x1 x2 x3 x4).done h1 h2 <|
  (step7_b c i arg2 harg2 arg3 harg3 arg4 harg4 arg5 harg5 arg6 harg6 x0 x1 x2 x3 x4).done h1 h2 <|
  done_start x3 x4 128 (by decide) Z1 Z2 (fun r => by pointwise [k0_pay39]) (fun r => by pointwise [k0_pay40])
    (fun r l => by pointwise [k0_pay42])

end Cert.KernelIdeal.Sb

end
-- ==== Proof.SbRef.lean ====
module
public import proofs.«01_k».proof.Proof.SbMath
public import proofs.«01_k».proof.Proof.Gen.ReferenceIdeal.Read
public import Idealize.ShloMosaic.Lib.Pointwise

/-! The reference's rows of stick-breaking attention: the weights it takes with exponentials and logarithms to the base
    `e` are those of the program, which works to the base two. -/

@[expose] public section

set_option maxRecDepth 16384

noncomputable section

namespace Cert.KernelIdeal.Sb

open Cert.ReferenceIdeal Cert.ReferenceIdeal.Gen Cert.ReferenceIdeal.Read Idealize.ShloMosaic Idealize.ShloMosaic.WordCmp Finset

/-- Softplus of a real. -/
def softplus (t : ℝ) : ℝ := max t 0 + Real.log (1 + Real.exp (-|t|))

/-- The logarithm of two is positive. -/
theorem log_two_pos : (0 : ℝ) < Real.log 2 := Real.log_pos (by norm_num)

/-- Softplus to the base two, of a score divided by `log 2`. -/
theorem S2_div (t : ℝ) : S2 (t / Real.log 2) = softplus t / Real.log 2 := by
  have h := log_two_pos
  have e : Real.rpow 2 (-|t / Real.log 2|) = Real.exp (-|t|) := by
    show (2 : ℝ) ^ (-|t / Real.log 2|) = _
    rw [Real.rpow_def_of_pos (by norm_num), abs_div, abs_of_pos h]
    congr 1
    field_simp
  have m : max (t / Real.log 2) 0 = max t 0 / Real.log 2 := by
    rw [← max_div_div_right h.le, zero_div]
  rw [S2, softplus, e, m, add_div, div_eq_mul_inv (Real.log _)]

/-- The softplus of minus a score. -/
theorem softplus_neg (t : ℝ) : softplus (-t) = softplus t - t := by
  unfold softplus
  rw [abs_neg]
  have : max (-t) 0 = max t 0 - t := by
    rcases le_total t 0 with h | h
    · rw [max_eq_left (by linarith), max_eq_right h]; ring
    · rw [max_eq_right (by linarith), max_eq_left h]; ring
  rw [this]; ring

/-- Softplus as the reference spells it. -/
def sp (t : EReal) : EReal := max t 0 + Ideal.log1p (Ideal.exp (-(FloatOps.absf (F := Ideal) (φ := .f32) t)))

/-- The reference's softplus, folded up. -/
theorem sp_fold (t : EReal) : max t 0 + Ideal.log1p (Ideal.exp (-(FloatOps.absf (F := Ideal) (φ := .f32) t))) = sp t := rfl

/-- The reference's softplus of a finite score. -/
theorem sp_coe (t : ℝ) : sp (t : EReal) = ((softplus t : ℝ) : EReal) := by
  unfold sp
  have ha : (FloatOps.absf (F := Ideal) (φ := .f32) (t : EReal) : EReal) = ((|t| : ℝ) : EReal) := by
    show max ((t : ℝ) : EReal) (-((t : ℝ) : EReal)) = _
    rw [← EReal.coe_neg, coe_max']
    rfl
  have hp : (0 : ℝ) < 1 + Real.exp (-|t|) := by positivity
  have he : Ideal.exp (-((|t| : ℝ) : EReal)) = ((Real.exp (-|t|) : ℝ) : EReal) := by
    rw [← EReal.coe_neg]; rfl
  rw [ha, he, Ideal.log1p, ← EReal.coe_one, ← EReal.coe_add, Ideal.log_coe, if_neg (not_le.mpr hp), ← EReal.coe_zero, coe_max',
    ← EReal.coe_add]
  rfl

/-- The logarithm of one more than zero. -/
theorem log1p_zero : Ideal.log1p 0 = 0 := by
  rw [Ideal.log1p, add_zero, ← EReal.coe_one, Ideal.log_coe, if_neg (by norm_num), Real.log_one, EReal.coe_zero]

/-- The reference's softplus of an infinite score. -/
theorem sp_top : sp ⊤ = ⊤ := by
  have he : Ideal.exp (-(FloatOps.absf (F := Ideal) (φ := .f32) (⊤ : EReal))) = 0 := by
    show Ideal.exp (-max ⊤ (-⊤)) = 0
    simp
  unfold sp
  rw [he, log1p_zero]
  simp

/-- The reference's softplus of a score that is minus infinity. -/
theorem sp_bot : sp ⊥ = 0 := by
  have he : Ideal.exp (-(FloatOps.absf (F := Ideal) (φ := .f32) (⊥ : EReal))) = 0 := by
    show Ideal.exp (-max ⊥ (-⊥)) = 0
    simp
  unfold sp
  rw [he, log1p_zero]
  simp

/-- One over the logarithm of two is positive. -/
theorem per_log_pos : (0 : ℝ) < 1 / Real.log 2 := one_div_pos.mpr log_two_pos

/-- The program's softplus of a score over `log 2` is the reference's over `log 2`. -/
theorem sp2_scaled (t : EReal) : sp2 (t * perLog) = sp t * perLog := by
  induction t using EReal.rec with
  | bot => rw [sp_bot, perLog, EReal.bot_mul_coe_of_pos per_log_pos, sp2_bot, zero_mul]
  | coe t => rw [perLog, ← EReal.coe_mul, sp2_coe, sp_coe, ← EReal.coe_mul, mul_one_div, mul_one_div, S2_div]
  | top => rw [sp_top, perLog, EReal.top_mul_coe_of_pos per_log_pos, sp2_top]

/-- A power of two whose exponent is taken over `log 2`. -/
theorem exp2_scaled (x : EReal) : Ideal.exp2 (x * perLog) = Ideal.exp x := by
  induction x using EReal.rec with
  | bot => rw [perLog, EReal.bot_mul_coe_of_pos per_log_pos]; rfl
  | coe x =>
    rw [perLog, ← EReal.coe_mul, Ideal.exp2_coe, Ideal.exp_coe]
    refine congrArg _ ((Real.rpow_def_of_pos (by norm_num) _).trans (congrArg Real.exp ?_))
    have := log_two_pos.ne'
    field_simp
  | top => rw [perLog, EReal.top_mul_coe_of_pos per_log_pos]; rfl

/-- The exponent of a weight: the reference adds up the keys from `s` and takes `s` itself off, the program adds up those
    after `s`. -/
theorem exponent_eq (t d : EReal) : -sp (-t) + ((-sp t + d) - -sp t) = (t - sp t) + d := by
  induction t using EReal.rec with
  | bot =>
    rw [EReal.neg_bot, sp_top, EReal.neg_top, EReal.bot_add, EReal.bot_sub, EReal.bot_add]
  | coe t =>
    have e : ∀ a : ℝ, (a : EReal) + d - (a : EReal) = d := fun a => by
      induction d using EReal.rec with
      | bot => rw [EReal.add_bot, EReal.bot_sub]
      | coe x => rw [← EReal.coe_add, ← EReal.coe_sub, add_sub_cancel_left]
      | top => rw [EReal.coe_add_top, EReal.top_sub_coe]
    rw [← EReal.coe_neg, sp_coe, sp_coe, ← EReal.coe_neg (softplus t), e, softplus_neg, ← EReal.coe_neg, neg_sub, EReal.coe_sub]
  | top =>
    rw [sp_top, EReal.neg_top, EReal.bot_add, EReal.bot_sub, EReal.add_bot, sub_eq_add_neg, EReal.neg_top, EReal.add_bot,
      EReal.bot_add]

/-- The program's weight, of scores over `log 2`, with exponentials and logarithms to the base `e`. -/
theorem share_scaled (T : ℕ → EReal) (r s : ℕ) (h : s < r) : share (fun w => T w * perLog) r s
    = Ideal.exp ((T s - sp (T s)) + ∑ w ∈ Ico (s + 1) 2048, if w < r then -sp (T w) else 0) := by
  have h0 : 0 ≤ perLog := EReal.coe_nonneg.mpr per_log_pos.le
  have ht : perLog ≠ ⊤ := EReal.coe_ne_top _
  have e : ∀ w, taken (fun w => T w * perLog) r w = (if w < r then -sp (T w) else 0) * perLog := fun w => by
    unfold taken
    split
    · rw [sp2_scaled, neg_mul]
    · rw [zero_mul]
  rw [share, if_pos h, sum_congr rfl fun w _ => e w, sum_mul_factor _ _ h0 ht, sp2_scaled, sub_eq_add_neg, ← neg_mul,
    ← EReal.right_distrib_of_nonneg_of_ne_top h0 ht, ← EReal.right_distrib_of_nonneg_of_ne_top h0 ht, exp2_scaled,
    sub_eq_add_neg]

/-- The left fold of additions is the sum. -/
theorem foldl_sum {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- The window's positions, one to one with the numbers below 2048. -/
def windowAt : Fin 2048 ≃ (⟨4, ![1, 1, 1, 2048]⟩ : Shape).Idx where
  toFun w := ix4 0 0 0 w
  invFun x := x 3
  left_inv w := rfl
  right_inv x := by
    funext a
    have h0 : (x 0).val < 1 := (x 0).isLt
    have h1 : (x 1).val < 1 := (x 1).isLt
    have h2 : (x 2).val < 1 := (x 2).isLt
    match a with
    | ⟨0, _⟩ => exact Fin.ext (show 0 = (x 0).val by omega)
    | ⟨1, _⟩ => exact Fin.ext (show 0 = (x 1).val by omega)
    | ⟨2, _⟩ => exact Fin.ext (show 0 = (x 2).val by omega)
    | ⟨3, _⟩ => rfl

/-- The reversed running sum along a row: at key `s`, the sum over the keys from `s`. -/
theorem sum_from (x : (⟨S8x4x2048x2048, .f32⟩ : BufTy).Contents (Elt Ideal)) (z : (⟨S_, .f32⟩ : BufTy).Contents (Elt Ideal))
    (hz : ∀ i, (z i : EReal) = 0) (b : Fin 8) (h : Fin 4) (r s : Fin 2048) (f : ℕ → EReal)
    (hf : ∀ w : Fin 2048, (x (ix4 b h r w) : EReal) = f w) :
    (Host.reduceWindowAdd (F := Ideal) (φ := .f32) ![1, 1, 1, 2048] ![1, 1, 1, 1] ![0, 0, 0, 0] ![0, 0, 0, 2047] x z
      reduceWindows_S8x4x2048x2048_S8x4x2048x2048_w1s1p0_0_w1s1p0_0_w1s1p0_0_w2048s1p0_2047 h_S_ (ix4 b h r s) : EReal)
      = ∑ w ∈ Ico s.val 2048, f w := by
  have hs := s.isLt
  unfold Host.reduceWindowAdd
  rw [Ideal.hostReduceWindowAdd_def]
  unfold Ideal.hostReduceWindowAdd Host.reduceWindow
  rw [hz]
  refine (foldl_sum _ _ _).trans ?_
  rw [zero_add, ← Fin.sum_univ_def]
  refine (Fintype.sum_equiv ((⟨4, ![1, 1, 1, 2048]⟩ : Shape).rowMajor.symm.trans windowAt.symm) _
    (fun w : Fin 2048 => if s.val + w.val < 2048 then f (s.val + w.val) else 0) fun n => ?_).trans ?_
  · have h0 : ((⟨4, ![1, 1, 1, 2048]⟩ : Shape).rowMajor.symm n 0).val < 1 := Fin.isLt _
    have h1 : ((⟨4, ![1, 1, 1, 2048]⟩ : Shape).rowMajor.symm n 1).val < 1 := Fin.isLt _
    have h2 : ((⟨4, ![1, 1, 1, 2048]⟩ : Shape).rowMajor.symm n 2).val < 1 := Fin.isLt _
    have hb := b.isLt
    have hh := h.isLt
    have hr := r.isLt
    split
    · next hin =>
      have h3 : 0 ≤ s.val * 1 + ((⟨4, ![1, 1, 1, 2048]⟩ : Shape).rowMajor.symm n 3).val
        ∧ s.val * 1 + ((⟨4, ![1, 1, 1, 2048]⟩ : Shape).rowMajor.symm n 3).val - 0 < 2048 := hin 3
      have h4 : s.val + ((⟨4, ![1, 1, 1, 2048]⟩ : Shape).rowMajor.symm n 3).val < 2048 := by omega
      refine Eq.trans ?_ (if_pos h4).symm
      refine (congrArg x (funext fun a => Fin.ext ?_)).trans (hf ⟨_, h4⟩)
      match a with
      | ⟨0, _⟩ => show b.val * 1 + ((⟨4, ![1, 1, 1, 2048]⟩ : Shape).rowMajor.symm n 0).val - 0 = b.val; omega
      | ⟨1, _⟩ => show h.val * 1 + ((⟨4, ![1, 1, 1, 2048]⟩ : Shape).rowMajor.symm n 1).val - 0 = h.val; omega
      | ⟨2, _⟩ => show r.val * 1 + ((⟨4, ![1, 1, 1, 2048]⟩ : Shape).rowMajor.symm n 2).val - 0 = r.val; omega
      | ⟨3, _⟩ => show s.val * 1 + ((⟨4, ![1, 1, 1, 2048]⟩ : Shape).rowMajor.symm n 3).val - 0
          = s.val + ((⟨4, ![1, 1, 1, 2048]⟩ : Shape).rowMajor.symm n 3).val; omega
    · next hin =>
      refine Eq.symm (if_neg fun h4 => hin fun a => ?_)
      have h5 : s.val + ((⟨4, ![1, 1, 1, 2048]⟩ : Shape).rowMajor.symm n 3).val < 2048 := h4
      match a with
      | ⟨0, _⟩ => show 0 ≤ b.val * 1 + ((⟨4, ![1, 1, 1, 2048]⟩ : Shape).rowMajor.symm n 0).val
          ∧ b.val * 1 + ((⟨4, ![1, 1, 1, 2048]⟩ : Shape).rowMajor.symm n 0).val - 0 < 8; omega
      | ⟨1, _⟩ => show 0 ≤ h.val * 1 + ((⟨4, ![1, 1, 1, 2048]⟩ : Shape).rowMajor.symm n 1).val
          ∧ h.val * 1 + ((⟨4, ![1, 1, 1, 2048]⟩ : Shape).rowMajor.symm n 1).val - 0 < 4; omega
      | ⟨2, _⟩ => show 0 ≤ r.val * 1 + ((⟨4, ![1, 1, 1, 2048]⟩ : Shape).rowMajor.symm n 2).val
          ∧ r.val * 1 + ((⟨4, ![1, 1, 1, 2048]⟩ : Shape).rowMajor.symm n 2).val - 0 < 2048; omega
      | ⟨3, _⟩ => show 0 ≤ s.val * 1 + ((⟨4, ![1, 1, 1, 2048]⟩ : Shape).rowMajor.symm n 3).val
          ∧ s.val * 1 + ((⟨4, ![1, 1, 1, 2048]⟩ : Shape).rowMajor.symm n 3).val - 0 < 2048; omega
  · rw [Fin.sum_univ_eq_sum_range (fun w => if s.val + w < 2048 then f (s.val + w) else 0) 2048, ← sum_filter]
    have : (range 2048).filter (fun w => s.val + w < 2048) = range (2048 - s.val) := by
      ext w; simp only [mem_filter, mem_range]; omega
    rw [this, sum_Ico_eq_sum_range]

/-- The weight of key `s` in a row of the reference. -/
theorem ref_weight (x0 x1 : (⟨S8x2048x256, .f32⟩ : BufTy).Contents (Elt Ideal)) (b : Fin 8) (h : Fin 4) (r s : Fin 2048) (T : ℕ → EReal)
    (hT : ∀ w : Fin 2048, (val_main_v5 (F := Ideal) x0 x1 (ix4 b h r w) : EReal) = T w) :
    (val_main_v21 (F := Ideal) x0 x1 (ix4 b h r s) : EReal) = share (fun w => T w * perLog) r s := by
  have hm : ∀ w : Fin 2048, (val_main_v15 (F := Ideal) x0 x1 (ix4 b h r w) : EReal)
      = if w.val < r.val then -sp (T w) else 0 := by
    intro w
    pointwise [val_main_v15, val_main_call1_v1, val_main_call1_v2, val_main_call1_v0, val_main_cst_0, val_main_v12, val_main_v11,
      val_main_v10, val_main_v9, val_main_v8, val_main_v7, val_main_v6, val_main_v14, val_main_v13, val_main_call0_v0, val_main_call0_v1,
      val_main_call0_v2, val_main_call0_v3, val_main_call0_v4, val_main_call0_v5, val_main_call0_v6, val_main_call0_v7,
      val_main_call0_v8, val_main_call0_v9, val_main_call0_v10, val_main_call0_v11, val_main_call0_cst]
    rw [if_neg (by simp), hT, sp_fold, cmpi_slt_ofNat (by have := w.isLt; omega) (by have := r.isLt; omega),
      show id (constant (F := Ideal) S_ FTy.f32 0#32) ix0 = (0 : EReal) by
        show Ideal.ofBits .f32 0#32 = 0; simp [Ideal.ofBits, Ideal.ieee]]
    by_cases hw : w.val < r.val
    · simp [hw, Scalar.select]
    · simp [hw, Scalar.select]
  have h16 : (val_main_v16 (F := Ideal) x0 x1 (ix4 b h r s) : EReal)
      = ∑ w ∈ Ico s.val 2048, if w < r.val then -sp (T w) else 0 :=
    sum_from (val_main_v15 (F := Ideal) x0 x1) (val_main_call2_v0 (F := Ideal))
      (fun i => by pointwise [val_main_call2_v0, val_main_call2_cst]) b h r s (fun w => if w < r.val then -sp (T w) else 0) hm
  pointwise [val_main_v21, val_main_call4_v0, val_main_call4_v1, val_main_call4_v2, val_main_cst_1, val_main_v20, val_main_v19, val_main_v18,
    val_main_v17, val_main_call3_v0, val_main_call3_v1, val_main_call3_call0_v0, val_main_call3_call0_v1, val_main_call3_call0_v2,
    val_main_call3_call0_v3, val_main_call3_call0_v4, val_main_call3_call0_v5, val_main_call3_call0_v6, val_main_call3_call0_v7,
    val_main_call3_call0_v8, val_main_call3_call0_v9, val_main_call3_call0_v10, val_main_call3_call0_v11, val_main_call3_call0_cst,
    val_main_v12, val_main_v11, val_main_v10, val_main_v9, val_main_v8, val_main_v7, val_main_v6]
  rw [if_neg (by simp), h16, hm, hT, sp_fold, cmpi_slt_ofNat (by have := s.isLt; omega) (by have := r.isLt; omega),
    show id (constant (F := Ideal) S_ FTy.f32 0#32) ix0 = (0 : EReal) by
      show Ideal.ofBits .f32 0#32 = 0; simp [Ideal.ofBits, Ideal.ieee]]
  by_cases hs : s.val < r.val
  · rw [share_scaled T r s hs, sum_eq_sum_Ico_succ_bot s.isLt]
    simp only [hs, if_true, Scalar.select]
    exact congrArg Ideal.exp (exponent_eq (T s.val) _)
  · rw [share, if_neg hs]
    simp [hs, Scalar.select]

end Cert.KernelIdeal.Sb

end
-- ==== Proof.SbReads.lean ====
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.SbRun
public import proofs.«01_k».proof.Proof.SbRef

/-! The stick-breaking attention call and its reference compute the same rows. -/

@[expose] public section

set_option maxRecDepth 16384

noncomputable section

namespace Cert.KernelIdeal.Sb

open Cert.KernelIdeal Cert.KernelIdeal.Gen Idealize.ShloMosaic.StableHlo Idealize.ShloMosaic Idealize.ShloMosaic.TcCoe Idealize.SL.Sem
  Finset

variable (m : (ℓ : Loc nD τ sig) → Buf (Elt Ideal) ℓ)

/-- Every window's block at grid point `t` is batch `t`. -/
theorem index_batch : ∀ t : Fin grid0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] := by decide +kernel

/-- Whether a lane belongs to an even head, as the host computes it. -/
def mask (l : ℕ) : BitVec 1 :=
  IntOp.cmpi CmpIPredicate.slt
    (Scalar.select
      (IntOp.andi
        (IntOp.cmpi CmpIPredicate.ne
          (IntOp.cmpi CmpIPredicate.slt
            (IntOp.remsi ArithUnit.host (BitVec.ofNat 32 l) (Scalar.select (IntOp.cmpi CmpIPredicate.eq 128#32 0#32) 1#32 128#32)) 0#32)
          (IntOp.cmpi CmpIPredicate.slt (Scalar.select (IntOp.cmpi CmpIPredicate.eq 128#32 0#32) 1#32 128#32) 0#32))
        (IntOp.cmpi CmpIPredicate.ne
          (IntOp.remsi ArithUnit.host (BitVec.ofNat 32 l) (Scalar.select (IntOp.cmpi CmpIPredicate.eq 128#32 0#32) 1#32 128#32)) 0#32))
      (IntOp.addi
        (IntOp.remsi ArithUnit.host (BitVec.ofNat 32 l) (Scalar.select (IntOp.cmpi CmpIPredicate.eq 128#32 0#32) 1#32 128#32))
        (Scalar.select (IntOp.cmpi CmpIPredicate.eq 128#32 0#32) 1#32 128#32))
      (IntOp.remsi ArithUnit.host (BitVec.ofNat 32 l) (Scalar.select (IntOp.cmpi CmpIPredicate.eq 128#32 0#32) 1#32 128#32)))
    64#32

/-- The lanes of the even heads: the first half of each 128. -/
theorem mask_eq : ∀ l : Fin 256, mask l.val = if l.val % 128 < 64 then 1#1 else 0#1 := by decide +kernel

/-- What the host scales the queries by: `1/8` over the logarithm of two. -/
def scale : EReal := Ideal.div (Ideal.ofBits FTy.f32 1040187392#32) (Ideal.log (Ideal.ofBits FTy.f32 1073741824#32))

/-- The scale as a real. -/
theorem scale_eq : scale = ((1 / 8 * (1 / Real.log 2) : ℝ) : EReal) := by
  have h2 : Ideal.ofBits FTy.f32 1073741824#32 = ((2 : ℝ) : EReal) := by
    simp [Ideal.ofBits, Ideal.ieee, -EReal.coe_mul, -EReal.coe_neg]; norm_num
  have h8 : Ideal.ofBits FTy.f32 1040187392#32 = ((1 / 8 : ℝ) : EReal) := by
    simp [Ideal.ofBits, Ideal.ieee, -EReal.coe_mul, -EReal.coe_neg]; norm_num
  rw [scale, h2, h8, Ideal.log_coe, if_neg (by norm_num), Ideal.div_coe log_two_pos.ne', ← EReal.coe_mul]

/-- An entry of the queries. -/
def qArg (c : Dev nD) (b : Fin 8) (r : Fin 2048) (l : Fin 256) : EReal := m ((c : Thread nD τ).loc main_arg0) (ix3 b r l)

/-- An entry of the keys. -/
def kArg (c : Dev nD) (b : Fin 8) (r : Fin 2048) (l : Fin 256) : EReal := m ((c : Thread nD τ).loc main_arg1) (ix3 b r l)

/-- An entry of the values. -/
def vArg (c : Dev nD) (b : Fin 8) (r : Fin 2048) (l : Fin 256) : EReal := m ((c : Thread nD τ).loc main_arg2) (ix3 b r l)

set_option maxHeartbeats 4000000 in
/-- The keys, unchanged. -/
theorem read2 (c : Dev nD) (t : Fin cfg0.N) (hb : t.val < 8) (r : Fin 2048) (l : Fin 256) : iblk m c 2 t (ix3 0 r l)
      = kArg m c ⟨t.val, hb⟩ r l := by
  blk_simp [iblk]
  unfold V
  simp only [hostOps0, hostOps0_1, hostOps0_2, hostOps0_3, hostOps0_4, hostOps0_5, hostOps0_6, hostOps0_7, hostOps0_8,
          hostOps0_9, hostOps0_10, List.flatten_cons, List.flatten_nil, List.cons_append, List.nil_append, List.append_nil]
  entry_read
  pointwise
  have e : ((View.whole main_v18).slice (win0_2.rect t)).emb (ix3 0 r l) = ix3 ⟨t.val, hb⟩ r l := by
    blk_ext! [(index_batch t).2.2.1]
  rw [e]
  rfl

set_option maxHeartbeats 4000000 in
/-- The queries, kept on the lanes of the even heads, scaled. -/
theorem read0 (c : Dev nD) (t : Fin cfg0.N) (hb : t.val < 8) (r : Fin 2048) (l : Fin 256) : (iblk m c 0 t (ix3 0 r l) : EReal)
      = if l.val % 128 < 64 then qArg m c ⟨t.val, hb⟩ r l * scale else 0 := by
  blk_simp [iblk]
  unfold V
  simp only [hostOps0, hostOps0_1, hostOps0_2, hostOps0_3, hostOps0_4, hostOps0_5, hostOps0_6, hostOps0_7, hostOps0_8,
          hostOps0_9, hostOps0_10, List.flatten_cons, List.flatten_nil, List.cons_append, List.nil_append, List.append_nil]
  entry_read
  simp only [StableHlo.TRef.ofBuf, StableHlo.TRef.toBuf, cast_eq, cast_cast]
  pointwise
  have e : ((View.whole main_v11).slice (win0_0.rect t)).emb (ix3 0 r l) = ix3 ⟨t.val, hb⟩ r l := by
    blk_ext! [(index_batch t).1]
  rw [e]
  show Scalar.select (mask l.val) _ _ = _
  rw [mask_eq]
  by_cases h : l.val % 128 < 64
  · rw [if_pos h, if_pos h]; rfl
  · rw [if_neg h, if_neg h]; rfl

set_option maxHeartbeats 4000000 in
/-- The queries, kept on the lanes of the odd heads, scaled. -/
theorem read1 (c : Dev nD) (t : Fin cfg0.N) (hb : t.val < 8) (r : Fin 2048) (l : Fin 256) : (iblk m c 1 t (ix3 0 r l) : EReal)
      = if l.val % 128 < 64 then 0 else qArg m c ⟨t.val, hb⟩ r l * scale := by
  blk_simp [iblk]
  unfold V
  simp only [hostOps0, hostOps0_1, hostOps0_2, hostOps0_3, hostOps0_4, hostOps0_5, hostOps0_6, hostOps0_7, hostOps0_8,
          hostOps0_9, hostOps0_10, List.flatten_cons, List.flatten_nil, List.cons_append, List.nil_append, List.append_nil]
  entry_read
  simp only [StableHlo.TRef.ofBuf, StableHlo.TRef.toBuf, cast_eq, cast_cast]
  pointwise
  have e : ((View.whole main_v13).slice (win0_1.rect t)).emb (ix3 0 r l) = ix3 ⟨t.val, hb⟩ r l := by
    blk_ext! [(index_batch t).2.1]
  rw [e]
  show Scalar.select (mask l.val) _ _ = _
  rw [mask_eq]
  by_cases h : l.val % 128 < 64
  · rw [if_pos h, if_pos h]; rfl
  · rw [if_neg h, if_neg h]; rfl

set_option maxHeartbeats 4000000 in
/-- The values, kept on the lanes of the even heads. -/
theorem read3 (c : Dev nD) (t : Fin cfg0.N) (hb : t.val < 8) (r : Fin 2048) (l : Fin 256) : (iblk m c 3 t (ix3 0 r l) : EReal)
      = if l.val % 128 < 64 then vArg m c ⟨t.val, hb⟩ r l else 0 := by
  blk_simp [iblk]
  unfold V
  simp only [hostOps0, hostOps0_1, hostOps0_2, hostOps0_3, hostOps0_4, hostOps0_5, hostOps0_6, hostOps0_7, hostOps0_8,
          hostOps0_9, hostOps0_10, List.flatten_cons, List.flatten_nil, List.cons_append, List.nil_append, List.append_nil]
  entry_read
  simp only [StableHlo.TRef.ofBuf, StableHlo.TRef.toBuf, cast_eq, cast_cast]
  pointwise
  have e : ((View.whole main_v15).slice (win0_3.rect t)).emb (ix3 0 r l) = ix3 ⟨t.val, hb⟩ r l := by
    blk_ext! [(index_batch t).2.2.2.1]
  rw [e]
  show Scalar.select (mask l.val) _ _ = _
  rw [mask_eq]
  by_cases h : l.val % 128 < 64
  · rw [if_pos h, if_pos h]; rfl
  · rw [if_neg h, if_neg h]; rfl

set_option maxHeartbeats 4000000 in
/-- The values, kept on the lanes of the odd heads. -/
theorem read4 (c : Dev nD) (t : Fin cfg0.N) (hb : t.val < 8) (r : Fin 2048) (l : Fin 256) : (iblk m c 4 t (ix3 0 r l) : EReal)
      = if l.val % 128 < 64 then 0 else vArg m c ⟨t.val, hb⟩ r l := by
  blk_simp [iblk]
  unfold V
  simp only [hostOps0, hostOps0_1, hostOps0_2, hostOps0_3, hostOps0_4, hostOps0_5, hostOps0_6, hostOps0_7, hostOps0_8,
          hostOps0_9, hostOps0_10, List.flatten_cons, List.flatten_nil, List.cons_append, List.nil_append, List.append_nil]
  entry_read
  simp only [StableHlo.TRef.ofBuf, StableHlo.TRef.toBuf, cast_eq, cast_cast]
  pointwise
  have e : ((View.whole main_v17).slice (win0_4.rect t)).emb (ix3 0 r l) = ix3 ⟨t.val, hb⟩ r l := by
    blk_ext! [(index_batch t).2.2.2.2.1]
  rw [e]
  show Scalar.select (mask l.val) _ _ = _
  rw [mask_eq]
  by_cases h : l.val % 128 < 64
  · rw [if_pos h, if_pos h]; rfl
  · rw [if_neg h, if_neg h]; rfl

end Cert.KernelIdeal.Sb

end
-- ==== Proof.SbHeads.lean ====
module
public import proofs.«01_k».proof.Proof.SbRun
/-! The heads in the stick-breaking attention kernel: two heads of 64 lanes are held in 128 lanes, the queries and values
    of each being zero on the other's lanes. So a sum over 128 lanes is the head's own sum over 64, and an output lane is
    the sum of weights times values of its own head. -/

@[expose] public section
set_option maxRecDepth 16384
noncomputable section
namespace Cert.KernelIdeal.Sb
open Cert.KernelIdeal Cert.KernelIdeal.Gen Idealize.ShloMosaic Finset

variable (x0 x1 x2 x3 x4 : Vec Ideal S1x2048x256 .bf16) (Q K V : Fin 2048 → Fin 256 → EReal)

/-- The score of key `s` for query `r` over the 64 lanes from `o`. -/
def headScore (o : ℕ) (ho : o + 64 ≤ 256) (r : Fin 2048) (s : ℕ) : EReal :=
  if hs : s < 2048 then (∑ d : Fin 64, Q r ⟨o + d.val, by omega⟩ * K ⟨s, hs⟩ ⟨o + d.val, by omega⟩) * ((1 / 8 : ℝ) : EReal) else 0

/-- What the kernel is given for one batch entry. -/
structure Given : Prop where
  q0 : ∀ (r : Fin 2048) (l : Fin 256), (x0 (ix3 0 r l) : EReal)
    = if l.val % 128 < 64 then Q r l * ((1 / 8 * (1 / Real.log 2) : ℝ) : EReal) else 0
  q1 : ∀ (r : Fin 2048) (l : Fin 256), (x1 (ix3 0 r l) : EReal)
    = if l.val % 128 < 64 then 0 else Q r l * ((1 / 8 * (1 / Real.log 2) : ℝ) : EReal)
  k : ∀ (s : Fin 2048) (l : Fin 256), (x2 (ix3 0 s l) : EReal) = K s l
  v0 : ∀ (s : Fin 2048) (l : Fin 256), (x3 (ix3 0 s l) : EReal) = if l.val % 128 < 64 then V s l else 0
  v1 : ∀ (s : Fin 2048) (l : Fin 256), (x4 (ix3 0 s l) : EReal) = if l.val % 128 < 64 then 0 else V s l

/-- A sum over 128 lanes is the sum over the first 64 and that over the last 64. -/
theorem sum_lanes (f : Fin 128 → EReal) :
    ∑ l, f l = (∑ d : Fin 64, f ⟨d.val, by omega⟩) + ∑ d : Fin 64, f ⟨64 + d.val, by omega⟩ :=
  Fin.sum_univ_add (a := 64) (b := 64) f

/-- Products with a scaled factor, as the kernel forms them, summed over 64 lanes. -/
theorem sum_scaled (f g : Fin 64 → EReal) :
    ∑ d : Fin 64, f d * ((1 / 8 * (1 / Real.log 2) : ℝ) : EReal) * g d
      = (∑ d : Fin 64, f d * g d) * ((1 / 8 : ℝ) : EReal) * perLog := by
  have h : (0 : ℝ) < Real.log 2 := Real.log_pos (by norm_num)
  simp only [mul_right_comm _ _ (g _)]
  rw [sum_mul_factor _ _ (EReal.coe_nonneg.mpr (by positivity)) (EReal.coe_ne_top _), EReal.coe_mul, ← mul_assoc]
  rfl

variable {x0 x1 x2 x3 x4 Q K V}

/-- The scores of the even head of the pair of heads from lane `p`. -/
theorem scored_even (g : Given x0 x1 x2 x3 x4 Q K V) (p : ℕ) (hp : p + 128 ≤ 256) (h0 : p % 128 = 0) :
    Scored x0 x2 p hp (fun r s => headScore Q K p (by omega) r s * perLog) := by
  intro b hb r j
  unfold scores
  rw [sum_lanes]
  simp only [g.q0, g.k]
  have hlo : ∀ d : Fin 64, (p + d.val) % 128 < 64 := fun d => by omega
  have hhi : ∀ d : Fin 64, ¬ (p + (64 + d.val)) % 128 < 64 := fun d => by omega
  simp only [hlo, hhi, if_true, if_false, zero_mul, sum_const_zero, add_zero]
  refine (sum_scaled (fun d => Q r ⟨p + d.val, by omega⟩) (fun d => K ⟨b + j.val, by omega⟩ ⟨p + d.val, by omega⟩)).trans ?_
  rw [headScore, dif_pos (by have := j.isLt; omega)]

/-- The scores of the odd head of the pair of heads from lane `p`. -/
theorem scored_odd (g : Given x0 x1 x2 x3 x4 Q K V) (p : ℕ) (hp : p + 128 ≤ 256) (h0 : p % 128 = 0) :
    Scored x1 x2 p hp (fun r s => headScore Q K (p + 64) (by omega) r s * perLog) := by
  intro b hb r j
  unfold scores
  rw [sum_lanes]
  simp only [g.q1, g.k]
  have hlo : ∀ d : Fin 64, (p + d.val) % 128 < 64 := fun d => by omega
  have hhi : ∀ d : Fin 64, ¬ (p + (64 + d.val)) % 128 < 64 := fun d => by omega
  simp only [hlo, hhi, if_true, if_false, zero_mul, sum_const_zero, zero_add]
  refine Eq.trans ?_ ((sum_scaled (fun d => Q r ⟨p + 64 + d.val, by omega⟩)
    (fun d => K ⟨b + j.val, by omega⟩ ⟨p + 64 + d.val, by omega⟩)).trans ?_)
  · exact sum_congr rfl fun d _ => by simp only [Nat.add_assoc]
  · rw [headScore, dif_pos (by have := j.isLt; omega)]

/-- What one lane of the output is: its own head's weights times its values. -/
def headOut (o : ℕ) (ho : o + 64 ≤ 256) (r : Fin 2048) (l : Fin 256) : EReal :=
  ∑ s : Fin 2048, V s l * share (fun w => headScore Q K o ho r w * perLog) r s.val

/-- A sum over keys from zero, against the values of an input equal to `V` at the lane. -/
theorem sum_own (x : Vec Ideal S1x2048x256 .bf16) (W : ℕ → EReal) (p : ℕ) (hp : p + 128 ≤ 256) (l : Fin 128)
    (hx : ∀ s : Fin 2048, (x (ix3 0 s ⟨p + l.val, by omega⟩) : EReal) = V s ⟨p + l.val, by omega⟩) :
    ∑ s ∈ Ico 0 2048, W s * value x p hp l s = ∑ s : Fin 2048, V s ⟨p + l.val, by omega⟩ * W s.val := by
  rw [← range_eq_Ico, ← Fin.sum_univ_eq_sum_range]
  refine sum_congr rfl fun s _ => ?_
  rw [value, dif_pos s.isLt, mul_comm, hx]

/-- A sum over keys against the values of an input that is zero at the lane. -/
theorem sum_other (x : Vec Ideal S1x2048x256 .bf16) (W : ℕ → EReal) (p : ℕ) (hp : p + 128 ≤ 256) (l : Fin 128)
    (hx : ∀ s : Fin 2048, (x (ix3 0 s ⟨p + l.val, by omega⟩) : EReal) = 0) :
    ∑ s ∈ Ico 0 2048, W s * value x p hp l s = 0 := by
  refine sum_eq_zero fun s _ => ?_
  unfold value
  split
  · rw [hx, mul_zero]
  · rw [mul_zero]

/-- One lane of a finished accumulator. -/
theorem done_lane (g : Given x0 x1 x2 x3 x4 Q K V) (p : ℕ) (hp : p + 128 ≤ 256) (h0 : p % 128 = 0)
    {c1 c2 : FVec Ideal S2048x1 .f32} {a : FVec Ideal S2048x128 .f32}
    (h : Done x3 x4 p hp (fun r s => headScore Q K p (by omega) r s * perLog)
      (fun r s => headScore Q K (p + 64) (by omega) r s * perLog) 0 c1 c2 a) (r : Fin 2048) (l : Fin 128) :
    (a (ix2 r l) : EReal) = headOut (Q := Q) (K := K) (V := V) (64 * ((p + l.val) / 64)) (by have := l.isLt; omega) r ⟨p + l.val, by omega⟩ := by
  rw [h.acc]
  by_cases hl : l.val < 64
  · rw [sum_other x4 _ p hp l fun s => by rw [g.v1, if_pos (show (p + l.val) % 128 < 64 by omega)], add_zero,
      sum_own (V := V) x3 _ p hp l fun s => by rw [g.v0, if_pos (show (p + l.val) % 128 < 64 by omega)]]
    have e : 64 * ((p + l.val) / 64) = p := by omega
    simp only [headOut, e]
  · rw [sum_other x3 _ p hp l fun s => by rw [g.v0, if_neg (show ¬ (p + l.val) % 128 < 64 by omega)], zero_add,
      sum_own (V := V) x4 _ p hp l fun s => by rw [g.v1, if_neg (show ¬ (p + l.val) % 128 < 64 by omega)]]
    have e : 64 * ((p + l.val) / 64) = p + 64 := by omega
    simp only [headOut, e]

variable (c : Dev nD) (i : grid0.Coords)
  (arg2 : Memref sig .tc .vmem S1x2048x256 .bf16) (harg2 : arg2.IsWhole) (arg3 : Memref sig .tc .vmem S1x2048x256 .bf16) (harg3 : arg3.IsWhole)
  (arg4 : Memref sig .tc .vmem S1x2048x256 .bf16) (harg4 : arg4.IsWhole) (arg5 : Memref sig .tc .vmem S1x2048x256 .bf16) (harg5 : arg5.IsWhole)
  (arg6 : Memref sig .tc .vmem S1x2048x256 .bf16) (harg6 : arg6.IsWhole) (arg7 : Memref sig .tc .vmem S1x2048x256 .bf16) (harg7 : arg7.IsWhole)

/-- The block the kernel stores. -/
theorem out_eq (g : Given x0 x1 x2 x3 x4 Q K V) (r : Fin 2048) (l : Fin 256) :
    (out0_A_5 (F := Ideal) c i arg2 harg2 arg3 harg3 arg4 harg4 arg5 harg5 arg6 harg6 arg7 harg7 x0 x1 x2 x3 x4 (ix3 0 r l) : EReal)
      = headOut (Q := Q) (K := K) (V := V) (64 * (l.val / 64)) (by have := l.isLt; omega) r l := by
  by_cases hl : l.val < 128
  · refine (out_low c i arg2 harg2 arg3 harg3 arg4 harg4 arg5 harg5 arg6 harg6 arg7 harg7 x0 x1 x2 x3 x4 r ⟨l.val, hl⟩).trans ?_
    refine (done_lane g 0 (by decide) (by decide) (done_low c i arg2 harg2 arg3 harg3 arg4 harg4 arg5 harg5 arg6 harg6 x0 x1 x2 x3 x4
      (scored_even g 0 (by decide) (by decide)) (scored_odd g 0 (by decide) (by decide))) r ⟨l.val, hl⟩).trans ?_
    simp only [Nat.zero_add]
  · have e : l = ⟨128 + (l.val - 128), by have := l.isLt; omega⟩ := Fin.ext (by show l.val = 128 + (l.val - 128); omega)
    refine (congrArg (fun l : Fin 256 => (out0_A_5 (F := Ideal) c i arg2 harg2 arg3 harg3 arg4 harg4 arg5 harg5 arg6 harg6 arg7 harg7
      x0 x1 x2 x3 x4 (ix3 0 r l) : EReal)) e).trans ?_
    refine (out_high c i arg2 harg2 arg3 harg3 arg4 harg4 arg5 harg5 arg6 harg6 arg7 harg7 x0 x1 x2 x3 x4 r
      ⟨l.val - 128, by have := l.isLt; omega⟩).trans ?_
    refine (done_lane g 128 (by decide) (by decide) (done_high c i arg2 harg2 arg3 harg3 arg4 harg4 arg5 harg5 arg6 harg6 x0 x1 x2 x3 x4
      (scored_even g 128 (by decide) (by decide)) (scored_odd g 128 (by decide) (by decide))) r ⟨l.val - 128, by have := l.isLt; omega⟩).trans ?_
    have e' : 128 + (l.val - 128) = l.val := by omega
    simp only [e', Fin.eta]

end Cert.KernelIdeal.Sb

end
-- ==== Proof.SbRefOut.lean ====
module
public import proofs.«01_k».proof.Proof.SbRef
public import proofs.«01_k».proof.Proof.SbHeads
/-! The reference's result of stick-breaking attention: each lane is its head's weights times the values. -/

@[expose] public section

set_option maxRecDepth 16384

noncomputable section

namespace Cert.KernelIdeal.Sb

open Cert.ReferenceIdeal Cert.ReferenceIdeal.Gen Cert.ReferenceIdeal.Read Idealize.ShloMosaic Finset

/-- The reference's scores. -/
theorem ref_score (x0 x1 : (⟨S8x2048x256, .f32⟩ : BufTy).Contents (Elt Ideal)) (b : Fin 8) (Q K : Fin 2048 → Fin 256 → EReal)
    (hQ : ∀ r l, (x0 (ix3 b r l) : EReal) = Q r l) (hK : ∀ r l, (x1 (ix3 b r l) : EReal) = K r l)
    (h : Fin 4) (r w : Fin 2048) : (val_main_v5 (F := Ideal) x0 x1 (ix4 b h r w) : EReal)
      = headScore Q K (64 * h.val) (by omega) r w.val := by
  pointwise [val_main_v5, val_main_v4, val_main_cst, val_main_v3, val_main_v0, val_main_v1]
  have h8 : Ideal.ofBits FTy.f32 1040187392#32 = ((1 / 8 : ℝ) : EReal) := by
    simp [Ideal.ofBits, Ideal.ieee, -EReal.coe_mul, -EReal.coe_neg]; norm_num
  rw [h8, headScore, dif_pos w.isLt]
  refine congrArg (· * _) (sum_congr rfl fun d _ => ?_)
  rw [← hQ, ← hK]
  simp only [Nat.mul_comm h.val 64, Fin.eta]

/-- The reference's result. -/
theorem ref_result (x0 x1 x2 : (⟨S8x2048x256, .f32⟩ : BufTy).Contents (Elt Ideal)) (b : Fin 8) (Q K : Fin 2048 → Fin 256 → EReal)
    (hQ : ∀ r l, (x0 (ix3 b r l) : EReal) = Q r l) (hK : ∀ r l, (x1 (ix3 b r l) : EReal) = K r l)
    (r : Fin 2048) (l : Fin 256) : (val_main_v25 (F := Ideal) x0 x1 x2 (ix3 b r l) : EReal)
      = headOut (Q := Q) (K := K) (V := fun s l => (x2 (ix3 b s l) : EReal)) (64 * (l.val / 64)) (by omega) r l := by
  pointwise [val_main_v25, val_main_v24, val_main_v23, val_main_v22, val_main_v2]
  unfold headOut
  exact sum_congr rfl fun s _ => congrArg (x2 (ix3 b s l) * ·) (ref_weight x0 x1 b ⟨l.val / 64, by omega⟩ r s _
    (ref_score x0 x1 b Q K hQ hK ⟨l.val / 64, by omega⟩ r))

end Cert.KernelIdeal.Sb

end
-- ==== Proof.SbFinal.lean ====
module

public import proofs.«01_k».proof.Proof.SbReads
public import proofs.«01_k».proof.Proof.SbHeads
public import proofs.«01_k».proof.Proof.SbRefOut

/-! The stick-breaking attention call and its reference end with equal results. -/

@[expose] public section

set_option maxRecDepth 16384

noncomputable section

namespace Cert.KernelIdeal.Sb

open Cert.KernelIdeal Cert.KernelIdeal.Gen Idealize.ShloMosaic.StableHlo Idealize.ShloMosaic Idealize.ShloMosaic.TcCoe Idealize.SL.Sem
  Finset Cert.KernelIdeal.Value

variable (m : (ℓ : Loc nD τ sig) → Buf (Elt Ideal) ℓ)

/-- What the kernel is given at grid point `t`. -/
theorem given (c : Dev nD) (t : Fin cfg0.N) (hb : t.val < 8) :
    Given (iblk m c 0 t) (iblk m c 1 t) (iblk m c 2 t) (iblk m c 3 t) (iblk m c 4 t)
      (fun r l => qArg m c ⟨t.val, hb⟩ r l) (fun r l => kArg m c ⟨t.val, hb⟩ r l) (fun s l => vArg m c ⟨t.val, hb⟩ s l) where
  q0 r l := by
    rw [← scale_eq]
    exact read0 m c t hb r l
  q1 r l := by
    rw [← scale_eq]
    exact read1 m c t hb r l
  k s l := read2 m c t hb s l
  v0 s l := read3 m c t hb s l
  v1 s l := read4 m c t hb s l

/-- The kernel's result array is the reference's. -/
theorem arr5 (c : Dev nD) : (dats m 0 c).arrAt 5 cfg0.N
    = Cert.ReferenceIdeal.Read.val_main_v25 (F := Ideal) (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp
  rw [after0_5, outsAt0]
  idx_vars y
  have hb : t.val < 8 := t.isLt
  have e : ((View.whole main_v19).slice (win0_5.rect t)).emb (ix3 y0 y1 y2) = ix3 ⟨t.val, hb⟩ y1 y2 := by
    blk_ext! [(index_batch t).2.2.2.2.2]
  rw [e, Subsingleton.elim y0 0]
  exact (out_eq c _ _ _ _ _ _ _ _ _ _ _ _ _ (given m c t hb) y1 y2).trans (ref_result _ _ _ ⟨t.val, hb⟩ _ _
    (fun _ _ => rfl) (fun _ _ => rfl) y1 y2).symm

/-- The kernel and the reference of the attention end with equal results, over the extended reals. -/
theorem sb_algebraic : @Cert.algebraic_KernelIdeal_ReferenceIdeal Cert.KernelIdeal.Gen.facts Cert.ReferenceIdeal.Gen.facts := by
  intro m ρ m' ρ' _ hargs
  refine ⟨fun c => (dats m 0 c).arrAt 5 cfg0.N, run_blocks m ρ, ?_⟩
  refine (θ_run Cert.ReferenceIdeal.defs _ _).mono (fun r h c => ⟨(h c).1.trans ?_, (h c).2⟩) (Cert.ReferenceIdeal.Value.run m' ρ')
  obtain ⟨h0, h1, h2⟩ := hargs c
  refine (Cert.ReferenceIdeal.Read.val_main_v25_eq m' c).trans (Eq.trans ?_ (arr5 m c).symm)
  rw [h0, h1, h2]

end Cert.KernelIdeal.Sb

end
-- ==== Proof.Tables.lean ====
/- The tables of cosines and sines: the kernel and its reference compute the same entries. -/
module

public import proofs.«01_k».proof.Defs
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Reference4Ideal.Read

open Cert.Reference4Ideal Cert.Reference4Ideal.Gen Idealize.ShloMosaic.StableHlo Idealize.ShloMosaic Idealize.ShloMosaic.TcCoe Idealize.SL.Sem

/-- The rotation's frequency in each of the 16 lanes of a half. -/
abbrev freq (l : Fin 16) : EReal := val_main_v5 (F := Ideal) (ix1 l)

/-- An entry of the reference's cosines. -/
theorem cos_entry (x : (⟨S8x2048, .i32⟩ : BufTy).Contents (Elt Ideal)) (R : Fin 16384) (l : Fin 16) (hb : R.val / 2048 < 8) (hr : R.val % 2048 < 2048) :
    val_main_v13 (F := Ideal) x (ix2 R l)
      = Ideal.cos ((((x (ix2 ⟨R.val / 2048, hb⟩ ⟨R.val % 2048, hr⟩)).toInt : ℝ) : EReal) * freq l) := by
  pointwise [val_main_v13, val_main_v12, val_main_v11, val_main_v10, val_main_v9, val_main_v8, val_main_v7, val_main_v6]
  rfl

/-- An entry of the reference's sines. -/
theorem sin_entry (x : (⟨S8x2048, .i32⟩ : BufTy).Contents (Elt Ideal)) (R : Fin 16384) (l : Fin 16) (hb : R.val / 2048 < 8) (hr : R.val % 2048 < 2048) :
    val_main_v15 (F := Ideal) x (ix2 R l)
      = Ideal.sin ((((x (ix2 ⟨R.val / 2048, hb⟩ ⟨R.val % 2048, hr⟩)).toInt : ℝ) : EReal) * freq l) := by
  pointwise [val_main_v15, val_main_v14, val_main_v11, val_main_v10, val_main_v9, val_main_v8, val_main_v7, val_main_v6]
  rfl

/-- An entry of the reference's table of cosines. -/
theorem cos_table (x : (⟨S8x2048, .i32⟩ : BufTy).Contents (Elt Ideal)) (R : Fin 16384) (l : Fin 128) :
    val_main_v18 (F := Ideal) x (ix2 R l)
      = if l.val < 64 then 1 else if h : l.val - 64 < 16 then val_main_v13 (F := Ideal) x (ix2 R ⟨l.val - 64, h⟩)
        else if h : l.val - 64 - 16 < 16 then val_main_v13 (F := Ideal) x (ix2 R ⟨l.val - 64 - 16, h⟩) else 1 := by
  pointwise [val_main_v18, val_main_v17, val_main_v16, val_main_cst_1, val_main_cst_2]
  rfl

/-- An entry of the reference's table of sines. -/
theorem sin_table (x : (⟨S8x2048, .i32⟩ : BufTy).Contents (Elt Ideal)) (R : Fin 16384) (l : Fin 128) :
    val_main_v22 (F := Ideal) x (ix2 R l)
      = if l.val < 64 then 0 else if h : l.val - 64 < 16 then -val_main_v15 (F := Ideal) x (ix2 R ⟨l.val - 64, h⟩)
        else if h : l.val - 64 - 16 < 16 then val_main_v15 (F := Ideal) x (ix2 R ⟨l.val - 64 - 16, h⟩) else 0 := by
  pointwise [val_main_v22, val_main_v21, val_main_v20, val_main_v19, val_main_cst_3, val_main_cst_4]
  rfl

end Cert.Reference4Ideal.Read

namespace Cert.Kernel4Ideal.Value

open Cert.Kernel4Ideal Cert.Kernel4Ideal.Gen Idealize.ShloMosaic.StableHlo Idealize.ShloMosaic Idealize.ShloMosaic.TcCoe Idealize.SL.Sem

variable (m : (ℓ : Loc nD τ sig) → Buf (Elt Ideal) ℓ) (ρ : Dev nD → PrngReg)

/-- The run leaves its two arrays as the grid's points wrote them, and the positions as they were. -/
theorem run_blocks : θ_run defs (onTc (τ := τ) (main (F := Ideal))) ⟨m, fun _ => 0, ρ⟩ fun r => ∀ c : Dev nD,
      r.2.mem ((c : Thread nD τ).loc main_v18_0) = (dats m 0 c).arrAt 3 cfg0.N
      ∧ r.2.mem ((c : Thread nD τ).loc main_v18_1) = (dats m 0 c).arrAt 4 cfg0.N
      ∧ r.2.mem ((c : Thread nD τ).loc main_arg0) = m ((c : Thread nD τ).loc main_arg0) :=
  (θ_run defs _ _).mono (fun r h c => ⟨(h c).1 3, (h c).1 4,
      ((h c).2 main_arg0 (Pipeline.mem_restRefs_of main_arg0 (by decide) (by decide))).trans (V_main_arg0 m c)⟩)
    (run_main m ρ)

/-- The blocks at grid point `t`. -/
theorem index_rows : ∀ t : Fin grid0.N, win0_0.index t = ![t.val, 0] ∧ win0_1.index t = ![0, 0] ∧ win0_2.index t = ![0, 0]
    ∧ win0_3.index t = ![t.val, 0] ∧ win0_4.index t = ![t.val, 0] := by decide +kernel

/-- A position as the kernel is given it. -/
theorem read0 (c : Dev nD) (t : Fin cfg0.N) (r : Fin 2048) (hb : t.val < 8) : iblk m c 0 t (ix2 r 0)
      = m ((c : Thread nD τ).loc main_arg0) (ix2 ⟨t.val, hb⟩ r) := by
  blk_simp [iblk]
  entry_read
  pointwise
  blk_ext! [(index_rows t).1]

/-- A lane's frequency as the kernel is given it. -/
theorem read1 (c : Dev nD) (t : Fin cfg0.N) (l : Fin 128) : iblk m c 1 t (ix2 0 l)
      = if l.val < 64 then 0 else if h : l.val - 64 < 16 then Cert.Reference4Ideal.Read.freq ⟨l.val - 64, h⟩
        else if h : l.val - 64 - 16 < 16 then Cert.Reference4Ideal.Read.freq ⟨l.val - 64 - 16, h⟩ else (0 : EReal) := by
  have e : (win0_1.blk t).view.emb (ix2 0 l) = ix2 0 l := by blk_ext! [(index_rows t).2.1]
  blk_simp [iblk]
  rw [e]
  unfold V
  simp only [hostOps0, List.flatten_cons, List.flatten_nil, List.append_nil, after_cons, after_nil]
  after_results_simp
  pointwise
  after_results_simp
  pointwise
  rfl

/-- A lane's sign as the kernel is given it. -/
theorem read2 (c : Dev nD) (t : Fin cfg0.N) (l : Fin 128) : iblk m c 2 t (ix2 0 l)
      = if l.val < 64 then 0 else if l.val - 64 < 16 then -1 else if l.val - 64 - 16 < 16 then 1 else (0 : EReal) := by
  have e : (win0_2.blk t).view.emb (ix2 0 l) = ix2 0 l := by blk_ext! [(index_rows t).2.2.1]
  blk_simp [iblk]
  rw [e]
  unfold V
  simp only [hostOps0, List.flatten_cons, List.flatten_nil, List.append_nil, after_cons, after_nil]
  after_results_simp
  pointwise
  after_results_simp
  pointwise
  rfl

variable (x0 : Vec Ideal S2048x1 .i32) (x1 : Vec Ideal S1x128 .f32) (x2 : Vec Ideal S1x128 .f32)

/-- An entry of the block of cosines. -/
theorem out3_entry (r : Fin 2048) (l : Fin 128) : out0_3 (F := Ideal) x0 x1 x2 (ix2 r l)
      = Ideal.cos ((((x0 (ix2 r 0)).toInt : ℝ) : EReal) * x1 (ix2 0 l)) := by
  frame_out
  pointwise [k0_pay2, k0_pay1]
  rfl

/-- An entry of the block of sines. -/
theorem out4_entry (r : Fin 2048) (l : Fin 128) : out0_4 (F := Ideal) x0 x1 x2 (ix2 r l)
      = Ideal.sin ((((x0 (ix2 r 0)).toInt : ℝ) : EReal) * x1 (ix2 0 l)) * x2 (ix2 0 l) := by
  frame_out
  pointwise [k0_pay3, k0_pay1]
  rfl

/-- The cosine of no angle. -/
theorem cos_none : Ideal.cos 0 = 1 := by
  rw [← EReal.coe_zero, Ideal.cos_coe, Real.cos_zero, EReal.coe_one]

/-- The kernel's table of cosines: the reference's term at the launch memory's positions. -/
theorem arr3 (c : Dev nD) : (dats m 0 c).arrAt 3 cfg0.N
    = Cert.Reference4Ideal.Read.val_main_v18 (F := Ideal) (m ((c : Thread nD τ).loc main_arg0)) := by
  refine (dats m 0 c).arrAt_eq_of_covers 3 _ (by decide +kernel) fun t hf y => ?_
  blk_simp
  rw [after0_3]
  idx_vars y
  have ht : t.val < 8 := t.isLt
  have hb : (t.val * 2048 + y0.val) / 2048 < 8 := by omega
  have hr : (t.val * 2048 + y0.val) % 2048 < 2048 := by omega
  have e : ((View.whole main_v18_0).slice (win0_3.rect t)).emb (ix2 y0 y1) = ix2 ⟨t.val * 2048 + y0.val, by omega⟩ y1 := by
    blk_ext! [(index_rows t).2.2.2.1]
  have eb : (⟨(t.val * 2048 + y0.val) / 2048, hb⟩ : Fin 8) = ⟨t.val, ht⟩ := Fin.ext (by show _ / 2048 = t.val; omega)
  have er : (⟨(t.val * 2048 + y0.val) % 2048, hr⟩ : Fin 2048) = y0 := Fin.ext (by show _ % 2048 = y0.val; omega)
  rw [e, out3_entry, Cert.Reference4Ideal.Read.cos_table, read0 m c t y0 ht, read1]
  simp only [Cert.Reference4Ideal.Read.cos_entry _ ⟨t.val * 2048 + y0.val, by omega⟩ _ hb hr, eb, er]
  split_ifs
  · rw [mul_zero, cos_none]
  · rfl
  · rfl
  · rw [mul_zero, cos_none]

/-- The kernel's table of sines: the reference's term at the launch memory's positions. -/
theorem arr4 (c : Dev nD) : (dats m 0 c).arrAt 4 cfg0.N
    = Cert.Reference4Ideal.Read.val_main_v22 (F := Ideal) (m ((c : Thread nD τ).loc main_arg0)) := by
  refine (dats m 0 c).arrAt_eq_of_covers 4 _ (by decide +kernel) fun t hf y => ?_
  blk_simp
  rw [after0_4]
  idx_vars y
  have ht : t.val < 8 := t.isLt
  have hb : (t.val * 2048 + y0.val) / 2048 < 8 := by omega
  have hr : (t.val * 2048 + y0.val) % 2048 < 2048 := by omega
  have e : ((View.whole main_v18_1).slice (win0_4.rect t)).emb (ix2 y0 y1) = ix2 ⟨t.val * 2048 + y0.val, by omega⟩ y1 := by
    blk_ext! [(index_rows t).2.2.2.2]
  have eb : (⟨(t.val * 2048 + y0.val) / 2048, hb⟩ : Fin 8) = ⟨t.val, ht⟩ := Fin.ext (by show _ / 2048 = t.val; omega)
  have er : (⟨(t.val * 2048 + y0.val) % 2048, hr⟩ : Fin 2048) = y0 := Fin.ext (by show _ % 2048 = y0.val; omega)
  rw [e, out4_entry, Cert.Reference4Ideal.Read.sin_table, read0 m c t y0 ht, read1, read2]
  simp only [Cert.Reference4Ideal.Read.sin_entry _ ⟨t.val * 2048 + y0.val, by omega⟩ _ hb hr, eb, er]
  split_ifs
  · rw [mul_zero]
  · rw [mul_neg, mul_one]
  · rw [mul_one]
  · rw [mul_zero]

/-- The kernel of the tables and its reference end with equal results, over the extended reals. -/
theorem tables_algebraic : Cert.algebraic_Kernel4Ideal_Reference4Ideal := by
  intro m ρ m' ρ' _ hargs
  refine ⟨fun c => (dats m 0 c).arrAt 3 cfg0.N, fun c => (dats m 0 c).arrAt 4 cfg0.N, run_blocks m ρ, ?_⟩
  refine (θ_run Cert.Reference4Ideal.defs _ _).mono (fun r h c => ⟨(h c).1.trans ?_, (h c).2.1.trans ?_, (h c).2.2⟩)
    (Cert.Reference4Ideal.Value.run m' ρ')
  · refine (Cert.Reference4Ideal.Read.val_main_v18_eq _).trans (Eq.trans ?_ (arr3 m c).symm)
    rw [← hargs c]
  · refine (Cert.Reference4Ideal.Read.val_main_v22_eq _).trans (Eq.trans ?_ (arr4 m c).symm)
    rw [← hargs c]

end Cert.Kernel4Ideal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.PostFinal
public import proofs.«01_k».proof.Proof.PreBits
public import proofs.«01_k».proof.Proof.PreFinal
public import proofs.«01_k».proof.Proof.SbFinal
public import proofs.«01_k».proof.Proof.Tables
public import Idealize.ShloMosaic.Adequacy
public import Idealize.ShloMosaic.Init

@[expose] public section

noncomputable section

namespace Cert.Proof

open Idealize.ShloMosaic Idealize.SL.Sem

/-- The attention's reference ends with its arguments unchanged; it declares no semaphore. -/
theorem frame_attention_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The last part's reference ends with its arguments unchanged; it declares no semaphore. -/
theorem frame_post_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The first part's reference ends with its arguments unchanged; it declares no semaphore. -/
theorem frame_pre_reference : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run m ρ)

/-- The tables' reference ends with its arguments unchanged; it declares no semaphore. -/
theorem frame_tables_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

/-- The certificate's claims, one after the other. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ, fun m ρ _ => Cert.KernelIdeal.Gen.frame m ρ,
  frame_attention_reference,
  fun m ρ _ => Cert.Kernel2.Gen.frame m ρ, fun m ρ _ => Cert.Kernel2Ideal.Gen.frame m ρ, frame_post_reference,
  Cert.Kernel3.Gen.frame, fun m ρ _ => Cert.Kernel3Ideal.Gen.frame m ρ, frame_pre_reference,
  fun m ρ _ => Cert.Kernel4.Gen.frame m ρ, fun m ρ _ => Cert.Kernel4Ideal.Gen.frame m ρ, frame_tables_reference,
  IdealRules.named_const.statement Cert.KernelIdeal.κ "inv_ln2" .f32 0x3FB8AA3B#32 _ rfl,
  Cert.KernelIdeal.Sb.sb_algebraic, trivial, Cert.Kernel2Ideal.Value.post_algebraic,
  trivial, Cert.Kernel3Ideal.Value.pre_algebraic,
  trivial, Cert.Kernel4Ideal.Value.tables_algebraic⟩

end Cert.Proof

end
